-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 1024]⟩ ⟨2, ![4096, 8192]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v12) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x1024 : Shape := ⟨2, ![4096, 1024]⟩
abbrev S3x4x128x4096 : Shape := ⟨4, ![3, 4, 128, 4096]⟩
abbrev S4x128x4096 : Shape := ⟨3, ![4, 128, 4096]⟩
abbrev S2x256x1024 : Shape := ⟨3, ![2, 256, 1024]⟩
abbrev S8x128 : Shape := ⟨2, ![8, 128]⟩
abbrev S3x4 : Shape := ⟨2, ![3, 4]⟩
abbrev S4 : Shape := ⟨1, ![4]⟩
abbrev S7 : Shape := ⟨1, ![7]⟩
abbrev S2 : Shape := ⟨1, ![2]⟩
abbrev S8 : Shape := ⟨1, ![8]⟩
abbrev S_ : Shape := ⟨0, ![]⟩
abbrev S1x1 : Shape := ⟨2, ![1, 1]⟩
abbrev S1x1x128x4096 : Shape := ⟨4, ![1, 1, 128, 4096]⟩
abbrev S128x4096 : Shape := ⟨2, ![128, 4096]⟩
abbrev S1 : Shape := ⟨1, ![1]⟩
abbrev S1x256x1024 : Shape := ⟨3, ![1, 256, 1024]⟩
abbrev S256x1024 : Shape := ⟨2, ![256, 1024]⟩
abbrev S512x1024 : Shape := ⟨2, ![512, 1024]⟩
abbrev S1x512x1024 : Shape := ⟨3, ![1, 512, 1024]⟩
abbrev S1x1x1 : Shape := ⟨3, ![1, 1, 1]⟩
abbrev S1x128x4096 : Shape := ⟨3, ![1, 128, 4096]⟩
abbrev S128x1024 : Shape := ⟨2, ![128, 1024]⟩
abbrev S1x128x1024 : Shape := ⟨3, ![1, 128, 1024]⟩
abbrev S1x128 : Shape := ⟨2, ![1, 128]⟩
abbrev S1x8x128 : Shape := ⟨3, ![1, 8, 128]⟩

abbrev nBuf : Space → Nat
  | .hbm => 3
  | .vmem => 8
  | .smem => 0
  | _ => 0

abbrev bufTy : (tb : Table) → Fin (tcTables nBuf tb) → BufTy
  | .hbm, ⟨0, _⟩ => ⟨S512x4096, .bf16⟩
  | .hbm, ⟨1, _⟩ => ⟨S4096x1024, .f32⟩
  | .hbm, ⟨2, _⟩ => ⟨S4096x1024, .f32⟩
  | .local _ .vmem, ⟨0, _⟩ => ⟨S512x4096, .bf16⟩
  | .local _ .vmem, ⟨1, _⟩ => ⟨S3x4x128x4096, .bf16⟩
  | .local _ .vmem, ⟨2, _⟩ => ⟨S3x4x128x4096, .bf16⟩
  | .local _ .vmem, ⟨3, _⟩ => ⟨S4x128x4096, .bf16⟩
  | .local _ .vmem, ⟨4, _⟩ => ⟨S4096x1024, .bf16⟩
  | .local _ .vmem, ⟨5, _⟩ => ⟨S2x256x1024, .f32⟩
  | .local _ .vmem, ⟨6, _⟩ => ⟨S4096x1024, .f32⟩
  | .local _ .vmem, ⟨7, _⟩ => ⟨S8x128, .f32⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 81 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | _ => false

abbrev sig : RefSig :=
  (ofTc nBuf bufTy 1 81 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_13 : BitVec 32 := 1#32
  let v26 : BitVec 32 := Scalar.muli v16 c1_i32_13
  let v27 : BitVec 32 := Scalar.addi c0_i32_14 v26
  v27.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_16 : BitVec 32 := 1#32
  let v28 : BitVec 32 := Scalar.muli v10 c1_i32_16
  let v29 : BitVec 32 := Scalar.addi c0_i32_17 v28
  v29.toNat
def k0_dev3 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v17 : BitVec 32 := Scalar.remsi v5 c2_i32
  let c0_i32 : BitVec 32 := 0#32
  let v18 : BitVec 1 := Scalar.cmpi .eq v17 c0_i32
  let c3_i32 : BitVec 32 := 3#32
  let c5_i32 : BitVec 32 := 5#32
  let v19 : BitVec 32 := Scalar.select v18 c3_i32 c5_i32
  let v20 : BitVec 32 := Scalar.addi v5 v19
  let c8_i32_9 : BitVec 32 := 8#32
  let v21 : BitVec 32 := Scalar.remsi v20 c8_i32_9
  let c4_i32_10 : BitVec 32 := 4#32
  let v22 : BitVec 1 := Scalar.cmpi .slt v21 c4_i32_10
  let c11_i32_11 : BitVec 32 := 11#32
  let v23 : BitVec 32 := Scalar.subi c11_i32_11 v21
  let v24 : BitVec 32 := Scalar.select v22 v21 v23
  let c1_i32_19 : BitVec 32 := 1#32
  let v30 : BitVec 32 := Scalar.muli v24 c1_i32_19
  let v31 : BitVec 32 := Scalar.addi c0_i32_20 v30
  v31.toNat
def k0_dev4 (d0 : Dev nD) : Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_28 : BitVec 32 := 1#32
  let v32 : BitVec 32 := Scalar.muli v10 c1_i32_28
  let v33 : BitVec 32 := Scalar.addi c0_i32_29 v32
  v33.toNat
def k0_dev5 (d0 : Dev nD) : Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_40 : BitVec 32 := 1#32
  let v41 : BitVec 32 := Scalar.muli v10 c1_i32_40
  let v42 : BitVec 32 := Scalar.addi c0_i32_41 v41
  v42.toNat
def k0_dev6 (d0 : Dev nD) : Nat :=
  let c0_i32_52 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_51 : BitVec 32 := 1#32
  let v50 : BitVec 32 := Scalar.muli v10 c1_i32_51
  let v51 : BitVec 32 := Scalar.addi c0_i32_52 v50
  v51.toNat
def k0_dev7 (d0 : Dev nD) : Nat :=
  let c0_i32_63 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_62 : BitVec 32 := 1#32
  let v59 : BitVec 32 := Scalar.muli v10 c1_i32_62
  let v60 : BitVec 32 := Scalar.addi c0_i32_63 v59
  v60.toNat
def k0_dev8 (d0 : Dev nD) : Nat :=
  let c0_i32_74 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_73 : BitVec 32 := 1#32
  let v68 : BitVec 32 := Scalar.muli v16 c1_i32_73
  let v69 : BitVec 32 := Scalar.addi c0_i32_74 v68
  v69.toNat
def k0_dev9 (d0 : Dev nD) : Nat :=
  let c0_i32_86 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_85 : BitVec 32 := 1#32
  let v77 : BitVec 32 := Scalar.muli v16 c1_i32_85
  let v78 : BitVec 32 := Scalar.addi c0_i32_86 v77
  v78.toNat
def k0_dev10 (d0 : Dev nD) : Nat :=
  let c0_i32_98 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_97 : BitVec 32 := 1#32
  let v86 : BitVec 32 := Scalar.muli v16 c1_i32_97
  let v87 : BitVec 32 := Scalar.addi c0_i32_98 v86
  v87.toNat
def k0_dev11 (d0 : Dev nD) : Nat :=
  let c0_i32_110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_109 : BitVec 32 := 1#32
  let v95 : BitVec 32 := Scalar.muli v16 c1_i32_109
  let v96 : BitVec 32 := Scalar.addi c0_i32_110 v95
  v96.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_362 : BitVec 32 := 512#32
  let v370 : BitVec 32 := Scalar.muli v2 c512_i32_362
  let v371 : Index := Scalar.indexCast v370
  let c0_363 : Index := 0#32
  ![v371.toNat, 0]
def k0_dev12 (d0 : Dev nD) : Nat :=
  let c0_i32_389 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_388 : BitVec 32 := 1#32
  let v387 : BitVec 32 := Scalar.muli v10 c1_i32_388
  let v388 : BitVec 32 := Scalar.addi c0_i32_389 v387
  v388.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v17 : BitVec 32 := Scalar.remsi v5 c2_i32
  let c0_i32 : BitVec 32 := 0#32
  let v18 : BitVec 1 := Scalar.cmpi .eq v17 c0_i32
  let v397 : BitVec 32 := Scalar.extui v18
  let c0_i32_394 : BitVec 32 := 0#32
  let v398 : BitVec 1 := Scalar.cmpi .ne v397 c0_i32_394
  v398

def k0_dev13 (d0 : Dev nD) : Nat :=
  let c0_i32_2029 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v17 : BitVec 32 := Scalar.remsi v5 c2_i32
  let c0_i32 : BitVec 32 := 0#32
  let v18 : BitVec 1 := Scalar.cmpi .eq v17 c0_i32
  let c3_i32 : BitVec 32 := 3#32
  let c5_i32 : BitVec 32 := 5#32
  let v19 : BitVec 32 := Scalar.select v18 c3_i32 c5_i32
  let v20 : BitVec 32 := Scalar.addi v5 v19
  let c8_i32_9 : BitVec 32 := 8#32
  let v21 : BitVec 32 := Scalar.remsi v20 c8_i32_9
  let c4_i32_10 : BitVec 32 := 4#32
  let v22 : BitVec 1 := Scalar.cmpi .slt v21 c4_i32_10
  let c11_i32_11 : BitVec 32 := 11#32
  let v23 : BitVec 32 := Scalar.subi c11_i32_11 v21
  let v24 : BitVec 32 := Scalar.select v22 v21 v23
  let c1_i32_2028 : BitVec 32 := 1#32
  let v1872 : BitVec 32 := Scalar.muli v24 c1_i32_2028
  let v1873 : BitVec 32 := Scalar.addi c0_i32_2029 v1872
  v1873.toNat
def k0_dev14 (d0 : Dev nD) : Nat :=
  let c0_i32_416 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_415 : BitVec 32 := 1#32
  let v406 : BitVec 32 := Scalar.muli v16 c1_i32_415
  let v407 : BitVec 32 := Scalar.addi c0_i32_416 v406
  v407.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v17 : BitVec 32 := Scalar.remsi v5 c2_i32
  let c0_i32 : BitVec 32 := 0#32
  let v18 : BitVec 1 := Scalar.cmpi .eq v17 c0_i32
  let true_421 : BitVec 1 := 1#1
  let v416 : BitVec 1 := Scalar.xori v18 true_421
  let v417 : BitVec 32 := Scalar.extui v416
  let c0_i32_422 : BitVec 32 := 0#32
  let v418 : BitVec 1 := Scalar.cmpi .ne v417 c0_i32_422
  v418

def k0_dev15 (d0 : Dev nD) : Nat :=
  let c0_i32_2029 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v17 : BitVec 32 := Scalar.remsi v5 c2_i32
  let c0_i32 : BitVec 32 := 0#32
  let v18 : BitVec 1 := Scalar.cmpi .eq v17 c0_i32
  let c3_i32 : BitVec 32 := 3#32
  let c5_i32 : BitVec 32 := 5#32
  let v19 : BitVec 32 := Scalar.select v18 c3_i32 c5_i32
  let v20 : BitVec 32 := Scalar.addi v5 v19
  let c8_i32_9 : BitVec 32 := 8#32
  let v21 : BitVec 32 := Scalar.remsi v20 c8_i32_9
  let c4_i32_10 : BitVec 32 := 4#32
  let v22 : BitVec 1 := Scalar.cmpi .slt v21 c4_i32_10
  let c11_i32_11 : BitVec 32 := 11#32
  let v23 : BitVec 32 := Scalar.subi c11_i32_11 v21
  let v24 : BitVec 32 := Scalar.select v22 v21 v23
  let c1_i32_2028 : BitVec 32 := 1#32
  let v1872 : BitVec 32 := Scalar.muli v24 c1_i32_2028
  let v1873 : BitVec 32 := Scalar.addi c0_i32_2029 v1872
  v1873.toNat
def k0_off2 (d0 : Dev nD) (c0_i32_423 : BitVec 32) (c0_i32_444 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v419 : BitVec 32 := Scalar.subi v5 c0_i32_423
  let c1_i32_424 : BitVec 32 := 1#32
  let v420 : BitVec 32 := Scalar.subi v419 c1_i32_424
  let c8_i32_425 : BitVec 32 := 8#32
  let v421 : BitVec 32 := Scalar.addi v420 c8_i32_425
  let c8_i32_426 : BitVec 32 := 8#32
  let v422 : BitVec 32 := Scalar.remsi v421 c8_i32_426
  let c4_i32_427 : BitVec 32 := 4#32
  let v423 : BitVec 1 := Scalar.cmpi .slt v422 c4_i32_427
  let c11_i32_428 : BitVec 32 := 11#32
  let v424 : BitVec 32 := Scalar.subi c11_i32_428 v422
  let v425 : BitVec 32 := Scalar.select v423 v422 v424
  let c512_i32_443 : BitVec 32 := 512#32
  let v443 : BitVec 32 := Scalar.muli v425 c512_i32_443
  let v444 : BitVec 32 := Scalar.addi v443 c0_i32_444
  let v445 : Index := Scalar.indexCast v444
  let c0_445 : Index := 0#32
  ![v445.toNat, 0]
def k0_off3 (d0 : Dev nD) (c0_i32_429 : BitVec 32) (c0_i32_456 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v426 : BitVec 32 := Scalar.addi v5 c0_i32_429
  let c1_i32_430 : BitVec 32 := 1#32
  let v427 : BitVec 32 := Scalar.addi v426 c1_i32_430
  let c8_i32_431 : BitVec 32 := 8#32
  let v428 : BitVec 32 := Scalar.remsi v427 c8_i32_431
  let c4_i32_432 : BitVec 32 := 4#32
  let v429 : BitVec 1 := Scalar.cmpi .slt v428 c4_i32_432
  let c11_i32_433 : BitVec 32 := 11#32
  let v430 : BitVec 32 := Scalar.subi c11_i32_433 v428
  let v431 : BitVec 32 := Scalar.select v429 v428 v430
  let c512_i32_455 : BitVec 32 := 512#32
  let v460 : BitVec 32 := Scalar.muli v431 c512_i32_455
  let v461 : BitVec 32 := Scalar.addi v460 c0_i32_456
  let v462 : Index := Scalar.indexCast v461
  let c0_457 : Index := 0#32
  ![v462.toNat, 0]
def k0_dev16 (d0 : Dev nD) : Nat :=
  let c0_i32_479 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_478 : BitVec 32 := 1#32
  let v473 : BitVec 32 := Scalar.muli v10 c1_i32_478
  let v474 : BitVec 32 := Scalar.addi c0_i32_479 v473
  v474.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v17 : BitVec 32 := Scalar.remsi v5 c2_i32
  let c0_i32 : BitVec 32 := 0#32
  let v18 : BitVec 1 := Scalar.cmpi .eq v17 c0_i32
  let v483 : BitVec 32 := Scalar.extui v18
  let c0_i32_484 : BitVec 32 := 0#32
  let v484 : BitVec 1 := Scalar.cmpi .ne v483 c0_i32_484
  v484

def k0_dev17 (d0 : Dev nD) : Nat :=
  let c0_i32_2029 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v17 : BitVec 32 := Scalar.remsi v5 c2_i32
  let c0_i32 : BitVec 32 := 0#32
  let v18 : BitVec 1 := Scalar.cmpi .eq v17 c0_i32
  let c3_i32 : BitVec 32 := 3#32
  let c5_i32 : BitVec 32 := 5#32
  let v19 : BitVec 32 := Scalar.select v18 c3_i32 c5_i32
  let v20 : BitVec 32 := Scalar.addi v5 v19
  let c8_i32_9 : BitVec 32 := 8#32
  let v21 : BitVec 32 := Scalar.remsi v20 c8_i32_9
  let c4_i32_10 : BitVec 32 := 4#32
  let v22 : BitVec 1 := Scalar.cmpi .slt v21 c4_i32_10
  let c11_i32_11 : BitVec 32 := 11#32
  let v23 : BitVec 32 := Scalar.subi c11_i32_11 v21
  let v24 : BitVec 32 := Scalar.select v22 v21 v23
  let c1_i32_2028 : BitVec 32 := 1#32
  let v1872 : BitVec 32 := Scalar.muli v24 c1_i32_2028
  let v1873 : BitVec 32 := Scalar.addi c0_i32_2029 v1872
  v1873.toNat
def k0_dev18 (d0 : Dev nD) : Nat :=
  let c0_i32_506 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_505 : BitVec 32 := 1#32
  let v492 : BitVec 32 := Scalar.muli v16 c1_i32_505
  let v493 : BitVec 32 := Scalar.addi c0_i32_506 v492
  v493.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v17 : BitVec 32 := Scalar.remsi v5 c2_i32
  let c0_i32 : BitVec 32 := 0#32
  let v18 : BitVec 1 := Scalar.cmpi .eq v17 c0_i32
  let true_511 : BitVec 1 := 1#1
  let v502 : BitVec 1 := Scalar.xori v18 true_511
  let v503 : BitVec 32 := Scalar.extui v502
  let c0_i32_512 : BitVec 32 := 0#32
  let v504 : BitVec 1 := Scalar.cmpi .ne v503 c0_i32_512
  v504

def k0_dev19 (d0 : Dev nD) : Nat :=
  let c0_i32_2029 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v17 : BitVec 32 := Scalar.remsi v5 c2_i32
  let c0_i32 : BitVec 32 := 0#32
  let v18 : BitVec 1 := Scalar.cmpi .eq v17 c0_i32
  let c3_i32 : BitVec 32 := 3#32
  let c5_i32 : BitVec 32 := 5#32
  let v19 : BitVec 32 := Scalar.select v18 c3_i32 c5_i32
  let v20 : BitVec 32 := Scalar.addi v5 v19
  let c8_i32_9 : BitVec 32 := 8#32
  let v21 : BitVec 32 := Scalar.remsi v20 c8_i32_9
  let c4_i32_10 : BitVec 32 := 4#32
  let v22 : BitVec 1 := Scalar.cmpi .slt v21 c4_i32_10
  let c11_i32_11 : BitVec 32 := 11#32
  let v23 : BitVec 32 := Scalar.subi c11_i32_11 v21
  let v24 : BitVec 32 := Scalar.select v22 v21 v23
  let c1_i32_2028 : BitVec 32 := 1#32
  let v1872 : BitVec 32 := Scalar.muli v24 c1_i32_2028
  let v1873 : BitVec 32 := Scalar.addi c0_i32_2029 v1872
  v1873.toNat
def k0_dev20 (d0 : Dev nD) : Nat :=
  let c0_i32_569 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_568 : BitVec 32 := 1#32
  let v559 : BitVec 32 := Scalar.muli v10 c1_i32_568
  let v560 : BitVec 32 := Scalar.addi c0_i32_569 v559
  v560.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v17 : BitVec 32 := Scalar.remsi v5 c2_i32
  let c0_i32 : BitVec 32 := 0#32
  let v18 : BitVec 1 := Scalar.cmpi .eq v17 c0_i32
  let v569 : BitVec 32 := Scalar.extui v18
  let c0_i32_574 : BitVec 32 := 0#32
  let v570 : BitVec 1 := Scalar.cmpi .ne v569 c0_i32_574
  v570

def k0_dev21 (d0 : Dev nD) : Nat :=
  let c0_i32_2029 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v17 : BitVec 32 := Scalar.remsi v5 c2_i32
  let c0_i32 : BitVec 32 := 0#32
  let v18 : BitVec 1 := Scalar.cmpi .eq v17 c0_i32
  let c3_i32 : BitVec 32 := 3#32
  let c5_i32 : BitVec 32 := 5#32
  let v19 : BitVec 32 := Scalar.select v18 c3_i32 c5_i32
  let v20 : BitVec 32 := Scalar.addi v5 v19
  let c8_i32_9 : BitVec 32 := 8#32
  let v21 : BitVec 32 := Scalar.remsi v20 c8_i32_9
  let c4_i32_10 : BitVec 32 := 4#32
  let v22 : BitVec 1 := Scalar.cmpi .slt v21 c4_i32_10
  let c11_i32_11 : BitVec 32 := 11#32
  let v23 : BitVec 32 := Scalar.subi c11_i32_11 v21
  let v24 : BitVec 32 := Scalar.select v22 v21 v23
  let c1_i32_2028 : BitVec 32 := 1#32
  let v1872 : BitVec 32 := Scalar.muli v24 c1_i32_2028
  let v1873 : BitVec 32 := Scalar.addi c0_i32_2029 v1872
  v1873.toNat
def k0_dev22 (d0 : Dev nD) : Nat :=
  let c0_i32_596 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_595 : BitVec 32 := 1#32
  let v578 : BitVec 32 := Scalar.muli v16 c1_i32_595
  let v579 : BitVec 32 := Scalar.addi c0_i32_596 v578
  v579.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v17 : BitVec 32 := Scalar.remsi v5 c2_i32
  let c0_i32 : BitVec 32 := 0#32
  let v18 : BitVec 1 := Scalar.cmpi .eq v17 c0_i32
  let true_601 : BitVec 1 := 1#1
  let v588 : BitVec 1 := Scalar.xori v18 true_601
  let v589 : BitVec 32 := Scalar.extui v588
  let c0_i32_602 : BitVec 32 := 0#32
  let v590 : BitVec 1 := Scalar.cmpi .ne v589 c0_i32_602
  v590

def k0_dev23 (d0 : Dev nD) : Nat :=
  let c0_i32_2029 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v17 : BitVec 32 := Scalar.remsi v5 c2_i32
  let c0_i32 : BitVec 32 := 0#32
  let v18 : BitVec 1 := Scalar.cmpi .eq v17 c0_i32
  let c3_i32 : BitVec 32 := 3#32
  let c5_i32 : BitVec 32 := 5#32
  let v19 : BitVec 32 := Scalar.select v18 c3_i32 c5_i32
  let v20 : BitVec 32 := Scalar.addi v5 v19
  let c8_i32_9 : BitVec 32 := 8#32
  let v21 : BitVec 32 := Scalar.remsi v20 c8_i32_9
  let c4_i32_10 : BitVec 32 := 4#32
  let v22 : BitVec 1 := Scalar.cmpi .slt v21 c4_i32_10
  let c11_i32_11 : BitVec 32 := 11#32
  let v23 : BitVec 32 := Scalar.subi c11_i32_11 v21
  let v24 : BitVec 32 := Scalar.select v22 v21 v23
  let c1_i32_2028 : BitVec 32 := 1#32
  let v1872 : BitVec 32 := Scalar.muli v24 c1_i32_2028
  let v1873 : BitVec 32 := Scalar.addi c0_i32_2029 v1872
  v1873.toNat
def k0_dev24 (d0 : Dev nD) : Nat :=
  let c0_i32_658 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_657 : BitVec 32 := 1#32
  let v645 : BitVec 32 := Scalar.muli v10 c1_i32_657
  let v646 : BitVec 32 := Scalar.addi c0_i32_658 v645
  v646.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v17 : BitVec 32 := Scalar.remsi v5 c2_i32
  let c0_i32 : BitVec 32 := 0#32
  let v18 : BitVec 1 := Scalar.cmpi .eq v17 c0_i32
  let v655 : BitVec 32 := Scalar.extui v18
  let c0_i32_663 : BitVec 32 := 0#32
  let v656 : BitVec 1 := Scalar.cmpi .ne v655 c0_i32_663
  v656

def k0_dev25 (d0 : Dev nD) : Nat :=
  let c0_i32_2029 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v17 : BitVec 32 := Scalar.remsi v5 c2_i32
  let c0_i32 : BitVec 32 := 0#32
  let v18 : BitVec 1 := Scalar.cmpi .eq v17 c0_i32
  let c3_i32 : BitVec 32 := 3#32
  let c5_i32 : BitVec 32 := 5#32
  let v19 : BitVec 32 := Scalar.select v18 c3_i32 c5_i32
  let v20 : BitVec 32 := Scalar.addi v5 v19
  let c8_i32_9 : BitVec 32 := 8#32
  let v21 : BitVec 32 := Scalar.remsi v20 c8_i32_9
  let c4_i32_10 : BitVec 32 := 4#32
  let v22 : BitVec 1 := Scalar.cmpi .slt v21 c4_i32_10
  let c11_i32_11 : BitVec 32 := 11#32
  let v23 : BitVec 32 := Scalar.subi c11_i32_11 v21
  let v24 : BitVec 32 := Scalar.select v22 v21 v23
  let c1_i32_2028 : BitVec 32 := 1#32
  let v1872 : BitVec 32 := Scalar.muli v24 c1_i32_2028
  let v1873 : BitVec 32 := Scalar.addi c0_i32_2029 v1872
  v1873.toNat
def k0_dev26 (d0 : Dev nD) : Nat :=
  let c0_i32_685 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_684 : BitVec 32 := 1#32
  let v664 : BitVec 32 := Scalar.muli v16 c1_i32_684
  let v665 : BitVec 32 := Scalar.addi c0_i32_685 v664
  v665.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v17 : BitVec 32 := Scalar.remsi v5 c2_i32
  let c0_i32 : BitVec 32 := 0#32
  let v18 : BitVec 1 := Scalar.cmpi .eq v17 c0_i32
  let true_690 : BitVec 1 := 1#1
  let v674 : BitVec 1 := Scalar.xori v18 true_690
  let v675 : BitVec 32 := Scalar.extui v674
  let c0_i32_691 : BitVec 32 := 0#32
  let v676 : BitVec 1 := Scalar.cmpi .ne v675 c0_i32_691
  v676

def k0_dev27 (d0 : Dev nD) : Nat :=
  let c0_i32_2029 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v17 : BitVec 32 := Scalar.remsi v5 c2_i32
  let c0_i32 : BitVec 32 := 0#32
  let v18 : BitVec 1 := Scalar.cmpi .eq v17 c0_i32
  let c3_i32 : BitVec 32 := 3#32
  let c5_i32 : BitVec 32 := 5#32
  let v19 : BitVec 32 := Scalar.select v18 c3_i32 c5_i32
  let v20 : BitVec 32 := Scalar.addi v5 v19
  let c8_i32_9 : BitVec 32 := 8#32
  let v21 : BitVec 32 := Scalar.remsi v20 c8_i32_9
  let c4_i32_10 : BitVec 32 := 4#32
  let v22 : BitVec 1 := Scalar.cmpi .slt v21 c4_i32_10
  let c11_i32_11 : BitVec 32 := 11#32
  let v23 : BitVec 32 := Scalar.subi c11_i32_11 v21
  let v24 : BitVec 32 := Scalar.select v22 v21 v23
  let c1_i32_2028 : BitVec 32 := 1#32
  let v1872 : BitVec 32 := Scalar.muli v24 c1_i32_2028
  let v1873 : BitVec 32 := Scalar.addi c0_i32_2029 v1872
  v1873.toNat
def k0_dev28 (d0 : Dev nD) : Nat :=
  let c0_i32_749 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_748 : BitVec 32 := 1#32
  let v732 : BitVec 32 := Scalar.muli v10 c1_i32_748
  let v733 : BitVec 32 := Scalar.addi c0_i32_749 v732
  v733.toNat
def k0_dev29 (d0 : Dev nD) : Nat :=
  let c0_i32_777 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_776 : BitVec 32 := 1#32
  let v750 : BitVec 32 := Scalar.muli v16 c1_i32_776
  let v751 : BitVec 32 := Scalar.addi c0_i32_777 v750
  v751.toNat
def k0_dev30 (d0 : Dev nD) : Nat :=
  let c0_i32_840 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_839 : BitVec 32 := 1#32
  let v815 : BitVec 32 := Scalar.muli v10 c1_i32_839
  let v816 : BitVec 32 := Scalar.addi c0_i32_840 v815
  v816.toNat
def k0_dev31 (d0 : Dev nD) : Nat :=
  let c0_i32_868 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_867 : BitVec 32 := 1#32
  let v833 : BitVec 32 := Scalar.muli v16 c1_i32_867
  let v834 : BitVec 32 := Scalar.addi c0_i32_868 v833
  v834.toNat
def k0_dev32 (d0 : Dev nD) : Nat :=
  let c0_i32_931 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_930 : BitVec 32 := 1#32
  let v898 : BitVec 32 := Scalar.muli v10 c1_i32_930
  let v899 : BitVec 32 := Scalar.addi c0_i32_931 v898
  v899.toNat
def k0_dev33 (d0 : Dev nD) : Nat :=
  let c0_i32_959 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_958 : BitVec 32 := 1#32
  let v916 : BitVec 32 := Scalar.muli v16 c1_i32_958
  let v917 : BitVec 32 := Scalar.addi c0_i32_959 v916
  v917.toNat
def k0_dev34 (d0 : Dev nD) : Nat :=
  let c0_i32_1022 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_1021 : BitVec 32 := 1#32
  let v981 : BitVec 32 := Scalar.muli v10 c1_i32_1021
  let v982 : BitVec 32 := Scalar.addi c0_i32_1022 v981
  v982.toNat
def k0_dev35 (d0 : Dev nD) : Nat :=
  let c0_i32_1050 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1049 : BitVec 32 := 1#32
  let v999 : BitVec 32 := Scalar.muli v16 c1_i32_1049
  let v1000 : BitVec 32 := Scalar.addi c0_i32_1050 v999
  v1000.toNat
def k0_off4 (d0 : Dev nD) (c0_i32_1110 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_364 : BitVec 32 := 4#32
  let v375 : BitVec 32 := Scalar.addi v5 c4_i32_364
  let c8_i32_365 : BitVec 32 := 8#32
  let v376 : BitVec 32 := Scalar.remsi v375 c8_i32_365
  let c4_i32_366 : BitVec 32 := 4#32
  let v377 : BitVec 1 := Scalar.cmpi .slt v376 c4_i32_366
  let c11_i32_367 : BitVec 32 := 11#32
  let v378 : BitVec 32 := Scalar.subi c11_i32_367 v376
  let v379 : BitVec 32 := Scalar.select v377 v376 v378
  let c512_i32_1109 : BitVec 32 := 512#32
  let v1075 : BitVec 32 := Scalar.muli v379 c512_i32_1109
  let v1076 : BitVec 32 := Scalar.addi v1075 c0_i32_1110
  let v1077 : Index := Scalar.indexCast v1076
  let c0_1111 : Index := 0#32
  ![v1077.toNat, 0]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1409 : Index := Scalar.indexCast v2
  let c0_1430 : Index := 0#32
  ![v1409.toNat, 0]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1437 : BitVec 32 := 0#32
  ![v2.toNat, 0]
def k0_dev36 (d0 : Dev nD) : Nat :=
  let c0_i32_1436 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1431 : BitVec 32 := 1#32
  let v1413 : BitVec 32 := Scalar.addi v2 c1_i32_1431
  let c8_i32_1432 : BitVec 32 := 8#32
  let v1414 : BitVec 32 := Scalar.remsi v1413 c8_i32_1432
  let c1_i32_1435 : BitVec 32 := 1#32
  let v1415 : BitVec 32 := Scalar.muli v1414 c1_i32_1435
  let v1416 : BitVec 32 := Scalar.addi c0_i32_1436 v1415
  v1416.toNat
def k0_dev37 (d0 : Dev nD) : Nat :=
  let c0_i32_1444 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1439 : BitVec 32 := 2#32
  let v1423 : BitVec 32 := Scalar.addi v2 c2_i32_1439
  let c8_i32_1440 : BitVec 32 := 8#32
  let v1424 : BitVec 32 := Scalar.remsi v1423 c8_i32_1440
  let c1_i32_1443 : BitVec 32 := 1#32
  let v1425 : BitVec 32 := Scalar.muli v1424 c1_i32_1443
  let v1426 : BitVec 32 := Scalar.addi c0_i32_1444 v1425
  v1426.toNat
def k0_dev38 (d0 : Dev nD) : Nat :=
  let c0_i32_1452 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1447 : BitVec 32 := 3#32
  let v1433 : BitVec 32 := Scalar.addi v2 c3_i32_1447
  let c8_i32_1448 : BitVec 32 := 8#32
  let v1434 : BitVec 32 := Scalar.remsi v1433 c8_i32_1448
  let c1_i32_1451 : BitVec 32 := 1#32
  let v1435 : BitVec 32 := Scalar.muli v1434 c1_i32_1451
  let v1436 : BitVec 32 := Scalar.addi c0_i32_1452 v1435
  v1436.toNat
def k0_dev39 (d0 : Dev nD) : Nat :=
  let c0_i32_1460 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1455 : BitVec 32 := 4#32
  let v1443 : BitVec 32 := Scalar.addi v2 c4_i32_1455
  let c8_i32_1456 : BitVec 32 := 8#32
  let v1444 : BitVec 32 := Scalar.remsi v1443 c8_i32_1456
  let c1_i32_1459 : BitVec 32 := 1#32
  let v1445 : BitVec 32 := Scalar.muli v1444 c1_i32_1459
  let v1446 : BitVec 32 := Scalar.addi c0_i32_1460 v1445
  v1446.toNat
def k0_dev40 (d0 : Dev nD) : Nat :=
  let c0_i32_1468 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1463 : BitVec 32 := 5#32
  let v1453 : BitVec 32 := Scalar.addi v2 c5_i32_1463
  let c8_i32_1464 : BitVec 32 := 8#32
  let v1454 : BitVec 32 := Scalar.remsi v1453 c8_i32_1464
  let c1_i32_1467 : BitVec 32 := 1#32
  let v1455 : BitVec 32 := Scalar.muli v1454 c1_i32_1467
  let v1456 : BitVec 32 := Scalar.addi c0_i32_1468 v1455
  v1456.toNat
def k0_dev41 (d0 : Dev nD) : Nat :=
  let c0_i32_1475 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v1463 : BitVec 32 := Scalar.addi v2 c6_i32
  let c8_i32_1471 : BitVec 32 := 8#32
  let v1464 : BitVec 32 := Scalar.remsi v1463 c8_i32_1471
  let c1_i32_1474 : BitVec 32 := 1#32
  let v1465 : BitVec 32 := Scalar.muli v1464 c1_i32_1474
  let v1466 : BitVec 32 := Scalar.addi c0_i32_1475 v1465
  v1466.toNat
def k0_dev42 (d0 : Dev nD) : Nat :=
  let c0_i32_1482 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v1473 : BitVec 32 := Scalar.addi v2 c7_i32
  let c8_i32_1478 : BitVec 32 := 8#32
  let v1474 : BitVec 32 := Scalar.remsi v1473 c8_i32_1478
  let c1_i32_1481 : BitVec 32 := 1#32
  let v1475 : BitVec 32 := Scalar.muli v1474 c1_i32_1481
  let v1476 : BitVec 32 := Scalar.addi c0_i32_1482 v1475
  v1476.toNat
abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .f32⟩
  | .hbm, ⟨2, _⟩ => ⟨S4096x4096, .f32⟩
  | .hbm, ⟨3, _⟩ => ⟨S4096x8192, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S4096x8192, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S4096x8192, .f32⟩
  | .hbm, ⟨24, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_cst_3 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩

abbrev nD : Nat := 1
abbrev τ : Topo := Topo.v7x

variable {F : FTy → Type} [FloatOps F]
-- ==== Proof.KIBase.lean ====
/-
The ring kernel's vocabulary: the devices around the ring, the messages, the memrefs and semaphores
they use, and the order in which one device sends and receives them.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueLayout

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Resources -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring -/

/-- The order of the devices around the ring: position `t` holds device `gr t`, and back. -/
def gr (t : ℕ) : ℕ := if t < 4 then t else 11 - t

set_option backward.proofsInPublic true in
/-- The device at a position. -/
def dv (n : ℕ) : Dev nD := ⟨gr (n % 8), by
  have h : ∀ k : Fin 8, gr k.val < 8 := by decide
  exact h ⟨n % 8, Nat.mod_lt _ (by decide)⟩⟩

/-- A device's position. -/
def pos (c : Dev nD) : ℕ := gr c.val

/-- Whether the position is even. -/
def ev (c : Dev nD) : Bool := pos c % 2 == 0

def rt (c : Dev nD) : Dev nD := dv (pos c + 1)
def lf (c : Dev nD) : Dev nD := dv (pos c + 7)
def pt (c : Dev nD) : Dev nD := dv (pos c + if ev c then 3 else 5)

theorem rt_lf (c : Dev nD) : rt (lf c) = c := by revert c; decide
theorem lf_rt (c : Dev nD) : lf (rt c) = c := by revert c; decide
theorem pt_pt (c : Dev nD) : pt (pt c) = c := by revert c; decide

/-- One device's messages: slots passed rightwards (`cw`, by hop and quarter) and leftwards (`ccw`), across the
    ring (`ch`), and the row of maxima sent to the device `d + 1` further (`am`). -/
inductive Msg where
  | cw (h : Fin 3) (q : Fin 4)
  | ccw (h : Fin 3) (q : Fin 4)
  | ch (q : Fin 4)
  | am (d : Fin 7)
  deriving DecidableEq

/-- One device's messages in the order it sends them, -/
abbrev sendOrder : List Msg :=
  [.cw 0 0, .cw 0 1, .cw 0 2, .cw 0 3, .ccw 0 0, .ccw 0 1, .ccw 0 2, .ccw 0 3,
   .cw 1 0, .ch 0, .ccw 1 0, .cw 1 1, .ch 1, .ccw 1 1, .cw 1 2, .ch 2, .ccw 1 2, .cw 1 3, .ch 3, .ccw 1 3,
   .cw 2 0, .ccw 2 0, .cw 2 1, .ccw 2 1, .cw 2 2, .ccw 2 2, .cw 2 3, .ccw 2 3,
   .am 0, .am 1, .am 2, .am 3, .am 4, .am 5, .am 6]

/-- and in the order it waits for them. -/
abbrev recvOrder : List Msg :=
  [.cw 0 0, .ccw 0 0, .cw 0 1, .ccw 0 1, .cw 0 2, .ccw 0 2, .cw 0 3, .ccw 0 3,
   .cw 1 0, .ccw 1 0, .cw 1 1, .ccw 1 1, .cw 1 2, .ccw 1 2, .cw 1 3, .ccw 1 3,
   .ch 0, .cw 2 0, .ccw 2 0, .ch 1, .cw 2 1, .ccw 2 1, .ch 2, .cw 2 2, .ccw 2 2, .ch 3, .cw 2 3, .ccw 2 3,
   .am 0, .am 1, .am 2, .am 3, .am 4, .am 5, .am 6]

theorem sendOrder_nodup : sendOrder.Nodup := by decide

set_option backward.proofsInPublic true in
instance : Fintype Msg := ⟨⟨sendOrder, sendOrder_nodup⟩, fun M => by
  show M ∈ sendOrder
  cases M with
  | cw h q => fin_cases h <;> fin_cases q <;> decide
  | ccw h q => fin_cases h <;> fin_cases q <;> decide
  | ch q => fin_cases q <;> decide
  | am d => fin_cases d <;> decide⟩

theorem recv_perm : sendOrder.Perm recvOrder := by decide

set_option backward.proofsInPublic true in
/-- The device `k` further in numbering. -/
def plus (k : ℕ) (c : Dev nD) : Dev nD := ⟨(c.val + k) % 8, Nat.mod_lt _ (by decide)⟩

/-- Where device `c`'s message goes, -/
def tgt : Msg → Dev nD → Dev nD
  | .cw _ _, c => rt c
  | .ccw _ _, c => lf c
  | .ch _, c => pt c
  | .am d, c => plus (d.val + 1) c

/-- and from where device `c` gets that message. -/
def frm : Msg → Dev nD → Dev nD
  | .cw _ _, c => lf c
  | .ccw _ _, c => rt c
  | .ch _, c => pt c
  | .am d, c => plus (7 - d.val) c

theorem frm_tgt (M : Msg) (c : Dev nD) : frm M (tgt M c) = c := by revert M c; decide
theorem tgt_frm (M : Msg) (c : Dev nD) : tgt M (frm M c) = c := by revert M c; decide

def tgtE (M : Msg) : Dev nD ≃ Dev nD := ⟨tgt M, frm M, frm_tgt M, tgt_frm M⟩

/-- The device whose data arrives at `c` with the message. -/
def org : Msg → Dev nD → Dev nD
  | .cw h _, c => dv (pos c + (7 - h.val))
  | .ccw h _, c => dv (pos c + (h.val + 1))
  | .ch _, c => dv (pos c + 4)
  | .am d, c => frm (.am d) c

/-! ## Semaphores -/

/-- The number of the semaphore a message's departure completes on, -/
def sS : Msg → DmaSem sig
  | .cw h q => (⟨1 + 4 * h.val + q.val, by show _ < 81; omega⟩ : Fin 81)
  | .ccw h q => (⟨25 + 4 * h.val + q.val, by show _ < 81; omega⟩ : Fin 81)
  | .ch q => (⟨49 + q.val, by show _ < 81; omega⟩ : Fin 81)
  | .am d => (⟨57 + d.val, by show _ < 81; omega⟩ : Fin 81)

/-- and its arrival. -/
def sR : Msg → DmaSem sig
  | .cw h q => (⟨13 + 4 * h.val + q.val, by show _ < 81; omega⟩ : Fin 81)
  | .ccw h q => (⟨37 + 4 * h.val + q.val, by show _ < 81; omega⟩ : Fin 81)
  | .ch q => (⟨53 + q.val, by show _ < 81; omega⟩ : Fin 81)
  | .am d => (⟨64 + d.val, by show _ < 81; omega⟩ : Fin 81)

/-- The semaphores of the local copies: of the weights in (two), of the result out (eight). -/
def sW (s : Fin 2) : DmaSem sig := (⟨71 + s.val, by show _ < 81; omega⟩ : Fin 81)
def sO (j : Fin 8) : DmaSem sig := (⟨73 + j.val, by show _ < 81; omega⟩ : Fin 81)

/-- What a DMA semaphore is for. -/
inductive Role where
  | none
  | snd (M : Msg)
  | rcv (M : Msg)
  | win (s : Fin 2)
  | out (j : Fin 8)
  deriving DecidableEq

def role (i : DmaSem sig) : Role :=
  let n : ℕ := i.val
  if n < 1 then .none
  else if n < 13 then .snd (.cw (Fin.ofNat 3 ((n - 1) / 4)) (Fin.ofNat 4 ((n - 1) % 4)))
  else if n < 25 then .rcv (.cw (Fin.ofNat 3 ((n - 13) / 4)) (Fin.ofNat 4 ((n - 13) % 4)))
  else if n < 37 then .snd (.ccw (Fin.ofNat 3 ((n - 25) / 4)) (Fin.ofNat 4 ((n - 25) % 4)))
  else if n < 49 then .rcv (.ccw (Fin.ofNat 3 ((n - 37) / 4)) (Fin.ofNat 4 ((n - 37) % 4)))
  else if n < 53 then .snd (.ch (Fin.ofNat 4 (n - 49)))
  else if n < 57 then .rcv (.ch (Fin.ofNat 4 (n - 53)))
  else if n < 64 then .snd (.am (Fin.ofNat 7 (n - 57)))
  else if n < 71 then .rcv (.am (Fin.ofNat 7 (n - 64)))
  else if n < 73 then .win (Fin.ofNat 2 (n - 71))
  else .out (Fin.ofNat 8 (n - 73))

theorem role_sS (M : Msg) : role (sS M) = .snd M := by revert M; decide
theorem role_sR (M : Msg) : role (sR M) = .rcv M := by revert M; decide
theorem role_sW (s : Fin 2) : role (sW s) = .win s := by revert s; decide
theorem role_sO (j : Fin 8) : role (sO j) = .out j := by revert j; decide

abbrev barS : Sem sig := (SemArray.scalar (sig.barrier 0 rfl) : Sems sig S_).sem
abbrev barCell (c : Dev nD) : GSem nD τ sig := ((c : Thread nD τ), .reg barS)
abbrev dCell (c : Dev nD) (i : DmaSem sig) : GSem nD τ sig := ((c : Thread nD τ), .dma i)

/-! ## Memrefs -/

abbrev xM : Memref sig .tc .vmem S512x4096 .bf16 := Memref.whole cc0_stg0_0
abbrev wM : Memref sig .tc .hbm S4096x1024 .f32 := Memref.whole main_arg1
abbrev rM : Memref sig .tc .hbm S4096x1024 .f32 := Memref.whole main_v1
abbrev cwB : Memref sig .tc .vmem S3x4x128x4096 .bf16 := Memref.whole cc0_scratch0
abbrev ccwB : Memref sig .tc .vmem S3x4x128x4096 .bf16 := Memref.whole cc0_scratch1
abbrev chB : Memref sig .tc .vmem S4x128x4096 .bf16 := Memref.whole cc0_scratch2
abbrev wbB : Memref sig .tc .vmem S4096x1024 .bf16 := Memref.whole cc0_scratch3
abbrev wsB : Memref sig .tc .vmem S2x256x1024 .f32 := Memref.whole cc0_scratch4
abbrev outB : Memref sig .tc .vmem S4096x1024 .f32 := Memref.whole cc0_scratch5
abbrev amB : Memref sig .tc .vmem S8x128 .f32 := Memref.whole cc0_scratch6

theorem inb_slot {h q : ℕ} (hh : h < 3) (hq : q < 4) : ∀ a, (![h, q, 0, 0] : Fin 4 → ℕ) a + S1x1x128x4096.size a ≤ S3x4x128x4096.size a := by
  intro a; fin_cases a
  · show h + 1 ≤ 3; omega
  · show q + 1 ≤ 4; omega
  · show 0 + 128 ≤ 128; omega
  · show 0 + 4096 ≤ 4096; omega
theorem inb_chslot {q : ℕ} (hq : q < 4) : ∀ a, (![q, 0, 0] : Fin 3 → ℕ) a + S1x128x4096.size a ≤ S4x128x4096.size a := by
  intro a; fin_cases a
  · show q + 1 ≤ 4; omega
  · show 0 + 128 ≤ 128; omega
  · show 0 + 4096 ≤ 4096; omega
theorem inb_quarter {q : ℕ} (hq : q < 4) : ∀ a, (![128 * q, 0] : Fin 2 → ℕ) a + S128x4096.size a ≤ S512x4096.size a := by
  intro a; fin_cases a
  · show 128 * q + 128 ≤ 512; omega
  · show 0 + 4096 ≤ 4096; omega
theorem inb_row {p : ℕ} (hp : p < 8) : ∀ a, (![p, 0] : Fin 2 → ℕ) a + S1x128.size a ≤ S8x128.size a := by
  intro a; fin_cases a
  · show p + 1 ≤ 8; omega
  · show 0 + 128 ≤ 128; omega
theorem inb_wrows {b : ℕ} (hb : b < 16) : ∀ a, (![256 * b, 0] : Fin 2 → ℕ) a + S256x1024.size a ≤ S4096x1024.size a := by
  intro a; fin_cases a
  · show 256 * b + 256 ≤ 4096; omega
  · show 0 + 1024 ≤ 1024; omega
theorem inb_stg {s : ℕ} (hs : s < 2) : ∀ a, (![s, 0, 0] : Fin 3 → ℕ) a + S1x256x1024.size a ≤ S2x256x1024.size a := by
  intro a; fin_cases a
  · show s + 1 ≤ 2; omega
  · show 0 + 256 ≤ 256; omega
  · show 0 + 1024 ≤ 1024; omega
theorem inb_orows {j : ℕ} (hj : j < 8) : ∀ a, (![512 * j, 0] : Fin 2 → ℕ) a + S512x1024.size a ≤ S4096x1024.size a := by
  intro a; fin_cases a
  · show 512 * j + 512 ≤ 4096; omega
  · show 0 + 1024 ≤ 1024; omega

/-- A slot of the rightward buffer, of the leftward one, of the across one; a quarter of the staged rows; a row of
    maxima; the weights' row blocks and the two places they are staged at; the result's row blocks. -/
abbrev cwM (h : Fin 3) (q : Fin 4) : Memref sig .tc .vmem S128x4096 .bf16 :=
  (cwB.slice (Rect.unit (s := S3x4x128x4096) ![h.val, q.val, 0, 0] S1x1x128x4096.size (inb_slot h.isLt q.isLt)) (fun _ => rfl)).squeeze S128x4096 squeezes_S1x1x128x4096_S128x4096
abbrev ccwM (h : Fin 3) (q : Fin 4) : Memref sig .tc .vmem S128x4096 .bf16 :=
  (ccwB.slice (Rect.unit (s := S3x4x128x4096) ![h.val, q.val, 0, 0] S1x1x128x4096.size (inb_slot h.isLt q.isLt)) (fun _ => rfl)).squeeze S128x4096 squeezes_S1x1x128x4096_S128x4096
abbrev chM (q : Fin 4) : Memref sig .tc .vmem S128x4096 .bf16 :=
  (chB.slice (Rect.unit (s := S4x128x4096) ![q.val, 0, 0] S1x128x4096.size (inb_chslot q.isLt)) (fun _ => rfl)).squeeze S128x4096 squeezes_S1x128x4096_S128x4096
abbrev xqM (q : Fin 4) : Memref sig .tc .vmem S128x4096 .bf16 :=
  xM.slice (Rect.unit (s := S512x4096) ![128 * q.val, 0] S128x4096.size (inb_quarter q.isLt)) (fun _ => rfl)
abbrev amM (p : Dev nD) : Memref sig .tc .vmem S1x128 .f32 :=
  amB.slice (Rect.unit (s := S8x128) ![p.val, 0] S1x128.size (inb_row p.isLt)) (fun _ => rfl)
abbrev wrM (b : Fin 16) : Memref sig .tc .hbm S256x1024 .f32 :=
  wM.slice (Rect.unit (s := S4096x1024) ![256 * b.val, 0] S256x1024.size (inb_wrows b.isLt)) (fun _ => rfl)
abbrev wsM (s : Fin 2) : Memref sig .tc .vmem S256x1024 .f32 :=
  (wsB.slice (Rect.unit (s := S2x256x1024) ![s.val, 0, 0] S1x256x1024.size (inb_stg s.isLt)) (fun _ => rfl)).squeeze S256x1024 squeezes_S1x256x1024_S256x1024
abbrev outM (j : Fin 8) : Memref sig .tc .vmem S512x1024 .f32 :=
  outB.slice (Rect.unit (s := S4096x1024) ![512 * j.val, 0] S512x1024.size (inb_orows j.isLt)) (fun _ => rfl)
abbrev resM (j : Fin 8) : Memref sig .tc .hbm S512x1024 .f32 :=
  rM.slice (Rect.unit (s := S4096x1024) ![512 * j.val, 0] S512x1024.size (inb_orows j.isLt)) (fun _ => rfl)

/-- The credits of one slot, of one row of maxima, of one staged row block, of one result row block. -/
def NS : ℕ := (cwM 0 0).view.dmaCredit
def NA : ℕ := (amM 0).view.dmaCredit
def NW : ℕ := (wsM 0).view.dmaCredit
def NO : ℕ := (resM 0).view.dmaCredit

def amt : Msg → ℕ
  | .am _ => NA
  | _ => NS

theorem cr_cw (h : Fin 3) (q : Fin 4) : (cwM h q).view.dmaCredit = NS := rfl
theorem cr_ccw (h : Fin 3) (q : Fin 4) : (ccwM h q).view.dmaCredit = NS := rfl
theorem cr_ch (q : Fin 4) : (chM q).view.dmaCredit = NS := rfl
theorem cr_x (q : Fin 4) : (xqM q).view.dmaCredit = NS := rfl
theorem cr_am (p : Dev nD) : (amM p).view.dmaCredit = NA := rfl
theorem cr_ws (s : Fin 2) : (wsM s).view.dmaCredit = NW := rfl
theorem cr_res (j : Fin 8) : (resM j).view.dmaCredit = NO := rfl

theorem amt_pos (M : Msg) : 0 < amt M := by
  cases M <;> exact View.dmaCredit_pos _ (by decide)
theorem NW_pos : 0 < NW := View.dmaCredit_pos _ (by decide)
theorem NO_pos : 0 < NO := View.dmaCredit_pos _ (by decide)

attribute [irreducible] NS NA NW NO

/-! ## The devices the kernel names, and its semaphores -/

theorem semCwS (h q : ℕ) (hh : h < 3) (hq : q < 4) (i) :
    ((cc0_scratch7.slice (Rect.unit (s := S3x4) ![h, q] S1x1.size i)).squeeze S_ squeezes_S1x1_S_).sem = sS (.cw ⟨h, hh⟩ ⟨q, hq⟩) := by
  interval_cases h <;> interval_cases q <;> decide +revert
theorem semCwR (h q : ℕ) (hh : h < 3) (hq : q < 4) (i) :
    ((cc0_scratch8.slice (Rect.unit (s := S3x4) ![h, q] S1x1.size i)).squeeze S_ squeezes_S1x1_S_).sem = sR (.cw ⟨h, hh⟩ ⟨q, hq⟩) := by
  interval_cases h <;> interval_cases q <;> decide +revert
theorem semCcwS (h q : ℕ) (hh : h < 3) (hq : q < 4) (i) :
    ((cc0_scratch9.slice (Rect.unit (s := S3x4) ![h, q] S1x1.size i)).squeeze S_ squeezes_S1x1_S_).sem = sS (.ccw ⟨h, hh⟩ ⟨q, hq⟩) := by
  interval_cases h <;> interval_cases q <;> decide +revert
theorem semCcwR (h q : ℕ) (hh : h < 3) (hq : q < 4) (i) :
    ((cc0_scratch10.slice (Rect.unit (s := S3x4) ![h, q] S1x1.size i)).squeeze S_ squeezes_S1x1_S_).sem = sR (.ccw ⟨h, hh⟩ ⟨q, hq⟩) := by
  interval_cases h <;> interval_cases q <;> decide +revert
theorem semChS (q : ℕ) (hq : q < 4) (i) :
    ((cc0_scratch11.slice (Rect.unit (s := S4) ![q] S1.size i)).squeeze S_ squeezes_S1_S_).sem = sS (.ch ⟨q, hq⟩) := by
  interval_cases q <;> decide +revert
theorem semChR (q : ℕ) (hq : q < 4) (i) :
    ((cc0_scratch12.slice (Rect.unit (s := S4) ![q] S1.size i)).squeeze S_ squeezes_S1_S_).sem = sR (.ch ⟨q, hq⟩) := by
  interval_cases q <;> decide +revert
theorem semAmS (q : ℕ) (hq : q < 7) (i) :
    ((cc0_scratch13.slice (Rect.unit (s := S7) ![q] S1.size i)).squeeze S_ squeezes_S1_S_).sem = sS (.am ⟨q, hq⟩) := by
  interval_cases q <;> decide +revert
theorem semAmR (q : ℕ) (hq : q < 7) (i) :
    ((cc0_scratch14.slice (Rect.unit (s := S7) ![q] S1.size i)).squeeze S_ squeezes_S1_S_).sem = sR (.am ⟨q, hq⟩) := by
  interval_cases q <;> decide +revert
theorem semW (q : ℕ) (hq : q < 2) (i) :
    ((cc0_scratch15.slice (Rect.unit (s := S2) ![q] S1.size i)).squeeze S_ squeezes_S1_S_).sem = sW ⟨q, hq⟩ := by
  interval_cases q <;> decide +revert
theorem semO (q : ℕ) (hq : q < 8) (i) :
    ((cc0_scratch16.slice (Rect.unit (s := S8) ![q] S1.size i)).squeeze S_ squeezes_S1_S_).sem = sO ⟨q, hq⟩ := by
  interval_cases q <;> decide +revert

theorem cond1_ev : ∀ c : Dev nD, (k0_cond1 c = 1#1) ↔ ev c = true := by decide
theorem cond2_ev : ∀ c : Dev nD, (k0_cond2 c = 1#1) ↔ ev c = false := by decide
theorem cond3_ev : ∀ c : Dev nD, (k0_cond3 c = 1#1) ↔ ev c = true := by decide
theorem cond4_ev : ∀ c : Dev nD, (k0_cond4 c = 1#1) ↔ ev c = false := by decide
theorem cond5_ev : ∀ c : Dev nD, (k0_cond5 c = 1#1) ↔ ev c = true := by decide
theorem cond6_ev : ∀ c : Dev nD, (k0_cond6 c = 1#1) ↔ ev c = false := by decide
theorem cond7_ev : ∀ c : Dev nD, (k0_cond7 c = 1#1) ↔ ev c = true := by decide
theorem cond8_ev : ∀ c : Dev nD, (k0_cond8 c = 1#1) ↔ ev c = false := by decide
theorem dev1_lf (c : Dev nD) : (⟨k0_dev1 c, k0_dev1_lt c⟩ : Dev nD) = lf c := by revert c; decide
theorem dev2_rt (c : Dev nD) : (⟨k0_dev2 c, k0_dev2_lt c⟩ : Dev nD) = rt c := by revert c; decide
theorem dev3_pt (c : Dev nD) : (⟨k0_dev3 c, k0_dev3_lt c⟩ : Dev nD) = pt c := by revert c; decide
theorem dev13_pt (c : Dev nD) (h) : (⟨k0_dev13 c, k0_dev13_lt c h⟩ : Dev nD) = pt c := by revert c; decide
theorem dev15_pt (c : Dev nD) (h) : (⟨k0_dev15 c, k0_dev15_lt c h⟩ : Dev nD) = pt c := by revert c; decide
theorem dev17_pt (c : Dev nD) (h) : (⟨k0_dev17 c, k0_dev17_lt c h⟩ : Dev nD) = pt c := by revert c; decide
theorem dev19_pt (c : Dev nD) (h) : (⟨k0_dev19 c, k0_dev19_lt c h⟩ : Dev nD) = pt c := by revert c; decide
theorem dev21_pt (c : Dev nD) (h) : (⟨k0_dev21 c, k0_dev21_lt c h⟩ : Dev nD) = pt c := by revert c; decide
theorem dev23_pt (c : Dev nD) (h) : (⟨k0_dev23 c, k0_dev23_lt c h⟩ : Dev nD) = pt c := by revert c; decide
theorem dev25_pt (c : Dev nD) (h) : (⟨k0_dev25 c, k0_dev25_lt c h⟩ : Dev nD) = pt c := by revert c; decide
theorem dev27_pt (c : Dev nD) (h) : (⟨k0_dev27 c, k0_dev27_lt c h⟩ : Dev nD) = pt c := by revert c; decide
theorem dev36 (c : Dev nD) : (⟨k0_dev36 c, k0_dev36_lt c⟩ : Dev nD) = plus 1 c := by revert c; decide
theorem off2_eq (c : Dev nD) (h q : ℕ) (hh : h < 3) (hq : q < 4) : k0_off2 c (BitVec.ofNat 32 h) (BitVec.ofNat 32 (128 * q)) = ![512 * (org (.cw ⟨h, hh⟩ ⟨q, hq⟩) c).val + 128 * q, 0] := by
  interval_cases h <;> interval_cases q <;> decide +revert
theorem off6_eq (c : Dev nD) : k0_off6 c = ![c.val, 0] := by revert c; decide
theorem off5_eq (c : Dev nD) : k0_off5 c = ![c.val, 0] := by revert c; decide
theorem off1_eq (c : Dev nD) : k0_off1 c = ![512 * c.val, 0] := by revert c; decide
theorem off3_eq (c : Dev nD) (h q : ℕ) (hh : h < 3) (hq : q < 4) : k0_off3 c (BitVec.ofNat 32 h) (BitVec.ofNat 32 (128 * q)) = ![512 * (org (.ccw ⟨h, hh⟩ ⟨q, hq⟩) c).val + 128 * q, 0] := by
  interval_cases h <;> interval_cases q <;> decide +revert
theorem off4_eq (c : Dev nD) (q : ℕ) (hq : q < 4) : k0_off4 c (BitVec.ofNat 32 (128 * q)) = ![512 * (org (.ch ⟨q, hq⟩) c).val + 128 * q, 0] := by
  interval_cases q <;> decide +revert

end Cert.KernelIdealProof
-- ==== Proof.KISched.lean ====
/-
What every buffer of the ring kernel holds and when, the pieces of memory the messages carry, and the
schedule of what each semaphore's instalments hand over.
-/
module

public import proofs.«01_k».proof.Proof.KIBase

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Contents -/

/-- Device `o`'s rows of `x`, staged. -/
def X (o : Dev nD) : (cc0_stg0_0 : Ref sig .tc).ty.Contents (Elt F) :=
  (win0_0.blk (0 : Fin 1)).view.read (Elt F) (m ((o : Thread nD τ).loc main_arg0))

/-- Device `c`'s columns of `w`, -/
def Wf (c : Dev nD) : Vec F S4096x1024 .f32 := m ((c : Thread nD τ).loc main_arg1)
/-- narrowed. -/
def wbV (c : Dev nD) : FVec F S4096x1024 .bf16 := truncf .bf16 (Wf m c) bitsLt_bf16_f32

/-- Quarter `q` of device `o`'s rows. -/
def xq (o : Dev nD) (q : Fin 4) : FVec F S128x4096 .bf16 := fun i => X m o (ix2 (⟨128 * q.val + (i 0).val, by
  have h : (i 0).val < 128 := (i 0).isLt
  omega⟩ : Fin 512) (i 1))

def quart : Msg → Fin 4
  | .cw _ q => q
  | .ccw _ q => q
  | .ch q => q
  | .am _ => 0

/-- The positive part of a product. -/
def zz (v : FVec F S128x4096 .bf16) (w : FVec F S4096x1024 .bf16) : FVec F S128x1024 .f32 :=
  maximumf (matmul dot_S128x4096_S4096x1024_S128x1024_1_0_0_1_n_n none v w (constant S128x1024 .f32 0x00000000#32))
    (broadcast S128x1024 (Scalar.ofBits .f32 0x00000000#32 : F .f32))

/-- A block's maximum. -/
def bmax (z : FVec F S128x1024 .f32) : F .f32 :=
  extractAt ![0, 0, 0] (shapeCast S1x1x1 (multiReduction .maximumf [1, 2] S1 (shapeCast S1x128x1024 z shapeCasts_S128x1024_S1x128x1024)
    0xFF800000#32 reduces_S1x128x1024_S1 (.inl rfl) rfl) shapeCasts_S1_S1x1x1) inpos_S1x1x1_p0_0_0

/-- The block of the result made from a message that arrived at `c`. -/
def zB (c : Dev nD) (M : Msg) : FVec F S128x1024 .f32 := zz (xq m (org M c) (quart M)) (wbV m c)

/-- The block made from `c`'s own rows. -/
def zOwn (c : Dev nD) : FVec F S512x1024 .f32 := k0_pay20 (X m c) (wbV m c)

/-- The running maximum after its own rows and the messages of a list, the latest first. -/
def acc (c : Dev nD) : List Msg → F .f32
  | [] => k0_pay21 (X m c) (wbV m c)
  | M :: L => Scalar.maximumf (acc c L) (bmax (zB m c M))

/-- The messages multiplied, the latest first. -/
abbrev mulOrder : List Msg :=
  [.ccw 2 3, .cw 2 3, .ch 3, .ccw 2 2, .cw 2 2, .ch 2, .ccw 2 1, .cw 2 1, .ch 1, .ccw 2 0, .cw 2 0, .ch 0,
   .ccw 1 3, .cw 1 3, .ccw 1 2, .cw 1 2, .ccw 1 1, .cw 1 1, .ccw 1 0, .cw 1 0,
   .ccw 0 3, .cw 0 3, .ccw 0 2, .cw 0 2, .ccw 0 1, .cw 0 1, .ccw 0 0, .cw 0 0]

/-- The rows of maxima, one device's maximum repeated along each. -/
def amx : Vec F S8x128 .f32 := fun i => acc m (i 0 : Fin 8) mulOrder

/-- The rectified product on device `c`, whole: row by row from the rows' owner. -/
def yC (c : Dev nD) : Vec F S4096x1024 .f32 := fun i =>
  let n : ℕ := (i 0).val
  have hn : n < 4096 := (i 0).isLt
  if n / 512 = c.val then zOwn m c (ix2 (⟨n % 512, Nat.mod_lt _ (by decide)⟩ : Fin 512) (i 1))
  else zz (xq m (⟨n / 512, by show _ < 8; omega⟩ : Fin 8) (⟨n % 512 / 128, by omega⟩ : Fin 4)) (wbV m c)
    (ix2 (⟨n % 128, Nat.mod_lt _ (by decide)⟩ : Fin 128) (i 1))

/-- Row block `j` of it. -/
def yB (c : Dev nD) (j : Fin 8) : Vec F S512x1024 .f32 := fun i => yC m c (ix2 (⟨512 * j.val + (i 0).val, by
  have h : (i 0).val < 512 := (i 0).isLt
  omega⟩ : Fin 4096) (i 1))

/-- The result: each row block quantised by the maximum of all the devices. -/
def qB (c : Dev nD) (j : Fin 8) : FVec F S512x1024 .f32 := k0_pay117 (k0_pay114 (amx m)) (k0_pay115 (amx m)) (yB m c j)
def resC (c : Dev nD) : Vec F S4096x1024 .f32 := fun i =>
  let n : ℕ := (i 0).val
  have hn : n < 4096 := (i 0).isLt
  qB m c ⟨n / 512, by omega⟩ (ix2 (⟨n % 512, Nat.mod_lt _ (by decide)⟩ : Fin 512) (i 1))

/-- What the slots hold once the messages landed. -/
def cwC (c : Dev nD) : Vec F S3x4x128x4096 .bf16 := fun i => xq m (org (.cw (i 0 : Fin 3) (i 1 : Fin 4)) c) (i 1 : Fin 4) (ix2 (i 2 : Fin 128) (i 3 : Fin 4096))
def ccwC (c : Dev nD) : Vec F S3x4x128x4096 .bf16 := fun i => xq m (org (.ccw (i 0 : Fin 3) (i 1 : Fin 4)) c) (i 1 : Fin 4) (ix2 (i 2 : Fin 128) (i 3 : Fin 4096))
def chC (c : Dev nD) : Vec F S4x128x4096 .bf16 := fun i => xq m (org (.ch (i 0 : Fin 4)) c) (i 0 : Fin 4) (ix2 (i 1 : Fin 128) (i 2 : Fin 4096))

/-- The staged weight rows: place `s` at its `r`-th use. -/
def wsC (c : Dev nD) (s : Fin 2) (r : ℕ) : Vec F S2x256x1024 .f32 := fun i =>
  Wf m c (ix2 (⟨(256 * (2 * r + s.val) + (i 1 : Fin 256).val) % 4096, Nat.mod_lt _ (by decide)⟩ : Fin 4096) (i 2 : Fin 1024))

/-! ## Pieces of memory -/

/-- The three shares a landed slot is held at. -/
def sh3 (k : Fin 3) : PosShare TreeShare := match k with
  | 0 => fullShare.left
  | 1 => fullShare.right.left
  | 2 => fullShare.right.right

/-- The eight shares a device's own row of maxima is held at. -/
def sh8 (d : Fin 8) : PosShare TreeShare := match d with
  | 0 => fullShare.left.left.left
  | 1 => fullShare.left.left.right
  | 2 => fullShare.left.right.left
  | 3 => fullShare.left.right.right
  | 4 => fullShare.right.left.left
  | 5 => fullShare.right.left.right
  | 6 => fullShare.right.right.left
  | 7 => fullShare.right.right.right

/-- A message's landing place on the device it arrives at, at a share, at the landed contents. -/
def lnd (c : Dev nD) (M : Msg) (s : PosShare TreeShare) : sProp 𝕄 := match M with
  | .cw h q => (cwM h q).view.loc (c : Thread nD τ) ↦[(cwM h q).view.set]{s} cwC m c
  | .ccw h q => (ccwM h q).view.loc (c : Thread nD τ) ↦[(ccwM h q).view.set]{s} ccwC m c
  | .ch q => (chM q).view.loc (c : Thread nD τ) ↦[(chM q).view.set]{s} chC m c
  | .am d => (amM (org (.am d) c)).view.loc (c : Thread nD τ) ↦[(amM (org (.am d) c)).view.set]{s} amx m

/-- A slot before anything landed in it. -/
def dst (c : Dev nD) (M : Msg) : sProp 𝕄 := match M with
  | .cw h q => iprop(∃ f : Buf (Elt F) ((cwM h q).view.loc (c : Thread nD τ)), (cwM h q).view.loc (c : Thread nD τ) ↦[(cwM h q).view.set]{fullShare} f)
  | .ccw h q => iprop(∃ f : Buf (Elt F) ((ccwM h q).view.loc (c : Thread nD τ)), (ccwM h q).view.loc (c : Thread nD τ) ↦[(ccwM h q).view.set]{fullShare} f)
  | .ch q => iprop(∃ f : Buf (Elt F) ((chM q).view.loc (c : Thread nD τ)), (chM q).view.loc (c : Thread nD τ) ↦[(chM q).view.set]{fullShare} f)
  | .am _ => iprop(emp)

/-- Row `p` of device `o`'s maxima, at any contents: what lets device `p` write it. -/
def tick (o p : Dev nD) : sProp 𝕄 :=
  iprop(∃ f : Buf (Elt F) ((amM p).view.loc (o : Thread nD τ)), (amM p).view.loc (o : Thread nD τ) ↦[(amM p).view.set]{fullShare} f)

/-- The row of the origin's maxima that the receiver of a first quarter is to write. -/
def tickq (c : Dev nD) (M : Msg) : sProp 𝕄 := if (quart M).val = 0 then tick (F := F) (org M c) c else iprop(emp)

/-- The rows of maxima handed on with the first quarter of each hop: those of the origin, for the receiver and
    for all the devices the slot still reaches. -/
def bagCh (c : Dev nD) (q : Fin 4) : sProp 𝕄 := tickq (F := F) c (.ch q)
def bagCw2 (c : Dev nD) (q : Fin 4) : sProp 𝕄 := tickq (F := F) c (.cw 2 q)
def bagCw1 (c : Dev nD) (q : Fin 4) : sProp 𝕄 := iprop(tickq (F := F) c (.cw 1 q) ∗ bagCw2 (F := F) (rt c) q)
def bagCw0 (c : Dev nD) (q : Fin 4) : sProp 𝕄 :=
  iprop(tickq (F := F) c (.cw 0 q) ∗ bagCw1 (F := F) (rt c) q ∗ (if ev c = true then bagCh (F := F) (pt c) q else iprop(emp)))
def bagCcw2 (c : Dev nD) (q : Fin 4) : sProp 𝕄 := tickq (F := F) c (.ccw 2 q)
def bagCcw1 (c : Dev nD) (q : Fin 4) : sProp 𝕄 := iprop(tickq (F := F) c (.ccw 1 q) ∗ bagCcw2 (F := F) (lf c) q)
def bagCcw0 (c : Dev nD) (q : Fin 4) : sProp 𝕄 :=
  iprop(tickq (F := F) c (.ccw 0 q) ∗ bagCcw1 (F := F) (lf c) q ∗ (if ev c = true then iprop(emp) else bagCh (F := F) (pt c) q))

def bag (c : Dev nD) (M : Msg) : sProp 𝕄 := match M with
  | .cw 0 q => bagCw0 c q
  | .cw 1 q => bagCw1 c q
  | .cw 2 q => bagCw2 c q
  | .ccw 0 q => bagCcw0 c q
  | .ccw 1 q => bagCcw1 c q
  | .ccw 2 q => bagCcw2 c q
  | .ch q => bagCh c q
  | .am _ => iprop(emp)

/-- The pieces of memory device `c` holds along the way. -/
inductive Pc where
  | sl (k : Fin 3) (M : Msg)
  | lam (d : Fin 7)
  | xa
  | xs (k : Fin 3) (q : Fin 4)
  | row (d : Fin 8)
  | tk (M : Msg)
  | bg (M : Msg)
  | bxe (q : Fin 4)
  | bxo (q : Fin 4)
  | o2 (q : Fin 4)
  | rs (q : Fin 4)
  deriving DecidableEq

def pcP (c : Dev nD) (p : Pc) : sProp 𝕄 := match p with
  | .sl k M => lnd m c M (sh3 k)
  | .lam d => lnd m c (.am d) fullShare
  | .xa => xM.view.loc (c : Thread nD τ) ↦[xM.view.set]{sh3 0} X m c
  | .xs k q => (xqM q).view.loc (c : Thread nD τ) ↦[(xqM q).view.set]{sh3 k} X m c
  | .row d => (amM c).view.loc (c : Thread nD τ) ↦[(amM c).view.set]{sh8 d} amx m
  | .tk M => tickq c M
  | .bg M => match M with
    | .am d => tick (tgt (.am d) c) c
    | .cw h q => bag (rt c) (.cw h q)
    | .ccw h q => bag (lf c) (.ccw h q)
    | .ch q => bag (pt c) (.ch q)
  | .bxe q => if ev c = true then bag (F := F) (pt c) (.ch q) else iprop(emp)
  | .bxo q => if ev c = true then iprop(emp) else bag (F := F) (pt c) (.ch q)
  | .o2 q => if ev c = true then iprop(emp) else lnd m c (.cw 0 q) (sh3 2)
  | .rs q => if ev c = true then lnd m c (.ccw 0 q) (sh3 2) else lnd m c (.cw 0 q) (sh3 2)

/-- The piece a message is read from. -/
def src (c : Dev nD) (M : Msg) : Pc := match M with
  | .cw 0 q => .xs 1 q
  | .cw 1 q => .sl 1 (.cw 0 q)
  | .cw 2 q => .sl 1 (.cw 1 q)
  | .ccw 0 q => .xs 2 q
  | .ccw 1 q => .sl 1 (.ccw 0 q)
  | .ccw 2 q => .sl 1 (.ccw 1 q)
  | .ch q => if ev c = true then .sl 2 (.cw 0 q) else .sl 2 (.ccw 0 q)
  | .am d => .row d.castSucc

/-- Assertions of a list's members, conjoined. -/
def sepL {α : Type} (Φ : α → sProp 𝕄) : List α → sProp 𝕄
  | [] => iprop(emp)
  | a :: l => iprop(Φ a ∗ sepL Φ l)

/-! ## The schedule -/

abbrev cwAll : List Msg := [.cw 0 0, .cw 0 1, .cw 0 2, .cw 0 3, .cw 1 0, .cw 1 1, .cw 1 2, .cw 1 3, .cw 2 0, .cw 2 1, .cw 2 2, .cw 2 3]
abbrev ccwAll : List Msg := [.ccw 0 0, .ccw 0 1, .ccw 0 2, .ccw 0 3, .ccw 1 0, .ccw 1 1, .ccw 1 2, .ccw 1 3, .ccw 2 0, .ccw 2 1, .ccw 2 2, .ccw 2 3]
abbrev chAll : List Msg := [.ch 0, .ch 1, .ch 2, .ch 3]

/-- What the three signals of device `c`'s barrier bring: the slots of the three devices it sends to. -/
def barPay (c : Dev nD) (d : Fin 3) : sProp 𝕄 := match d with
  | 0 => sepL (dst (F := F) (rt c)) cwAll
  | 1 => sepL (dst (F := F) (lf c)) ccwAll
  | 2 => sepL (dst (F := F) (pt c)) chAll

def winPay (c : Dev nD) (s : Fin 2) (r : ℕ) : sProp 𝕄 :=
  iprop(((wsM s).view.loc (c : Thread nD τ) ↦[(wsM s).view.set]{fullShare} wsC m c s r)
    ∗ (wrM (Fin.ofNat 16 (2 * r + s.val))).view.loc (c : Thread nD τ) ↦[(wrM (Fin.ofNat 16 (2 * r + s.val))).view.set]{fullShare} m ((c : Thread nD τ).loc main_arg1))

def outPay (c : Dev nD) (j : Fin 8) : sProp 𝕄 :=
  iprop(((resM j).view.loc (c : Thread nD τ) ↦[(resM j).view.set]{fullShare} resC m c)
    ∗ (outM j).view.loc (c : Thread nD τ) ↦[(outM j).view.set]{fullShare} resC m c)

def dPay (c : Dev nD) (r : ℕ) : Role → sProp 𝕄
  | .none => iprop(emp)
  | .snd M => pcP m c (src c M)
  | .rcv M => iprop(lnd m c M fullShare ∗ bag c M)
  | .win s => winPay m c s r
  | .out j => outPay m c j

def dAmt : Role → ℕ
  | .none => 1
  | .snd M => amt M
  | .rcv M => amt M
  | .win _ => NW
  | .out _ => NO

def dDut (r : ℕ) : Role → Finset (Fin 3)
  | .none => ∅
  | .win _ => if r < 8 then {0} else ∅
  | _ => if r = 0 then {0} else ∅

theorem dAmt_pos : ∀ k : Role, 0 < dAmt k
  | .none => Nat.one_pos
  | .snd M => amt_pos M
  | .rcv M => amt_pos M
  | .win _ => NW_pos
  | .out _ => NO_pos

def Rd : Rounds.Schedule (GSem nD τ sig) (Fin 3) 𝕄 where
  duties g r := match g.2 with
    | .reg _ => if g.1.2 = .tc ∧ r = 0 then Finset.univ else ∅
    | .dma i => if g.1.2 = .tc then dDut r (role i) else ∅
  unitless _ := False
  amount g _ _ := match g.2 with
    | .reg _ => 1
    | .dma i => dAmt (role i)
  payload g r d := match g.2 with
    | .reg _ => barPay g.1.1 d
    | .dma i => dPay m g.1.1 r (role i)
  amount_pos g _ _ _ := match g.2 with
    | .reg _ => Nat.one_pos
    | .dma i => dAmt_pos (role i)

section Storable
omit [FloatOps F] in
instance sepL_storable {α : Type} (Φ : α → sProp 𝕄) [∀ a, BI.Storable (upEmb : UEmb _ 𝕄) (Φ a)] (l : List α) :
    BI.Storable (upEmb : UEmb _ 𝕄) (sepL Φ l) := by
  induction l with
  | nil => unfold sepL; infer_instance
  | cons a l ih => unfold sepL; infer_instance
instance lnd_storable (c M s) : BI.Storable (upEmb : UEmb _ 𝕄) (lnd m c M s) := by cases M <;> (unfold lnd; infer_instance)
instance dst_storable (c M) : BI.Storable (upEmb : UEmb _ 𝕄) (dst (F := F) c M) := by cases M <;> (unfold dst; infer_instance)
instance tick_storable (o p) : BI.Storable (upEmb : UEmb _ 𝕄) (tick (F := F) o p) := by unfold tick; infer_instance
instance tickq_storable (o p) : BI.Storable (upEmb : UEmb _ 𝕄) (tickq (F := F) o p) := by unfold tickq; split <;> infer_instance
instance bag_storable (c M) : BI.Storable (upEmb : UEmb _ 𝕄) (bag (F := F) c M) := by
  unfold bag; split <;> (try unfold bagCw0) <;> (try unfold bagCw1) <;> (try unfold bagCw2) <;> (try unfold bagCcw0) <;> (try unfold bagCcw1) <;>
    (try unfold bagCcw2) <;> (try unfold bagCh) <;> (try split) <;> infer_instance
instance pcP_storable (c p) : BI.Storable (upEmb : UEmb _ 𝕄) (pcP m c p) := by cases p <;> (unfold pcP; dsimp only; (repeat' split) <;> infer_instance)
instance winPay_storable (c s r) : BI.Storable (upEmb : UEmb _ 𝕄) (winPay m c s r) := by unfold winPay; infer_instance
instance outPay_storable (c j) : BI.Storable (upEmb : UEmb _ 𝕄) (outPay m c j) := by unfold outPay; infer_instance
instance barPay_storable (c d) : BI.Storable (upEmb : UEmb _ 𝕄) (barPay (F := F) c d) := by unfold barPay; split <;> infer_instance
instance dPay_storable (c r k) : BI.Storable (upEmb : UEmb _ 𝕄) (dPay m c r k) := by cases k <;> (unfold dPay; infer_instance)
instance Rd_storable (g : GSem nD τ sig) (r : ℕ) (d : Fin 3) : BI.Storable (upEmb : UEmb _ 𝕄) ((Rd m).payload g r d) := by
  show BI.Storable upEmb (match g.2 with | .reg _ => barPay g.1.1 d | .dma i => dPay m g.1.1 r (role i))
  split <;> infer_instance
end Storable

end Cert.KernelIdealProof
-- ==== Proof.KIState.lean ====
/-
The schedule's facts, the levels of the semaphores, the state one device is in between two operations, and
what a send, a wait and a load do to it.
-/
module

public import proofs.«01_k».proof.Proof.KISched

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Facts of the schedule -/

theorem duties_bar (c : Dev nD) : (Rd m).duties (barCell c) 0 = Finset.univ := by dsimp only [Rd]; exact if_pos ⟨rfl, rfl⟩
theorem duties_d (c : Dev nD) (i : DmaSem sig) (r : ℕ) : (Rd m).duties (dCell c i) r = dDut r (role i) := by dsimp only [Rd]; exact if_pos rfl
theorem amount_bar (c : Dev nD) (d : Fin 3) : (Rd m).amount (barCell c) 0 d = 1 := rfl
theorem amount_d (c : Dev nD) (i : DmaSem sig) (r : ℕ) (d : Fin 3) : (Rd m).amount (dCell c i) r d = dAmt (role i) := rfl
theorem payload_bar (c : Dev nD) (d : Fin 3) : (Rd m).payload (barCell c) 0 d = barPay c d := rfl
theorem payload_d (c : Dev nD) (i : DmaSem sig) (r : ℕ) (d : Fin 3) : (Rd m).payload (dCell c i) r d = dPay m c r (role i) := rfl
theorem expect_bar (c : Dev nD) : (Rd m).expect (barCell c) 0 = 3 := by
  unfold Schedule.expect Schedule.amountOf
  rw [duties_bar, Finset.sum_congr rfl fun d _ => amount_bar m c d, Finset.sum_const, Finset.card_univ, Fintype.card_fin, smul_eq_mul]
theorem expect_d (c : Dev nD) (i : DmaSem sig) (r : ℕ) (h : dDut r (role i) = {0}) : (Rd m).expect (dCell c i) r = dAmt (role i) := by
  unfold Schedule.expect Schedule.amountOf; rw [duties_d, h, Finset.sum_singleton, amount_d]
theorem rest_d (c : Dev nD) (i : DmaSem sig) (r : ℕ) (h : dDut r (role i) = {0}) :
    bigSep ((Rd m).duties (dCell c i) r \ ∅) (fun d => (Rd m).payload (dCell c i) r d) = dPay m c r (role i) := by
  rw [Finset.sdiff_empty, duties_d, h, bigSep_singleton, payload_d]
theorem rest_bar (c : Dev nD) : bigSep ((Rd m).duties (barCell c) 0 \ ∅) (fun d => (Rd m).payload (barCell c) 0 d)
    = iprop(barPay c 0 ∗ barPay c 1 ∗ barPay c 2) := by
  rw [Finset.sdiff_empty, duties_bar, bigSep_univ_eq_bigSepL [0, 1, 2] (by decide) (by decide)]
  rfl
theorem later_bar (c : Dev nD) : ∀ r, 0 + 1 ≤ r → (Rd m).duties (barCell c) r = ∅ := fun r hr => by
  dsimp only [Rd]; exact if_neg fun h => by omega
theorem later_d (c : Dev nD) (i : DmaSem sig) (h : ∀ s, role i ≠ .win s) : ∀ r, 0 + 1 ≤ r → (Rd m).duties (dCell c i) r = ∅ := fun r hr => by
  rw [duties_d]; cases hk : role i with
  | win s => exact absurd hk (h s)
  | none => rfl
  | _ => exact if_neg (by omega)
theorem later_w (c : Dev nD) (s : Fin 2) : ∀ r, 7 + 1 ≤ r → (Rd m).duties (dCell c (sW s)) r = ∅ := fun r hr => by
  rw [duties_d, role_sW]; exact if_neg (by omega)

/-! ## Levels and what a device owes -/

def lvM : Msg → ℕ
  | .cw h _ => 2 + h.val
  | .ccw h _ => 2 + h.val
  | .ch _ => 5
  | .am _ => 6

def L (g : GSem nD τ sig) : Finset Unit := if g.1.2 = .tc then {()} else ∅
def lvI (i : DmaSem sig) : ℕ := match role i with
  | .rcv M => lvM M
  | _ => 0
def lv (g : GSem nD τ sig) (_ : Unit) : ℕ := match g.2 with
  | .reg _ => 1
  | .dma i => lvI i

theorem L_of_ne (g : GSem nD τ sig) (h : g.1.2 ≠ .tc) : L g = ∅ := if_neg h
theorem L_tc (c : Dev nD) (sm : SemLoc sig) : L ((c : Thread nD τ), sm) = {()} := if_pos rfl
theorem lvI_sR (M : Msg) : lvI (sR M) = lvM M := by unfold lvI; rw [role_sR]
theorem lvI_sS (M : Msg) : lvI (sS M) = 0 := by unfold lvI; rw [role_sS]
theorem lvI_sW (M) : lvI (sW M) = 0 := by unfold lvI; rw [role_sW]
theorem lvI_sO (M) : lvI (sO M) = 0 := by unfold lvI; rw [role_sO]
theorem lvM_pos (M : Msg) : 1 < lvM M := by cases M <;> simp only [lvM] <;> omega

/-- The arrivals a device has still to bring about. -/
def Osum (c : Dev nD) : List Msg → CellTallies nD τ sig Unit
  | [] => 0
  | M :: l => Osum c l + tallyAt (dCell (tgt M c) (sR M)) () (amt M)

theorem Osum_pos {c : Dev nD} {l : List Msg} {g : GSem nD τ sig} {u : Unit} (h : 0 < Osum c l g u) : ∃ M ∈ l, g = dCell (tgt M c) (sR M) := by
  induction l with
  | nil => exact absurd h (Nat.lt_irrefl 0)
  | cons M l ih =>
    unfold Osum at h
    rw [Pi.add_apply, Finsupp.add_apply, tallyAt_apply] at h
    by_cases h' : g = dCell (tgt M c) (sR M) ∧ u = ()
    · exact ⟨M, List.mem_cons_self, h'.1⟩
    · rw [if_neg h', Nat.add_zero] at h
      obtain ⟨M', hM, hg⟩ := ih h
      exact ⟨M', List.mem_cons_of_mem _ hM, hg⟩

theorem Osum_perm (c : Dev nD) {l l' : List Msg} (h : l.Perm l') : Osum c l = Osum c l' := by
  induction h with
  | nil => rfl
  | cons M _ ih => unfold Osum; rw [ih]
  | swap M M' l => unfold Osum; unfold Osum; rw [add_assoc, add_assoc, add_comm (tallyAt _ _ _)]
  | trans _ _ h h' => exact h.trans h'

theorem mayWait_d (c : Dev nD) (i : DmaSem sig) (l : List Msg) (h : ∀ M ∈ l, lvI i < lvM M) :
    (levAts L lv : sProp 𝕄) ⊢ MayWait (c : Thread nD τ) (.dma i) () (Osum c l) :=
  MayOwe.of_cut (L := L) (lev := lv) (lvI i) (fun p hp => by rw [Finset.mem_singleton.mp hp, L_tc]; exact Finset.mem_singleton_self _)
    (fun g u hg => by obtain ⟨M, -, rfl⟩ := Osum_pos hg; rw [L_tc]; exact Finset.mem_singleton_self _)
    (fun p hp => by rw [Finset.mem_singleton.mp hp]; exact le_refl (lvI i))
    (fun g u hg => by obtain ⟨M, hM, rfl⟩ := Osum_pos hg; show lvI i < lvI (sR M); rw [lvI_sR]; exact h M hM)

theorem mayWait_bar (c : Dev nD) (l : List Msg) :
    (levAts L lv : sProp 𝕄) ⊢ MayWait (c : Thread nD τ) (.reg barS) () (Osum c l) :=
  MayOwe.of_cut (L := L) (lev := lv) 1 (fun p hp => by rw [Finset.mem_singleton.mp hp, L_tc]; exact Finset.mem_singleton_self _)
    (fun g u hg => by obtain ⟨M, -, rfl⟩ := Osum_pos hg; rw [L_tc]; exact Finset.mem_singleton_self _)
    (fun p hp => by rw [Finset.mem_singleton.mp hp]; exact le_refl 1)
    (fun g u hg => by obtain ⟨M, hM, rfl⟩ := Osum_pos hg; show 1 < lvI (sR M); rw [lvI_sR]; exact lvM_pos M)

/-! ## The cells' invariants -/

set_option backward.proofsInPublic true in
/-- One device's cells: the barrier and the eighty DMA semaphores of the kernel. -/
def csem : Option (Fin 80) → SemLoc sig
  | none => .reg barS
  | some j => .dma (⟨j.val + 1, by show _ < 81; omega⟩ : Fin 81)
abbrev kcell (ck : Dev nD × Option (Fin 80)) : GSem nD τ sig := ((ck.1 : Thread nD τ), csem ck.2)

variable (K : Dev nD × Option (Fin 80) → ℕ)

/-- Every cell's invariant, that its first round is reached, and the levels. -/
def ctx : sProp 𝕄 :=
  iprop(bigSep Finset.univ (fun ck => iprop(cellInv ER (Rd m) (K ck) (kcell ck) ∗ reached ER (kcell ck) 0)) ∗ levAts L lv)

instance ctx_persistent : BI.Persistent (ctx m K) := by unfold ctx; infer_instance

def kd (c : Dev nD) (i : DmaSem sig) : ℕ := K (c, some (⟨i.val - 1, by
  have h : i.val < 81 := i.isLt
  omega⟩ : Fin 80))

theorem cell_mem (ck : Dev nD × Option (Fin 80)) :
    (bigSep Finset.univ (fun ck => iprop(cellInv ER (Rd m) (K ck) (kcell ck) ∗ reached ER (kcell ck) 0)) : sProp 𝕄)
      ⊢ iprop(cellInv ER (Rd m) (K ck) (kcell ck) ∗ reached ER (kcell ck) 0) :=
  bigSep_elim (Φ := fun ck => iprop(cellInv ER (Rd m) (K ck) (kcell ck) ∗ reached ER (kcell ck) 0)) (Finset.mem_univ ck)

theorem ctx_bar (c : Dev nD) : ctx m K ⊢ iprop(cellInv ER (Rd m) (K (c, none)) (barCell c) ∗ reached ER (barCell c) 0) := by
  unfold ctx
  iintro ⟨H, -⟩
  iapply (cell_mem m K (c, none))
  iexact H

theorem ctx_d (c : Dev nD) (i : DmaSem sig) (h : 0 < i.val) :
    ctx m K ⊢ iprop(cellInv ER (Rd m) (kd K c i) (dCell c i) ∗ reached ER (dCell c i) 0) := by
  unfold ctx
  have hi : dCell c i = kcell (c, some (⟨i.val - 1, by have h : i.val < 81 := i.isLt; omega⟩ : Fin 80)) := by
    show ((c : Thread nD τ), SemLoc.dma i) = ((c : Thread nD τ), SemLoc.dma _)
    congr 2
    apply Fin.ext
    show i.val = i.val - 1 + 1
    omega
  rw [hi]
  iintro ⟨H, -⟩
  iapply (cell_mem m K (c, some (⟨i.val - 1, by have h : i.val < 81 := i.isLt; omega⟩ : Fin 80)))
  iexact H

theorem ctx_lev : ctx m K ⊢ levAts L lv := by unfold ctx; iintro ⟨-, H⟩; iexact H

theorem sS_pos (M : Msg) : 0 < (sS M : Fin 81).val := by revert M; decide
theorem sR_pos (M : Msg) : 0 < (sR M : Fin 81).val := by revert M; decide
theorem sW_pos (s : Fin 2) : 0 < (sW s : Fin 81).val := by revert s; decide
theorem sO_pos (s : Fin 8) : 0 < (sO s : Fin 81).val := by revert s; decide

/-! ## One device's state -/

/-- What sending a message takes besides its source: the two duties it pays, the position at the cell its departure
    completes on, and its landing place. -/
def sndR (c : Dev nD) (M : Msg) : sProp 𝕄 :=
  iprop(dutyTok ER (dCell c (sS M)) 0 0 ∗ dutyTok ER (dCell (tgt M c) (sR M)) 0 0 ∗ atPos ER (dCell c (sS M)) 0 ∅ 0 ∗ dst (F := F) (tgt M c) M)
/-- What waiting for its arrival, and for its departure, takes. -/
def rcvR (c : Dev nD) (M : Msg) : sProp 𝕄 :=
  iprop(cred (tallyAt (dCell c (sR M)) () (amt M)) ∗ atPos ER (dCell c (sR M)) 0 ∅ 0)
def sntR (c : Dev nD) (M : Msg) : sProp 𝕄 :=
  iprop(cred (tallyAt (dCell c (sS M)) () (amt M)) ∗ atPos ER (dCell c (sS M)) 0 ∅ 0)
def zR (c : Dev nD) (i : DmaSem sig) : sProp 𝕄 := semVal (dCell c i) 0

/-- Device `c` with the messages `l` to send, `r` to receive, `s` sent and not yet waited for, the semaphores `d` done with,
    the pieces `g` and the rest `R`. -/
def ST (c : Dev nD) (l r s : List Msg) (d : List (DmaSem sig)) (g : List Pc) (R : sProp 𝕄) : sProp 𝕄 :=
  iprop(ctx m K ∗ (∃ W, owes (c : Thread nD τ) (Osum c l) W) ∗ sepL (sndR (F := F) c) l ∗ sepL (rcvR (F := F) c) r ∗ sepL (sntR (F := F) c) s
    ∗ sepL (zR (F := F) c) d ∗ sepL (pcP m c) g ∗ R)

abbrev 𝒱₀ : Variants := Variants.none
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

omit [FloatOps F] in
theorem sepL_split {α : Type} (Φ : α → sProp 𝕄) (l l' : List α) : sepL Φ (l ++ l') ⊢ iprop(sepL Φ l ∗ sepL Φ l') := by
  induction l with
  | nil => iintro H; isplitr; · (unfold sepL; iempintro)
           iexact H
  | cons a l ih =>
    show iprop(Φ a ∗ sepL Φ (l ++ l')) ⊢ iprop((Φ a ∗ sepL Φ l) ∗ sepL Φ l')
    iintro ⟨H1, H2⟩
    ihave H := ih $$ H2
    icases H with ⟨Ha, Hb⟩
    isplitr [Hb]
    · isplitl [H1] <;> iassumption
    iexact Hb

omit [FloatOps F] in
theorem sepL_join {α : Type} (Φ : α → sProp 𝕄) (l l' : List α) : iprop(sepL Φ l ∗ sepL Φ l') ⊢ sepL Φ (l ++ l') := by
  induction l with
  | nil => iintro ⟨-, H⟩; iexact H
  | cons a l ih =>
    show iprop((Φ a ∗ sepL Φ l) ∗ sepL Φ l') ⊢ iprop(Φ a ∗ sepL Φ (l ++ l'))
    iintro ⟨⟨H1, H2⟩, H3⟩
    isplitl [H1]; · iexact H1
    iapply ih
    isplitl [H2] <;> iassumption

omit [FloatOps F] in
theorem sepL_perm {α : Type} (Φ : α → sProp 𝕄) {l l' : List α} (h : l.Perm l') : sepL Φ l ⊢ sepL Φ l' := by
  induction h with
  | nil => exact BI.Entails.refl _
  | cons a _ ih => exact sep_mono_right ih
  | swap a b l =>
    unfold sepL; unfold sepL
    iintro ⟨H1, H2, H3⟩
    isplitl [H2]; · iexact H2
    isplitl [H1] <;> iassumption
  | trans _ _ h h' => exact h.trans h'

omit [FloatOps F] in
theorem sepL_mem {α : Type} (Φ : α → sProp 𝕄) {a : α} {l : List α} (h : a ∈ l) : sepL Φ l ⊢ iprop(Φ a ∗ (Φ a -∗ sepL Φ l)) := by
  induction l with
  | nil => exact absurd h List.not_mem_nil
  | cons b l ih =>
    rcases List.mem_cons.mp h with rfl | h
    · unfold sepL
      iintro ⟨H1, H2⟩
      isplitl [H1]; · iexact H1
      iintro H1
      isplitl [H1] <;> iassumption
    · unfold sepL
      iintro ⟨H1, H2⟩
      ihave H := (ih h) $$ H2
      icases H with ⟨Ha, Hk⟩
      isplitl [Ha]; · iexact Ha
      iintro Ha
      isplitl [H1]; · iexact H1
      iapply Hk
      iexact Ha

end Cert.KernelIdealProof
-- ==== Proof.KICore.lean ====
/-
One operation of the ring kernel at a time: sending a message, waiting for its arrival or its departure,
at the memrefs the kernel names.
-/
module

public import proofs.«01_k».proof.Proof.KIState

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Option (Fin 80) → ℕ)
variable {l r s : List Msg} {d : List (DmaSem sig)} {g : List Pc} {R : sProp (MT nD τ sig Unit (Elt F) ℕ UU ℕ)}
variable {α : Type} {Q : α → sProp (MT nD τ sig Unit (Elt F) ℕ UU ℕ)}

omit [FloatOps F] in
theorem sepL_cons {β : Type} (Φ : β → sProp 𝕄) (a : β) (l : List β) : sepL Φ (a :: l) = iprop(Φ a ∗ sepL Φ l) := rfl

/-! ## Rearranging the state -/

theorem st_perm (c : Dev nD) {l' r' s' : List Msg} {d' : List (DmaSem sig)} {g' : List Pc} (hl : l.Perm l') (hr : r.Perm r') (hs : s.Perm s') (hd : d.Perm d') (hg : g.Perm g') :
    ST m K c l r s d g R ⊢ ST m K c l' r' s' d' g' R := by
  unfold ST
  rw [Osum_perm c hl]
  iintro ⟨#Hc, Ho, Hl, Hr, Hs, Hd, Hg, HR⟩
  isplitr; · iexact Hc
  isplitl [Ho]; · iexact Ho
  isplitl [Hl]; · iapply (sepL_perm _ hl); iexact Hl
  isplitl [Hr]; · iapply (sepL_perm _ hr); iexact Hr
  isplitl [Hs]; · iapply (sepL_perm _ hs); iexact Hs
  isplitl [Hd]; · iapply (sepL_perm _ hd); iexact Hd
  isplitl [Hg]; · iapply (sepL_perm _ hg); iexact Hg
  iexact HR

theorem st_rest (c : Dev nD) {R' : sProp 𝕄} (h : R ⊢ R') : ST m K c l r s d g R ⊢ ST m K c l r s d g R' := by
  unfold ST
  iintro ⟨#Hc, Ho, Hl, Hr, Hs, Hd, Hg, HR⟩
  isplitr; · iexact Hc
  isplitl [Ho]; · iexact Ho
  isplitl [Hl]; · iexact Hl
  isplitl [Hr]; · iexact Hr
  isplitl [Hs]; · iexact Hs
  isplitl [Hd]; · iexact Hd
  isplitl [Hg]; · iexact Hg
  iapply h
  iexact HR

/-- Pieces changed for others, with some of the rest. -/
theorem st_pieces (c : Dev nD) {g₁ g₂ : List Pc} {R' : sProp 𝕄} (h : iprop(sepL (pcP m c) g₁ ∗ R) ⊢ iprop(sepL (pcP m c) g₂ ∗ R')) :
    ST m K c l r s d (g₁ ++ g) R ⊢ ST m K c l r s d (g₂ ++ g) R' := by
  unfold ST
  iintro ⟨#Hc, Ho, Hl, Hr, Hs, Hd, Hg, HR⟩
  ihave Hg := (sepL_split _ _ _) $$ Hg
  icases Hg with ⟨Hg1, Hg⟩
  ihave Hx := h $$ [Hg1 HR]
  · isplitl [Hg1] <;> iassumption
  icases Hx with ⟨Hg1, HR⟩
  isplitr; · iexact Hc
  isplitl [Ho]; · iexact Ho
  isplitl [Hl]; · iexact Hl
  isplitl [Hr]; · iexact Hr
  isplitl [Hs]; · iexact Hs
  isplitl [Hd]; · iexact Hd
  isplitl [Hg Hg1]; · iapply (sepL_join _ _ _); isplitl [Hg1] <;> iassumption
  iexact HR

/-! ## Sending -/

theorem send_core (c : Dev nD) (M : Msg) {e : EltTy} {sp sp' : Space} {sh : Shape} (srcm : Memref sig .tc sp sh e) (dstm : Memref sig .tc sp' sh e)
    {q : PosShare TreeShare} {fs : Buf (Elt F) (srcm.view.loc (c : Thread nD τ))}
    (hs : pcP m c (src c M) = (srcm.view.loc (c : Thread nD τ) ↦[srcm.view.set]{q} fs))
    (hd : iprop(dst (F := F) (tgt M c) M ∗ pcP m c (.bg M))
      ⊢ iprop((∃ f : Buf (Elt F) (dstm.view.loc (tgt M c : Thread nD τ)), dstm.view.loc (tgt M c : Thread nD τ) ↦[dstm.view.set]{fullShare} f) ∗ bag (F := F) (tgt M c) M))
    (hl : ∀ f : Buf (Elt F) (dstm.view.loc (tgt M c : Thread nD τ)),
      (dstm.view.loc (tgt M c : Thread nD τ) ↦[dstm.view.set]{fullShare} dstm.view.write (Elt F) f (srcm.view.read (Elt F) fs) Finset.univ) ⊢ lnd m (tgt M c) M fullShare)
    (hN : dstm.view.dmaCredit = amt M) {n : Dev nD} (hn : n = tgt M c) {sS' sR' : DmaSem sig} (hsS : sS' = sS M) (hsR : sR' = sR M)
    {hsc : dstm.view.ref.isScScratch = false} {hsrc : srcm.view.WordExact} {hdst : dstm.view.WordExact}
    {hsem : DmaTarget.Typed sp (.dma sR') (.remote (Dev.tc n : Thread nD τ) dstm (.dma sS') hsc)}
    {k : PUnit → Prog (TpuEff nD τ sig (Elt F) Λ₀ .tc) α}
    (hk : ST m K c l r (M :: s) d g R ⊢ WP c (k ⟨⟩) Q) :
    ST m K c (M :: l) r s d (src c M :: .bg M :: g) R
      ⊢ WP c (.op (.enqueueDma srcm (.remote (Dev.tc n : Thread nD τ) dstm (.dma sS') hsc) (.dma sR') hsrc hdst hsem) k) Q := by
  subst hn hsS hsR
  simp only [ST, sepL_cons, sndR, rcvR, sntR, zR]
  iintro ⟨#Hc, ⟨%W, Ho⟩, ⟨⟨Ht1, Ht2, Hat, Hdst⟩, Hl⟩, Hr, Hs, Hd, ⟨Hsrc, Hbg, Hg⟩, HR⟩
  ihave Hx := hd $$ [Hdst Hbg]
  · isplitl [Hdst] <;> iassumption
  icases Hx with ⟨⟨%f, Hdst⟩, Hbag⟩
  ihave H1 := (ctx_d m K c (sS M) (sS_pos M)) $$ Hc
  icases H1 with ⟨#HI1, #Hr1⟩
  ihave H2 := (ctx_d m K (tgt M c) (sR M) (sR_pos M)) $$ Hc
  icases H2 with ⟨#HI2, #Hr2⟩
  ihave Hsrc := (Entails.of_eq hs) $$ Hsrc
  iapply (Rounds.wp_send_pointsTo_with 𝒱₀ ER (Rd m) (c : Thread nD τ) none (κ₁ := kd K c (sS M)) (κ₂ := kd K (tgt M c) (sR M))
    (c' := (tgt M c : Thread nD τ)) (r₁ := 0) (r₂ := 0) (d₁ := 0) (d₂ := 0) (fd := f) (F := bag (F := F) (tgt M c) M)
    (by rw [duties_d, role_sS]; exact Finset.mem_singleton_self _) (by rw [duties_d, role_sR]; exact Finset.mem_singleton_self _)
    () () (amt M) ((View.amount_dma _ _).trans hN) (by rw [amount_d, role_sS]; rfl) (by rw [amount_d, role_sR]; rfl) (Osum c l) rfl (W := W)
    (by rw [payload_d, role_sS]; exact Entails.of_eq hs.symm)
    (by rw [payload_d, role_sR]; exact sep_mono_left (hl f))) $$ [Ht1 Ht2 Hdst Hbag Ho Hsrc]
  · isplitr; · iexact HI1
    isplitr; · iexact HI2
    isplitl [Hsrc]; · iexact Hsrc
    isplitl [Hdst Hbag]
    · isplitl [Hdst] <;> iassumption
    isplitl [Ho]; · iexact Ho
    isplitl [Ht1]; · iexact Ht1
    isplitr; · iexact Hr1
    isplitl [Ht2]; · iexact Ht2
    iexact Hr2
  iintro ⟨Hcr, Ho⟩
  iapply hk
  simp only [ST, sepL_cons, sndR, rcvR, sntR, zR]
  isplitr; · iexact Hc
  isplitl [Ho]; · iexists W; iexact Ho
  isplitl [Hl]; · iexact Hl
  isplitl [Hr]; · iexact Hr
  isplitl [Hs Hcr Hat]
  · isplitl [Hcr Hat]
    · isplitl [Hcr] <;> iassumption
    iexact Hs
  isplitl [Hd]; · iexact Hd
  isplitl [Hg]; · iexact Hg
  iexact HR

/-! ## Waiting -/

theorem wait_recv_core (c : Dev nD) (M : Msg) (gn : List Pc) {e e' : EltTy} {sp sp' : Space} {sh sh' : Shape} (srcm : Memref sig .tc sp' sh' e') (dstm : Memref sig .tc sp sh e)
    (hnew : iprop(lnd m c M fullShare ∗ bag (F := F) c M) ⊢ sepL (pcP m c) gn)
    (hlev : ∀ M' ∈ l, lvM M < lvM M')
    (hN : dstm.view.dmaCredit = amt M) {sR' : DmaSem sig} (hsR : sR' = sR M)
    {hsrc : srcm.view.WordExact} {hdst : dstm.view.WordExact}
    {k : PUnit → Prog (TpuEff nD τ sig (Elt F) Λ₀ .tc) α}
    (hk : ST m K c l r s (sR M :: d) (gn ++ g) R ⊢ WP c (k ⟨⟩) Q) :
    ST m K c l (M :: r) s d g R ⊢ WP c (.op (.waitDma2 sR' srcm dstm hsrc hdst) k) Q := by
  subst hsR
  simp only [ST, sepL_cons, sndR, rcvR, sntR, zR]
  iintro ⟨#Hc, ⟨%W, Ho⟩, Hl, ⟨⟨Hcr, Hat⟩, Hr⟩, Hs, Hd, Hg, HR⟩
  ihave H1 := (ctx_d m K c (sR M) (sR_pos M)) $$ Hc
  icases H1 with ⟨#HI1, #Hr1⟩
  iapply (Rounds.wp_wait_rest_token 𝒱₀ ER (Rd m) (c : Thread nD τ) none (κ := kd K c (sR M))
      (wpE_waitDma2_eq 𝒱₀ (c : Thread nD τ) none Set.univ) (Set.mem_univ _) () (O := Osum c l) (W := W) (R := 0) (m := 0) (T := ∅)
      (by rw [Nat.zero_add, expect_d m c _ _ (by rw [role_sR]; rfl), role_sR]; exact hN)) $$ [Hcr Ho Hat]
  · isplitr; · iexact HI1
    isplitl [Hcr]; · rw [hN]; iexact Hcr
    isplitl [Ho]; · iexact Ho
    isplitr
    · iapply (mayWait_d c (sR M) l (by rw [lvI_sR]; exact hlev)); iapply (ctx_lev m K); iexact Hc
    iexact Hat
  iintro ⟨Ho, Hat, -, Hpay⟩
  ihave Hp := (Entails.of_eq ((rest_d m c (sR M) 0 (by rw [role_sR]; rfl)).trans (by rw [role_sR]; rfl : _ = iprop(lnd m c M fullShare ∗ bag (F := F) c M)))) $$ Hpay
  ihave Hp := hnew $$ Hp
  imod (Rounds.cell_close ER (Rd m) (Set.mem_univ (kd K c (sR M))) (fun h => h) (R := 0 + 1)
    (later_d m c (sR M) (fun s => by rw [role_sR]; exact fun h => by cases h))) $$ [Hat] with Hz
  · isplitr; · iexact HI1
    iexact Hat
  iapply hk
  simp only [ST, sepL_cons, sndR, rcvR, sntR, zR]
  isplitr; · iexact Hc
  isplitl [Ho]; · iexists _; iexact Ho
  isplitl [Hl]; · iexact Hl
  isplitl [Hr]; · iexact Hr
  isplitl [Hs]; · iexact Hs
  isplitl [Hd Hz]; · isplitl [Hz] <;> iassumption
  isplitl [Hg Hp]; · iapply (sepL_join _ _ _); isplitl [Hp] <;> iassumption
  iexact HR

theorem wait_send_core (c : Dev nD) (M : Msg) {e e' : EltTy} {sp sp' : Space} {sh sh' : Shape} (srcm : Memref sig .tc sp' sh' e') (dstm : Memref sig .tc sp sh e)
    (hN : dstm.view.dmaCredit = amt M) {sS' : DmaSem sig} (hsS : sS' = sS M)
    {hsrc : srcm.view.WordExact} {hdst : dstm.view.WordExact}
    {k : PUnit → Prog (TpuEff nD τ sig (Elt F) Λ₀ .tc) α}
    (hk : ST m K c l r s (sS M :: d) (src c M :: g) R ⊢ WP c (k ⟨⟩) Q) :
    ST m K c l r (M :: s) d g R ⊢ WP c (.op (.waitDma2 sS' srcm dstm hsrc hdst) k) Q := by
  subst hsS
  simp only [ST, sepL_cons, sndR, rcvR, sntR, zR]
  iintro ⟨#Hc, ⟨%W, Ho⟩, Hl, Hr, ⟨⟨Hcr, Hat⟩, Hs⟩, Hd, Hg, HR⟩
  ihave H1 := (ctx_d m K c (sS M) (sS_pos M)) $$ Hc
  icases H1 with ⟨#HI1, #Hr1⟩
  iapply (Rounds.wp_wait_rest_token 𝒱₀ ER (Rd m) (c : Thread nD τ) none (κ := kd K c (sS M))
      (wpE_waitDma2_eq 𝒱₀ (c : Thread nD τ) none Set.univ) (Set.mem_univ _) () (O := Osum c l) (W := W) (R := 0) (m := 0) (T := ∅)
      (by rw [Nat.zero_add, expect_d m c _ _ (by rw [role_sS]; rfl), role_sS]; exact hN)) $$ [Hcr Ho Hat]
  · isplitr; · iexact HI1
    isplitl [Hcr]; · rw [hN]; iexact Hcr
    isplitl [Ho]; · iexact Ho
    isplitr
    · iapply (mayWait_d c (sS M) l (by rw [lvI_sS]; exact fun M' _ => Nat.lt_of_lt_of_le Nat.zero_lt_one (lvM_pos M').le)); iapply (ctx_lev m K); iexact Hc
    iexact Hat
  iintro ⟨Ho, Hat, -, Hpay⟩
  ihave Hp := (Entails.of_eq ((rest_d m c (sS M) 0 (by rw [role_sS]; rfl)).trans (by rw [role_sS]; rfl : _ = pcP m c (src c M)))) $$ Hpay
  imod (Rounds.cell_close ER (Rd m) (Set.mem_univ (kd K c (sS M))) (fun h => h) (R := 0 + 1)
    (later_d m c (sS M) (fun s => by rw [role_sS]; exact fun h => by cases h))) $$ [Hat] with Hz
  · isplitr; · iexact HI1
    iexact Hat
  iapply hk
  simp only [ST, sepL_cons, sndR, rcvR, sntR, zR]
  isplitr; · iexact Hc
  isplitl [Ho]; · iexists _; iexact Ho
  isplitl [Hl]; · iexact Hl
  isplitl [Hr]; · iexact Hr
  isplitl [Hs]; · iexact Hs
  isplitl [Hd Hz]; · isplitl [Hz] <;> iassumption
  isplitl [Hg Hp]; · isplitl [Hp] <;> iassumption
  iexact HR

end Cert.KernelIdealProof
-- ==== Proof.KIMem.lean ====
/-
Where the elements of the slots and rows lie in their buffers, and what a slot holds once a message landed.
-/
module

public import proofs.«01_k».proof.Proof.KICore

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Elements of the slots -/

omit [FloatOps F] in
theorem ix2_surj {A B : ℕ} (i : (⟨2, ![A, B]⟩ : Shape).Idx) : ∃ a b, i = ix2 a b := ⟨_, _, eq_ix2 i⟩

theorem emb_cw (h : Fin 3) (q : Fin 4) (i : S128x4096.Idx) : (cwM h q).view.emb i = ix4 h q (i 0) (i 1) := by
  obtain ⟨i₀, i₁, rfl⟩ := ix2_surj i
  show (Rect.unit (s := S3x4x128x4096) ![h.val, q.val, 0, 0] S1x1x128x4096.size (inb_slot h.isLt q.isLt)).emb (Shape.reshapeEquiv _ (ix2 i₀ i₁)) = _
  rw [reshapeEquiv_ix2_11ab]
  funext a
  apply Fin.ext
  rw [Rect.emb_apply]
  fin_cases a
  · show h.val + 1 * 0 = h.val; omega
  · show q.val + 1 * 0 = q.val; omega
  · show 0 + 1 * i₀.val = i₀.val; omega
  · show 0 + 1 * i₁.val = i₁.val; omega

theorem emb_ccw (h : Fin 3) (q : Fin 4) (i : S128x4096.Idx) : (ccwM h q).view.emb i = ix4 h q (i 0) (i 1) := emb_cw h q i

theorem emb_ch (q : Fin 4) (i : S128x4096.Idx) : (chM q).view.emb i = ix3 q (i 0) (i 1) := by
  obtain ⟨i₀, i₁, rfl⟩ := ix2_surj i
  show (Rect.unit (s := S4x128x4096) ![q.val, 0, 0] S1x128x4096.size (inb_chslot q.isLt)).emb (Shape.reshapeEquiv _ (ix2 i₀ i₁)) = _
  rw [reshapeEquiv_ix2_1ab]
  funext a
  apply Fin.ext
  rw [Rect.emb_apply]
  fin_cases a
  · show q.val + 1 * 0 = q.val; omega
  · show 0 + 1 * i₀.val = i₀.val; omega
  · show 0 + 1 * i₁.val = i₁.val; omega

theorem emb_ws (s : Fin 2) (i : S256x1024.Idx) : (wsM s).view.emb i = ix3 s (i 0) (i 1) := by
  obtain ⟨i₀, i₁, rfl⟩ := ix2_surj i
  show (Rect.unit (s := S2x256x1024) ![s.val, 0, 0] S1x256x1024.size (inb_stg s.isLt)).emb (Shape.reshapeEquiv _ (ix2 i₀ i₁)) = _
  rw [reshapeEquiv_ix2_1ab]
  funext a
  apply Fin.ext
  rw [Rect.emb_apply]
  fin_cases a
  · show s.val + 1 * 0 = s.val; omega
  · show 0 + 1 * i₀.val = i₀.val; omega
  · show 0 + 1 * i₁.val = i₁.val; omega

/-- Rows `o` on of a buffer with two axes. -/
theorem emb_rows {A B R : ℕ} (o : ℕ) (inb) (i : (⟨2, ![R, B]⟩ : Shape).Idx) (h : o + (i 0).val < A) :
    (Rect.unit (s := (⟨2, ![A, B]⟩ : Shape)) ![o, 0] (⟨2, ![R, B]⟩ : Shape).size inb).emb i = ix2 (⟨o + (i 0).val, h⟩ : Fin A) (i 1 : Fin B) := by
  funext a
  apply Fin.ext
  rw [Rect.emb_apply]
  fin_cases a
  · show o + 1 * (i 0).val = o + (i 0).val; omega
  · show 0 + 1 * (i 1).val = (i 1).val; omega

/-- Contents that agree on a piece once written over. -/
theorem write_lands {c : Dev nD} {sp : Space} {sh : Shape} {e : EltTy} (mr : Memref sig .tc sp sh e) (f g : Buf (Elt F) (mr.view.loc (c : Thread nD τ)))
    (w : sh.Idx → Elt F e) (h : mr.view.read (Elt F) g = w) :
    (mr.view.loc (c : Thread nD τ) ↦[mr.view.set]{fullShare} mr.view.write (Elt F) f w Finset.univ : sProp 𝕄)
      = (mr.view.loc (c : Thread nD τ) ↦[mr.view.set]{fullShare} g) := by
  apply pointsTo_congr
  intro i hi
  obtain ⟨x, -, rfl⟩ := Finset.mem_map.mp hi
  rw [View.write_emb_of_mem _ _ (Finset.mem_univ x), ← h, View.read_apply, cast_cast, cast_eq]

/-! ## Landing -/

theorem org_cw0 (q : Fin 4) (c : Dev nD) : org (.cw 0 q) (rt c) = c := by revert q c; decide
theorem org_cw1 (q : Fin 4) (c : Dev nD) : org (.cw 1 q) (rt c) = org (.cw 0 q) c := by revert q c; decide
theorem org_cw2 (q : Fin 4) (c : Dev nD) : org (.cw 2 q) (rt c) = org (.cw 1 q) c := by revert q c; decide
theorem org_ccw0 (q : Fin 4) (c : Dev nD) : org (.ccw 0 q) (lf c) = c := by revert q c; decide
theorem org_ccw1 (q : Fin 4) (c : Dev nD) : org (.ccw 1 q) (lf c) = org (.ccw 0 q) c := by revert q c; decide
theorem org_ccw2 (q : Fin 4) (c : Dev nD) : org (.ccw 2 q) (lf c) = org (.ccw 1 q) c := by revert q c; decide
theorem org_ch_ev (q : Fin 4) (c : Dev nD) (h : ev c = true) : org (.ch q) (pt c) = org (.cw 0 q) c := by revert q c; decide
theorem org_ch_od (q : Fin 4) (c : Dev nD) (h : ev c = false) : org (.ch q) (pt c) = org (.ccw 0 q) c := by revert q c; decide

theorem read_xq (c : Dev nD) (q : Fin 4) : (xqM q).view.read (Elt F) (X m c) = xq m c q := by
  funext i
  show X m c ((Rect.unit (s := S512x4096) ![128 * q.val, 0] S128x4096.size (inb_quarter q.isLt)).emb i) = _
  rw [emb_rows (128 * q.val) (inb_quarter q.isLt) i (by have h : (i 0).val < 128 := (i 0).isLt; omega)]
  rfl
theorem read_cw (c : Dev nD) (h : Fin 3) (q : Fin 4) : (cwM h q).view.read (Elt F) (cwC m c) = xq m (org (.cw h q) c) q := by
  funext i
  show cwC m c ((cwM h q).view.emb i) = _
  rw [emb_cw]
  obtain ⟨i₀, i₁, rfl⟩ := ix2_surj i
  rfl
theorem read_ccw (c : Dev nD) (h : Fin 3) (q : Fin 4) : (ccwM h q).view.read (Elt F) (ccwC m c) = xq m (org (.ccw h q) c) q := by
  funext i
  show ccwC m c ((ccwM h q).view.emb i) = _
  rw [emb_ccw]
  obtain ⟨i₀, i₁, rfl⟩ := ix2_surj i
  rfl
theorem read_ch (c : Dev nD) (q : Fin 4) : (chM q).view.read (Elt F) (chC m c) = xq m (org (.ch q) c) q := by
  funext i
  show chC m c ((chM q).view.emb i) = _
  rw [emb_ch]
  obtain ⟨i₀, i₁, rfl⟩ := ix2_surj i
  rfl

end Cert.KernelIdealProof
-- ==== Proof.KISteps.lean ====
/-
The operations of the ring kernel on its slots: sends, waits and the pieces of memory they hand over.
-/
module

public import proofs.«01_k».proof.Proof.KIMem

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Option (Fin 80) → ℕ)
variable {l r s : List Msg} {d : List (DmaSem sig)} {g : List Pc} {R : sProp (MT nD τ sig Unit (Elt F) ℕ UU ℕ)}
variable {α : Type} {Q : α → sProp (MT nD τ sig Unit (Elt F) ℕ UU ℕ)}

/-! ## The sends, as the kernel writes them -/

theorem send_cw0 (c : Dev nD) (q : Fin 4) {nf : Dev nD → Dev nD} (hn : ∀ c', nf c' = rt c') {i j hsc hsrc hdst hsem}
    {k : PUnit → Prog (TpuEff nD τ sig (Elt F) Λ₀ .tc) α}
    (hk : ST m K c l r (.cw 0 q :: s) d g R ⊢ WP c (k ⟨⟩) Q) :
    ST m K c (.cw 0 q :: l) r s d (.xs 1 q :: .bg (.cw 0 q) :: g) R
      ⊢ WP c (.op (.enqueueDma (xqM q) (.remote (Dev.tc (nf c) : Thread nD τ) (cwM 0 q)
        (.dma ((cc0_scratch7.slice (Rect.unit (s := S3x4) ![0, q.val] S1x1.size i)).squeeze S_ squeezes_S1x1_S_).sem) hsc)
        (.dma ((cc0_scratch8.slice (Rect.unit (s := S3x4) ![0, q.val] S1x1.size j)).squeeze S_ squeezes_S1x1_S_).sem) hsrc hdst hsem) k) Q :=
  send_core m K c (.cw 0 q) (xqM q) (cwM 0 q) rfl (Entails.refl _)
    (fun f => Entails.of_eq (write_lands (cwM 0 q) f (cwC m (rt c)) _ (by rw [read_cw, read_xq, org_cw0]))) (cr_cw 0 q) (hn c)
    (semCwS 0 q.val (by decide) q.isLt i) (semCwR 0 q.val (by decide) q.isLt j) hk

theorem send_cw (c : Dev nD) (h h' : Fin 3) (q : Fin 4) (hh : h'.val = h.val + 1) {srcm dstm : Memref sig .tc .vmem S128x4096 .bf16} (hsm : srcm = cwM h q) (hdm : dstm = cwM h' q) {nf : Dev nD → Dev nD} (hn : ∀ c', nf c' = rt c') {i j hsc hsrc hdst hsem}
    {k : PUnit → Prog (TpuEff nD τ sig (Elt F) Λ₀ .tc) α}
    (hk : ST m K c l r (.cw h' q :: s) d g R ⊢ WP c (k ⟨⟩) Q) :
    ST m K c (.cw h' q :: l) r s d (.sl 1 (.cw h q) :: .bg (.cw h' q) :: g) R
      ⊢ WP c (.op (.enqueueDma srcm (.remote (Dev.tc (nf c) : Thread nD τ) dstm
        (.dma ((cc0_scratch7.slice (Rect.unit (s := S3x4) ![h'.val, q.val] S1x1.size i)).squeeze S_ squeezes_S1x1_S_).sem) hsc)
        (.dma ((cc0_scratch8.slice (Rect.unit (s := S3x4) ![h'.val, q.val] S1x1.size j)).squeeze S_ squeezes_S1x1_S_).sem) hsrc hdst hsem) k) Q := by
  subst hsm hdm
  have hs : src c (.cw h' q) = .sl 1 (.cw h q) := by
    clear hk i j hsc hsrc hdst hsem k
    revert h h'; decide +revert
  have ho : org (.cw h' q) (rt c) = org (.cw h q) c := by
    clear hk i j hsc hsrc hdst hsem k hs
    revert h h'; decide +revert
  rw [← hs]
  exact send_core m K c (.cw h' q) (cwM h q) (cwM h' q) (by rw [hs]; rfl) (Entails.refl _)
    (fun f => Entails.of_eq (write_lands (cwM h' q) f (cwC m (rt c)) _ (by rw [read_cw, read_cw, ho]))) (cr_cw h' q) (hn c)
    (semCwS h'.val q.val h'.isLt q.isLt i) (semCwR h'.val q.val h'.isLt q.isLt j) hk

theorem send_ccw0 (c : Dev nD) (q : Fin 4) {nf : Dev nD → Dev nD} (hn : ∀ c', nf c' = lf c') {i j hsc hsrc hdst hsem}
    {k : PUnit → Prog (TpuEff nD τ sig (Elt F) Λ₀ .tc) α}
    (hk : ST m K c l r (.ccw 0 q :: s) d g R ⊢ WP c (k ⟨⟩) Q) :
    ST m K c (.ccw 0 q :: l) r s d (.xs 2 q :: .bg (.ccw 0 q) :: g) R
      ⊢ WP c (.op (.enqueueDma (xqM q) (.remote (Dev.tc (nf c) : Thread nD τ) (ccwM 0 q)
        (.dma ((cc0_scratch9.slice (Rect.unit (s := S3x4) ![0, q.val] S1x1.size i)).squeeze S_ squeezes_S1x1_S_).sem) hsc)
        (.dma ((cc0_scratch10.slice (Rect.unit (s := S3x4) ![0, q.val] S1x1.size j)).squeeze S_ squeezes_S1x1_S_).sem) hsrc hdst hsem) k) Q :=
  send_core m K c (.ccw 0 q) (xqM q) (ccwM 0 q) rfl (Entails.refl _)
    (fun f => Entails.of_eq (write_lands (ccwM 0 q) f (ccwC m (lf c)) _ (by rw [read_ccw, read_xq, org_ccw0]))) (cr_ccw 0 q) (hn c)
    (semCcwS 0 q.val (by decide) q.isLt i) (semCcwR 0 q.val (by decide) q.isLt j) hk

theorem send_ccw (c : Dev nD) (h h' : Fin 3) (q : Fin 4) (hh : h'.val = h.val + 1) {srcm dstm : Memref sig .tc .vmem S128x4096 .bf16} (hsm : srcm = ccwM h q) (hdm : dstm = ccwM h' q) {nf : Dev nD → Dev nD} (hn : ∀ c', nf c' = lf c') {i j hsc hsrc hdst hsem}
    {k : PUnit → Prog (TpuEff nD τ sig (Elt F) Λ₀ .tc) α}
    (hk : ST m K c l r (.ccw h' q :: s) d g R ⊢ WP c (k ⟨⟩) Q) :
    ST m K c (.ccw h' q :: l) r s d (.sl 1 (.ccw h q) :: .bg (.ccw h' q) :: g) R
      ⊢ WP c (.op (.enqueueDma srcm (.remote (Dev.tc (nf c) : Thread nD τ) dstm
        (.dma ((cc0_scratch9.slice (Rect.unit (s := S3x4) ![h'.val, q.val] S1x1.size i)).squeeze S_ squeezes_S1x1_S_).sem) hsc)
        (.dma ((cc0_scratch10.slice (Rect.unit (s := S3x4) ![h'.val, q.val] S1x1.size j)).squeeze S_ squeezes_S1x1_S_).sem) hsrc hdst hsem) k) Q := by
  subst hsm hdm
  have hs : src c (.ccw h' q) = .sl 1 (.ccw h q) := by
    clear hk i j hsc hsrc hdst hsem k
    revert h h'; decide +revert
  have ho : org (.ccw h' q) (lf c) = org (.ccw h q) c := by
    clear hk i j hsc hsrc hdst hsem k hs
    revert h h'; decide +revert
  rw [← hs]
  exact send_core m K c (.ccw h' q) (ccwM h q) (ccwM h' q) (by rw [hs]; rfl) (Entails.refl _)
    (fun f => Entails.of_eq (write_lands (ccwM h' q) f (ccwC m (lf c)) _ (by rw [read_ccw, read_ccw, ho]))) (cr_ccw h' q) (hn c)
    (semCcwS h'.val q.val h'.isLt q.isLt i) (semCcwR h'.val q.val h'.isLt q.isLt j) hk

/-! ## The sends across the ring, done by the even devices from a rightward slot and by the odd ones from a leftward slot -/

def lq (c : Dev nD) (q : Fin 4) (l : List Msg) : List Msg := if ev c = true then l else .ch q :: l
def sq (c : Dev nD) (q : Fin 4) (s : List Msg) : List Msg := if ev c = true then .ch q :: s else s

theorem mem_lq {c : Dev nD} {q : Fin 4} {l : List Msg} {M : Msg} (h : M ∈ lq c q l) : M ∈ Msg.ch q :: l := by
  unfold lq at h
  split at h
  · exact List.mem_cons_of_mem _ h
  · exact h

theorem bind_if {β : Type} {P : Prop} [Decidable P] {t : P → Prog (TpuEff nD τ sig (Elt F) Λ₀ .tc) β} {e : ¬P → Prog (TpuEff nD τ sig (Elt F) Λ₀ .tc) β}
    {k : β → Prog (TpuEff nD τ sig (Elt F) Λ₀ .tc) α} :
    ((if h : P then t h else e h) >>= k) = if h : P then t h >>= k else e h >>= k := by
  split <;> rfl

theorem send_che (c : Dev nD) (q : Fin 4) (he : ev c = true) {srcm dstm : Memref sig .tc .vmem S128x4096 .bf16} (hsm : srcm = cwM 0 q) (hdm : dstm = chM q) {n : Dev nD} (hn : n = pt c) {i j hsc hsrc hdst hsem}
    {k : PUnit → Prog (TpuEff nD τ sig (Elt F) Λ₀ .tc) α}
    (hk : ST m K c l r (.ch q :: s) d g R ⊢ WP c (k ⟨⟩) Q) :
    ST m K c (.ch q :: l) r s d (.sl 2 (.cw 0 q) :: .bg (.ch q) :: g) R
      ⊢ WP c (.op (.enqueueDma srcm (.remote (Dev.tc n : Thread nD τ) dstm
        (.dma ((cc0_scratch11.slice (Rect.unit (s := S4) ![q.val] S1.size i)).squeeze S_ squeezes_S1_S_).sem) hsc)
        (.dma ((cc0_scratch12.slice (Rect.unit (s := S4) ![q.val] S1.size j)).squeeze S_ squeezes_S1_S_).sem) hsrc hdst hsem) k) Q := by
  subst hsm hdm
  have hs : src c (.ch q) = .sl 2 (.cw 0 q) := if_pos he
  rw [← hs]
  exact send_core m K c (.ch q) (cwM 0 q) (chM q) (by rw [hs]; rfl) (Entails.refl _)
    (fun f => Entails.of_eq (write_lands (chM q) f (chC m (pt c)) _ (by rw [read_ch, read_cw, org_ch_ev _ _ he]))) (cr_ch q) hn
    (semChS q.val q.isLt _) (semChR q.val q.isLt _) hk

theorem send_cho (c : Dev nD) (q : Fin 4) (he : ev c = false) {srcm dstm : Memref sig .tc .vmem S128x4096 .bf16} (hsm : srcm = ccwM 0 q) (hdm : dstm = chM q) {n : Dev nD} (hn : n = pt c) {i j hsc hsrc hdst hsem}
    {k : PUnit → Prog (TpuEff nD τ sig (Elt F) Λ₀ .tc) α}
    (hk : ST m K c l r (.ch q :: s) d g R ⊢ WP c (k ⟨⟩) Q) :
    ST m K c (.ch q :: l) r s d (.sl 2 (.ccw 0 q) :: .bg (.ch q) :: g) R
      ⊢ WP c (.op (.enqueueDma srcm (.remote (Dev.tc n : Thread nD τ) dstm
        (.dma ((cc0_scratch11.slice (Rect.unit (s := S4) ![q.val] S1.size i)).squeeze S_ squeezes_S1_S_).sem) hsc)
        (.dma ((cc0_scratch12.slice (Rect.unit (s := S4) ![q.val] S1.size j)).squeeze S_ squeezes_S1_S_).sem) hsrc hdst hsem) k) Q := by
  subst hsm hdm
  have hs : src c (.ch q) = .sl 2 (.ccw 0 q) := if_neg (by rw [he]; decide)
  rw [← hs]
  exact send_core m K c (.ch q) (ccwM 0 q) (chM q) (by rw [hs]; rfl) (Entails.refl _)
    (fun f => Entails.of_eq (write_lands (chM q) f (chC m (pt c)) _ (by rw [read_ch, read_ccw, org_ch_od _ _ he]))) (cr_ch q) hn
    (semChS q.val q.isLt _) (semChR q.val q.isLt _) hk

theorem if_even (c : Dev nD) (q : Fin 4) {M : Msg} {P : Prop} [Decidable P] (hcf : P ↔ ev c = true)
    {p : Prog (TpuEff nD τ sig (Elt F) Λ₀ .tc) α} {t : P → Prog (TpuEff nD τ sig (Elt F) Λ₀ .tc) α}
    (ht : ev c = true → ∀ hc, (ST m K c (M :: l) r (.ch q :: s) d g R ⊢ WP c p Q) →
      (ST m K c (.ch q :: M :: l) r s d (.sl 2 (.cw 0 q) :: .bg (.ch q) :: g) R ⊢ WP c (t hc) Q))
    (hk : ST m K c (M :: lq c q l) r (sq c q s) d (.o2 q :: g) R ⊢ WP c p Q) :
    ST m K c (.ch q :: M :: l) r s d (.sl 2 (.cw 0 q) :: .bxe q :: g) R
      ⊢ WP c (if hc : P then t hc else p) Q := by
  by_cases he : ev c = true
  · rw [dif_pos (hcf.mpr he)]
    have hx : pcP m c (.bxe q) = pcP m c (.bg (.ch q)) := if_pos he
    have ho : pcP m c (.o2 q) = iprop(emp) := if_pos he
    refine BIBase.Entails.trans (st_pieces m K c (g := g) (g₁ := [.sl 2 (.cw 0 q), .bxe q]) (g₂ := [.sl 2 (.cw 0 q), .bg (.ch q)]) (R' := R) (by
      simp only [sepL_cons, hx]; exact Entails.refl _)) (ht he _ ?_)
    have hl : lq c q l = l := if_pos he
    have hq : sq c q s = .ch q :: s := if_pos he
    rw [hl, hq] at hk
    refine BIBase.Entails.trans (st_pieces m K c (g := g) (g₁ := []) (g₂ := [.o2 q]) (R' := R) ?_) hk
    simp only [sepL_cons, ho]
    iintro ⟨-, HR⟩
    isplitr [HR]
    · isplitr <;> (try unfold sepL) <;> iempintro
    · iexact HR
  · rw [dif_neg (fun h => he (hcf.mp h))]
    have hl : lq c q l = .ch q :: l := if_neg he
    have hq : sq c q s = s := if_neg he
    have ho : pcP m c (.o2 q) = pcP m c (.sl 2 (.cw 0 q)) := if_neg he
    rw [hl, hq] at hk
    refine BIBase.Entails.trans (st_perm m K c (List.Perm.swap _ _ _) (.refl _) (.refl _) (.refl _) (.refl _)) (BIBase.Entails.trans (st_pieces m K c (g := g) (g₁ := [.sl 2 (.cw 0 q), .bxe q]) (g₂ := [.o2 q]) (R' := R) ?_) hk)
    simp only [sepL_cons, ho]
    iintro ⟨⟨H, -⟩, HR⟩
    isplitr [HR]
    · isplitl [H]; · iexact H
      unfold sepL; iempintro
    · iexact HR

theorem if_odd (c : Dev nD) (q : Fin 4) {M : Msg} {a b : Pc} {P : Prop} [Decidable P] (hcf : P ↔ ev c = false)
    {p : Prog (TpuEff nD τ sig (Elt F) Λ₀ .tc) α} {t : P → Prog (TpuEff nD τ sig (Elt F) Λ₀ .tc) α}
    (ht : ev c = false → ∀ hc, (ST m K c l r (.ch q :: M :: s) d (a :: b :: .rs q :: g) R ⊢ WP c p Q) →
      (ST m K c (.ch q :: l) r (M :: s) d (.sl 2 (.ccw 0 q) :: .bg (.ch q) :: a :: b :: .rs q :: g) R ⊢ WP c (t hc) Q))
    (hk : ST m K c l r (.ch q :: M :: s) d (a :: b :: .rs q :: g) R ⊢ WP c p Q) :
    ST m K c (lq c q l) r (M :: sq c q s) d (.sl 2 (.ccw 0 q) :: .bxo q :: a :: b :: .o2 q :: g) R
      ⊢ WP c (if hc : P then t hc else p) Q := by
  by_cases he : ev c = true
  · rw [dif_neg (fun h => by rw [hcf.mp h] at he; cases he)]
    have hl : lq c q l = l := if_pos he
    have hq : sq c q s = .ch q :: s := if_pos he
    have ho : pcP m c (.rs q) = pcP m c (.sl 2 (.ccw 0 q)) := if_pos he
    rw [hl, hq]
    refine BIBase.Entails.trans (st_perm m K c (.refl _) (.refl _) (List.Perm.swap _ _ _) (.refl _) (.refl _)) (BIBase.Entails.trans (st_pieces m K c (g := g) (g₁ := [.sl 2 (.ccw 0 q), .bxo q, a, b, .o2 q]) (g₂ := [a, b, .rs q]) (R' := R) ?_) hk)
    simp only [sepL_cons, ho]
    iintro ⟨⟨H, -, Ha, Hb, -⟩, HR⟩
    isplitr [HR]
    · isplitl [Ha]; · iexact Ha
      isplitl [Hb]; · iexact Hb
      isplitl [H]; · iexact H
      unfold sepL; iempintro
    · iexact HR
  · have hf : ev c = false := Bool.eq_false_iff.mpr he
    rw [dif_pos (hcf.mpr hf)]
    have hx : pcP m c (.bxo q) = pcP m c (.bg (.ch q)) := if_neg he
    have ho : pcP m c (.o2 q) = pcP m c (.rs q) := (if_neg he).trans (if_neg he).symm
    have hl : lq c q l = .ch q :: l := if_neg he
    have hq : sq c q s = s := if_neg he
    rw [hl, hq]
    refine BIBase.Entails.trans (st_pieces m K c (g := g) (g₁ := [.sl 2 (.ccw 0 q), .bxo q, a, b, .o2 q]) (g₂ := [.sl 2 (.ccw 0 q), .bg (.ch q), a, b, .rs q]) (R' := R) (by
      simp only [sepL_cons, hx, ho]; exact Entails.refl _)) (ht hf _ hk)

/-! ## The waits -/

theorem lnd_split (c : Dev nD) (M : Msg) : lnd m c M fullShare ⊢ iprop(lnd m c M (sh3 0) ∗ lnd m c M (sh3 1) ∗ lnd m c M (sh3 2)) := by
  have h (ℓ : Loc nD τ sig) (I) (f : Buf (Elt F) ℓ) : (ℓ ↦[I]{fullShare} f : sProp 𝕄) ⊢ iprop((ℓ ↦[I]{sh3 0} f) ∗ (ℓ ↦[I]{sh3 1} f) ∗ (ℓ ↦[I]{sh3 2} f)) := by
    exact (pointsTo_share (PosShare.mem_left_op_right fullShare)).1.trans (sep_mono_right (pointsTo_share (PosShare.mem_left_op_right fullShare.right)).1)
  cases M <;> exact h _ _ _

theorem lnd_join (c : Dev nD) (M : Msg) : iprop(lnd m c M (sh3 0) ∗ lnd m c M (sh3 1) ∗ lnd m c M (sh3 2)) ⊢ lnd m c M fullShare := by
  have h (ℓ : Loc nD τ sig) (I) (f : Buf (Elt F) ℓ) : iprop((ℓ ↦[I]{sh3 0} f) ∗ (ℓ ↦[I]{sh3 1} f) ∗ (ℓ ↦[I]{sh3 2} f)) ⊢ (ℓ ↦[I]{fullShare} f : sProp 𝕄) := by
    exact (sep_mono_right (pointsTo_share (PosShare.mem_left_op_right fullShare.right)).2).trans (pointsTo_share (PosShare.mem_left_op_right fullShare)).2
  cases M <;> exact h _ _ _

end Cert.KernelIdealProof
-- ==== Proof.KIWait.lean ====
/-
Waiting for arrivals and departures, and the loads of the slots.
-/
module

public import proofs.«01_k».proof.Proof.KISteps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Option (Fin 80) → ℕ)
variable {l r s : List Msg} {d : List (DmaSem sig)} {g : List Pc} {R : sProp (MT nD τ sig Unit (Elt F) ℕ UU ℕ)}
variable {α : Type} {Q : α → sProp (MT nD τ sig Unit (Elt F) ℕ UU ℕ)}

/-! ## Arrivals -/

theorem pieces_cw0 (c : Dev nD) (q : Fin 4) : iprop(lnd m c (.cw 0 q) fullShare ∗ bag (F := F) c (.cw 0 q)) ⊢ sepL (pcP m c) [.sl 1 (.cw 0 q), .bg (.cw 1 q), .sl 2 (.cw 0 q), .bxe q, .sl 0 (.cw 0 q), .tk (.cw 0 q)] := by
  show iprop(_ ∗ bagCw0 (F := F) c q) ⊢ iprop(lnd m c (.cw 0 q) (sh3 1) ∗ bagCw1 (F := F) (rt c) q ∗ lnd m c (.cw 0 q) (sh3 2) ∗ (if ev c = true then bagCh (F := F) (pt c) q else iprop(emp)) ∗ lnd m c (.cw 0 q) (sh3 0) ∗ tickq (F := F) c (.cw 0 q) ∗ emp)
  unfold bagCw0
  iintro ⟨Hl, Hb⟩
  icases Hb with ⟨Hb1, Hb2, Hb3⟩
  ihave Hl := (lnd_split m c _) $$ Hl
  icases Hl with ⟨H0, H1, H2⟩
  isplitl [H1]; · iexact H1
  isplitl [Hb2]; · iexact Hb2
  isplitl [H2]; · iexact H2
  isplitl [Hb3]; · iexact Hb3
  isplitl [H0]; · iexact H0
  isplitl [Hb1]; · iexact Hb1
  iempintro

theorem wait_cw0 (c : Dev nD) (q : Fin 4) {e' : EltTy} {sp' : Space} {sh' : Shape} {srcm : Memref sig .tc sp' sh' e'} {i hsrc hdst}
    {k : PUnit → Prog (TpuEff nD τ sig (Elt F) Λ₀ .tc) α} (hlev : ∀ M' ∈ l, lvM (.cw 0 q) < lvM M')
    (hk : ST m K c l r s (sR (.cw 0 q) :: d) (.sl 1 (.cw 0 q) :: .bg (.cw 1 q) :: .sl 2 (.cw 0 q) :: .bxe q :: .sl 0 (.cw 0 q) :: .tk (.cw 0 q) :: g) R ⊢ WP c (k ⟨⟩) Q) :
    ST m K c l ((.cw 0 q) :: r) s d g R ⊢ WP c (.op (.waitDma2 ((cc0_scratch8.slice (Rect.unit (s := S3x4) ![0, q.val] S1x1.size i)).squeeze S_ squeezes_S1x1_S_).sem srcm (cwM 0 q) hsrc hdst) k) Q :=
  wait_recv_core m K c (.cw 0 q) _ srcm (cwM 0 q) (pieces_cw0 m c q) hlev (cr_cw 0 q) (semCwR 0 q.val (by decide) q.isLt i) hk

theorem pieces_cw1 (c : Dev nD) (q : Fin 4) : iprop(lnd m c (.cw 1 q) fullShare ∗ bag (F := F) c (.cw 1 q)) ⊢ sepL (pcP m c) [.sl 1 (.cw 1 q), .bg (.cw 2 q), .sl 0 (.cw 1 q), .sl 2 (.cw 1 q), .tk (.cw 1 q)] := by
  show iprop(_ ∗ bagCw1 (F := F) c q) ⊢ iprop(lnd m c (.cw 1 q) (sh3 1) ∗ bagCw2 (F := F) (rt c) q ∗ lnd m c (.cw 1 q) (sh3 0) ∗ lnd m c (.cw 1 q) (sh3 2) ∗ tickq (F := F) c (.cw 1 q) ∗ emp)
  unfold bagCw1
  iintro ⟨Hl, Hb⟩
  icases Hb with ⟨Hb1, Hb2⟩
  ihave Hl := (lnd_split m c _) $$ Hl
  icases Hl with ⟨H0, H1, H2⟩
  isplitl [H1]; · iexact H1
  isplitl [Hb2]; · iexact Hb2
  isplitl [H0]; · iexact H0
  isplitl [H2]; · iexact H2
  isplitl [Hb1]; · iexact Hb1
  iempintro

theorem wait_cw1 (c : Dev nD) (q : Fin 4) {e' : EltTy} {sp' : Space} {sh' : Shape} {srcm : Memref sig .tc sp' sh' e'} {i hsrc hdst}
    {k : PUnit → Prog (TpuEff nD τ sig (Elt F) Λ₀ .tc) α} (hlev : ∀ M' ∈ l, lvM (.cw 1 q) < lvM M')
    (hk : ST m K c l r s (sR (.cw 1 q) :: d) (.sl 1 (.cw 1 q) :: .bg (.cw 2 q) :: .sl 0 (.cw 1 q) :: .sl 2 (.cw 1 q) :: .tk (.cw 1 q) :: g) R ⊢ WP c (k ⟨⟩) Q) :
    ST m K c l ((.cw 1 q) :: r) s d g R ⊢ WP c (.op (.waitDma2 ((cc0_scratch8.slice (Rect.unit (s := S3x4) ![1, q.val] S1x1.size i)).squeeze S_ squeezes_S1x1_S_).sem srcm (cwM 1 q) hsrc hdst) k) Q :=
  wait_recv_core m K c (.cw 1 q) _ srcm (cwM 1 q) (pieces_cw1 m c q) hlev (cr_cw 1 q) (semCwR 1 q.val (by decide) q.isLt i) hk

theorem pieces_cw2 (c : Dev nD) (q : Fin 4) : iprop(lnd m c (.cw 2 q) fullShare ∗ bag (F := F) c (.cw 2 q)) ⊢ sepL (pcP m c) [.sl 0 (.cw 2 q), .sl 1 (.cw 2 q), .sl 2 (.cw 2 q), .tk (.cw 2 q)] := by
  show iprop(_ ∗ bagCw2 (F := F) c q) ⊢ iprop(lnd m c (.cw 2 q) (sh3 0) ∗ lnd m c (.cw 2 q) (sh3 1) ∗ lnd m c (.cw 2 q) (sh3 2) ∗ tickq (F := F) c (.cw 2 q) ∗ emp)
  unfold bagCw2
  iintro ⟨Hl, Hb⟩
  ihave Hl := (lnd_split m c _) $$ Hl
  icases Hl with ⟨H0, H1, H2⟩
  isplitl [H0]; · iexact H0
  isplitl [H1]; · iexact H1
  isplitl [H2]; · iexact H2
  isplitl [Hb]; · iexact Hb
  iempintro

theorem wait_cw2 (c : Dev nD) (q : Fin 4) {e' : EltTy} {sp' : Space} {sh' : Shape} {srcm : Memref sig .tc sp' sh' e'} {i hsrc hdst}
    {k : PUnit → Prog (TpuEff nD τ sig (Elt F) Λ₀ .tc) α} (hlev : ∀ M' ∈ l, lvM (.cw 2 q) < lvM M')
    (hk : ST m K c l r s (sR (.cw 2 q) :: d) (.sl 0 (.cw 2 q) :: .sl 1 (.cw 2 q) :: .sl 2 (.cw 2 q) :: .tk (.cw 2 q) :: g) R ⊢ WP c (k ⟨⟩) Q) :
    ST m K c l ((.cw 2 q) :: r) s d g R ⊢ WP c (.op (.waitDma2 ((cc0_scratch8.slice (Rect.unit (s := S3x4) ![2, q.val] S1x1.size i)).squeeze S_ squeezes_S1x1_S_).sem srcm (cwM 2 q) hsrc hdst) k) Q :=
  wait_recv_core m K c (.cw 2 q) _ srcm (cwM 2 q) (pieces_cw2 m c q) hlev (cr_cw 2 q) (semCwR 2 q.val (by decide) q.isLt i) hk

theorem pieces_ccw0 (c : Dev nD) (q : Fin 4) : iprop(lnd m c (.ccw 0 q) fullShare ∗ bag (F := F) c (.ccw 0 q)) ⊢ sepL (pcP m c) [.sl 1 (.ccw 0 q), .bg (.ccw 1 q), .sl 2 (.ccw 0 q), .bxo q, .sl 0 (.ccw 0 q), .tk (.ccw 0 q)] := by
  show iprop(_ ∗ bagCcw0 (F := F) c q) ⊢ iprop(lnd m c (.ccw 0 q) (sh3 1) ∗ bagCcw1 (F := F) (lf c) q ∗ lnd m c (.ccw 0 q) (sh3 2) ∗ (if ev c = true then iprop(emp) else bagCh (F := F) (pt c) q) ∗ lnd m c (.ccw 0 q) (sh3 0) ∗ tickq (F := F) c (.ccw 0 q) ∗ emp)
  unfold bagCcw0
  iintro ⟨Hl, Hb⟩
  icases Hb with ⟨Hb1, Hb2, Hb3⟩
  ihave Hl := (lnd_split m c _) $$ Hl
  icases Hl with ⟨H0, H1, H2⟩
  isplitl [H1]; · iexact H1
  isplitl [Hb2]; · iexact Hb2
  isplitl [H2]; · iexact H2
  isplitl [Hb3]; · iexact Hb3
  isplitl [H0]; · iexact H0
  isplitl [Hb1]; · iexact Hb1
  iempintro

theorem wait_ccw0 (c : Dev nD) (q : Fin 4) {e' : EltTy} {sp' : Space} {sh' : Shape} {srcm : Memref sig .tc sp' sh' e'} {i hsrc hdst}
    {k : PUnit → Prog (TpuEff nD τ sig (Elt F) Λ₀ .tc) α} (hlev : ∀ M' ∈ l, lvM (.ccw 0 q) < lvM M')
    (hk : ST m K c l r s (sR (.ccw 0 q) :: d) (.sl 1 (.ccw 0 q) :: .bg (.ccw 1 q) :: .sl 2 (.ccw 0 q) :: .bxo q :: .sl 0 (.ccw 0 q) :: .tk (.ccw 0 q) :: g) R ⊢ WP c (k ⟨⟩) Q) :
    ST m K c l ((.ccw 0 q) :: r) s d g R ⊢ WP c (.op (.waitDma2 ((cc0_scratch10.slice (Rect.unit (s := S3x4) ![0, q.val] S1x1.size i)).squeeze S_ squeezes_S1x1_S_).sem srcm (ccwM 0 q) hsrc hdst) k) Q :=
  wait_recv_core m K c (.ccw 0 q) _ srcm (ccwM 0 q) (pieces_ccw0 m c q) hlev (cr_ccw 0 q) (semCcwR 0 q.val (by decide) q.isLt i) hk

theorem pieces_ccw1 (c : Dev nD) (q : Fin 4) : iprop(lnd m c (.ccw 1 q) fullShare ∗ bag (F := F) c (.ccw 1 q)) ⊢ sepL (pcP m c) [.sl 1 (.ccw 1 q), .bg (.ccw 2 q), .sl 0 (.ccw 1 q), .sl 2 (.ccw 1 q), .tk (.ccw 1 q)] := by
  show iprop(_ ∗ bagCcw1 (F := F) c q) ⊢ iprop(lnd m c (.ccw 1 q) (sh3 1) ∗ bagCcw2 (F := F) (lf c) q ∗ lnd m c (.ccw 1 q) (sh3 0) ∗ lnd m c (.ccw 1 q) (sh3 2) ∗ tickq (F := F) c (.ccw 1 q) ∗ emp)
  unfold bagCcw1
  iintro ⟨Hl, Hb⟩
  icases Hb with ⟨Hb1, Hb2⟩
  ihave Hl := (lnd_split m c _) $$ Hl
  icases Hl with ⟨H0, H1, H2⟩
  isplitl [H1]; · iexact H1
  isplitl [Hb2]; · iexact Hb2
  isplitl [H0]; · iexact H0
  isplitl [H2]; · iexact H2
  isplitl [Hb1]; · iexact Hb1
  iempintro

theorem wait_ccw1 (c : Dev nD) (q : Fin 4) {e' : EltTy} {sp' : Space} {sh' : Shape} {srcm : Memref sig .tc sp' sh' e'} {i hsrc hdst}
    {k : PUnit → Prog (TpuEff nD τ sig (Elt F) Λ₀ .tc) α} (hlev : ∀ M' ∈ l, lvM (.ccw 1 q) < lvM M')
    (hk : ST m K c l r s (sR (.ccw 1 q) :: d) (.sl 1 (.ccw 1 q) :: .bg (.ccw 2 q) :: .sl 0 (.ccw 1 q) :: .sl 2 (.ccw 1 q) :: .tk (.ccw 1 q) :: g) R ⊢ WP c (k ⟨⟩) Q) :
    ST m K c l ((.ccw 1 q) :: r) s d g R ⊢ WP c (.op (.waitDma2 ((cc0_scratch10.slice (Rect.unit (s := S3x4) ![1, q.val] S1x1.size i)).squeeze S_ squeezes_S1x1_S_).sem srcm (ccwM 1 q) hsrc hdst) k) Q :=
  wait_recv_core m K c (.ccw 1 q) _ srcm (ccwM 1 q) (pieces_ccw1 m c q) hlev (cr_ccw 1 q) (semCcwR 1 q.val (by decide) q.isLt i) hk

theorem pieces_ccw2 (c : Dev nD) (q : Fin 4) : iprop(lnd m c (.ccw 2 q) fullShare ∗ bag (F := F) c (.ccw 2 q)) ⊢ sepL (pcP m c) [.sl 0 (.ccw 2 q), .sl 1 (.ccw 2 q), .sl 2 (.ccw 2 q), .tk (.ccw 2 q)] := by
  show iprop(_ ∗ bagCcw2 (F := F) c q) ⊢ iprop(lnd m c (.ccw 2 q) (sh3 0) ∗ lnd m c (.ccw 2 q) (sh3 1) ∗ lnd m c (.ccw 2 q) (sh3 2) ∗ tickq (F := F) c (.ccw 2 q) ∗ emp)
  unfold bagCcw2
  iintro ⟨Hl, Hb⟩
  ihave Hl := (lnd_split m c _) $$ Hl
  icases Hl with ⟨H0, H1, H2⟩
  isplitl [H0]; · iexact H0
  isplitl [H1]; · iexact H1
  isplitl [H2]; · iexact H2
  isplitl [Hb]; · iexact Hb
  iempintro

theorem wait_ccw2 (c : Dev nD) (q : Fin 4) {e' : EltTy} {sp' : Space} {sh' : Shape} {srcm : Memref sig .tc sp' sh' e'} {i hsrc hdst}
    {k : PUnit → Prog (TpuEff nD τ sig (Elt F) Λ₀ .tc) α} (hlev : ∀ M' ∈ l, lvM (.ccw 2 q) < lvM M')
    (hk : ST m K c l r s (sR (.ccw 2 q) :: d) (.sl 0 (.ccw 2 q) :: .sl 1 (.ccw 2 q) :: .sl 2 (.ccw 2 q) :: .tk (.ccw 2 q) :: g) R ⊢ WP c (k ⟨⟩) Q) :
    ST m K c l ((.ccw 2 q) :: r) s d g R ⊢ WP c (.op (.waitDma2 ((cc0_scratch10.slice (Rect.unit (s := S3x4) ![2, q.val] S1x1.size i)).squeeze S_ squeezes_S1x1_S_).sem srcm (ccwM 2 q) hsrc hdst) k) Q :=
  wait_recv_core m K c (.ccw 2 q) _ srcm (ccwM 2 q) (pieces_ccw2 m c q) hlev (cr_ccw 2 q) (semCcwR 2 q.val (by decide) q.isLt i) hk

theorem wait_ch (c : Dev nD) (q : Fin 4) {e' : EltTy} {sp' : Space} {sh' : Shape} {srcm : Memref sig .tc sp' sh' e'} {i hsrc hdst}
    {k : PUnit → Prog (TpuEff nD τ sig (Elt F) Λ₀ .tc) α} (hlev : ∀ M' ∈ l, lvM (.ch q) < lvM M')
    (hk : ST m K c l r s (sR (.ch q) :: d) (.sl 0 (.ch q) :: .sl 1 (.ch q) :: .sl 2 (.ch q) :: .tk (.ch q) :: g) R ⊢ WP c (k ⟨⟩) Q) :
    ST m K c l ((.ch q) :: r) s d g R ⊢ WP c (.op (.waitDma2 ((cc0_scratch12.slice (Rect.unit (s := S4) ![q.val] S1.size i)).squeeze S_ squeezes_S1_S_).sem srcm (chM q) hsrc hdst) k) Q := by
  refine wait_recv_core m K c (.ch q) [.sl 0 (.ch q), .sl 1 (.ch q), .sl 2 (.ch q), .tk (.ch q)] srcm (chM q) ?_ hlev (cr_ch q) (semChR q.val q.isLt i) hk
  show _ ⊢ iprop(lnd m c (.ch q) (sh3 0) ∗ lnd m c (.ch q) (sh3 1) ∗ lnd m c (.ch q) (sh3 2) ∗ bag (F := F) c (.ch q) ∗ emp)
  iintro ⟨Hl, Hb⟩
  ihave Hl := (lnd_split m c _) $$ Hl
  icases Hl with ⟨H0, H1, H2⟩
  isplitl [H0]; · iexact H0
  isplitl [H1]; · iexact H1
  isplitl [H2]; · iexact H2
  isplitl [Hb]; · iexact Hb
  iempintro

theorem wait_am (c : Dev nD) (q : Fin 7) {e' : EltTy} {sp' sp : Space} {sh' : Shape} {srcm : Memref sig .tc sp' sh' e'} {dstm : Memref sig .tc sp S1x128 .f32}
    (hN : dstm.view.dmaCredit = NA) {i hsrc hdst}
    {k : PUnit → Prog (TpuEff nD τ sig (Elt F) Λ₀ .tc) α}
    (hk : ST m K c [] r s (sR (.am q) :: d) (.lam q :: g) R ⊢ WP c (k ⟨⟩) Q) :
    ST m K c [] (.am q :: r) s d g R ⊢ WP c (.op (.waitDma2 ((cc0_scratch14.slice (Rect.unit (s := S7) ![q.val] S1.size i)).squeeze S_ squeezes_S1_S_).sem srcm dstm hsrc hdst) k) Q := by
  refine wait_recv_core m K c (.am q) [.lam q] srcm dstm ?_ (fun _ h => absurd h List.not_mem_nil) hN (semAmR q.val q.isLt i) hk
  show _ ⊢ iprop(lnd m c (.am q) fullShare ∗ emp)
  iintro ⟨Hl, -⟩
  isplitl [Hl]; · iexact Hl
  iempintro

/-! ## Departures -/

theorem wait_scw (c : Dev nD) (h : Fin 3) (q : Fin 4) {e' e : EltTy} {sp' sp : Space} {sh' sh : Shape} {srcm : Memref sig .tc sp' sh' e'} {dstm : Memref sig .tc sp sh e}
    (hN : dstm.view.dmaCredit = NS) {i hsrc hdst} {k : PUnit → Prog (TpuEff nD τ sig (Elt F) Λ₀ .tc) α}
    (hk : ST m K c l r s (sS (.cw h q) :: d) (src c (.cw h q) :: g) R ⊢ WP c (k ⟨⟩) Q) :
    ST m K c l r (.cw h q :: s) d g R ⊢ WP c (.op (.waitDma2 ((cc0_scratch7.slice (Rect.unit (s := S3x4) ![h.val, q.val] S1x1.size i)).squeeze S_ squeezes_S1x1_S_).sem srcm dstm hsrc hdst) k) Q :=
  wait_send_core m K c (.cw h q) srcm dstm hN (semCwS h.val q.val h.isLt q.isLt i) hk

theorem wait_sccw (c : Dev nD) (h : Fin 3) (q : Fin 4) {e' e : EltTy} {sp' sp : Space} {sh' sh : Shape} {srcm : Memref sig .tc sp' sh' e'} {dstm : Memref sig .tc sp sh e}
    (hN : dstm.view.dmaCredit = NS) {i hsrc hdst} {k : PUnit → Prog (TpuEff nD τ sig (Elt F) Λ₀ .tc) α}
    (hk : ST m K c l r s (sS (.ccw h q) :: d) (src c (.ccw h q) :: g) R ⊢ WP c (k ⟨⟩) Q) :
    ST m K c l r (.ccw h q :: s) d g R ⊢ WP c (.op (.waitDma2 ((cc0_scratch9.slice (Rect.unit (s := S3x4) ![h.val, q.val] S1x1.size i)).squeeze S_ squeezes_S1x1_S_).sem srcm dstm hsrc hdst) k) Q :=
  wait_send_core m K c (.ccw h q) srcm dstm hN (semCcwS h.val q.val h.isLt q.isLt i) hk

theorem wait_sch (c : Dev nD) (q : Fin 4) {e' e : EltTy} {sp' sp : Space} {sh' sh : Shape} {srcm : Memref sig .tc sp' sh' e'} {dstm : Memref sig .tc sp sh e}
    (hN : dstm.view.dmaCredit = NS) {i hsrc hdst} {k : PUnit → Prog (TpuEff nD τ sig (Elt F) Λ₀ .tc) α}
    (hk : ST m K c l r s (sS (.ch q) :: d) (src c (.ch q) :: g) R ⊢ WP c (k ⟨⟩) Q) :
    ST m K c l r (.ch q :: s) d g R ⊢ WP c (.op (.waitDma2 ((cc0_scratch11.slice (Rect.unit (s := S4) ![q.val] S1.size i)).squeeze S_ squeezes_S1_S_).sem srcm dstm hsrc hdst) k) Q :=
  wait_send_core m K c (.ch q) srcm dstm hN (semChS q.val q.isLt i) hk

theorem wait_sam (c : Dev nD) (q : Fin 7) {e' : EltTy} {sp' sp : Space} {sh' : Shape} {srcm : Memref sig .tc sp' sh' e'} {dstm : Memref sig .tc sp S1x128 .f32}
    (hN : dstm.view.dmaCredit = NA) {i hsrc hdst} {k : PUnit → Prog (TpuEff nD τ sig (Elt F) Λ₀ .tc) α}
    (hk : ST m K c l r s (sS (.am q) :: d) (.row q.castSucc :: g) R ⊢ WP c (k ⟨⟩) Q) :
    ST m K c l r (.am q :: s) d g R ⊢ WP c (.op (.waitDma2 ((cc0_scratch13.slice (Rect.unit (s := S7) ![q.val] S1.size i)).squeeze S_ squeezes_S1_S_).sem srcm dstm hsrc hdst) k) Q :=
  wait_send_core m K c (.am q) srcm dstm hN (semAmS q.val q.isLt i) hk

/-! ## Memory operations -/

/-- An operation that uses and changes the rest alone. -/
theorem st_op_rest (c : Dev nD) {R' : sProp 𝕄} {β : Type} {p : Prog (TpuEff nD τ sig (Elt F) Λ₀ .tc) α} {k : β → Prog (TpuEff nD τ sig (Elt F) Λ₀ .tc) α}
    (h : R ⊢ iprop((∀ v, R' -∗ WP c (k v) Q) -∗ WP c p Q)) (hk : ∀ v, ST m K c l r s d g R' ⊢ WP c (k v) Q) :
    ST m K c l r s d g R ⊢ WP c p Q := by
  unfold ST at hk ⊢
  iintro ⟨#Hc, Ho, Hl, Hr, Hs, Hd, Hg, HR⟩
  iapply h $$ HR
  iintro %v HR
  iapply (hk v)
  isplitr; · iexact Hc
  isplitl [Ho]; · iexact Ho
  isplitl [Hl]; · iexact Hl
  isplitl [Hr]; · iexact Hr
  isplitl [Hs]; · iexact Hs
  isplitl [Hd]; · iexact Hd
  isplitl [Hg]; · iexact Hg
  iexact HR

/-- The same with a known result. -/
theorem st_op_rest₁ (c : Dev nD) {R' : sProp 𝕄} {p p' : Prog (TpuEff nD τ sig (Elt F) Λ₀ .tc) α}
    (h : R ⊢ iprop((R' -∗ WP c p' Q) -∗ WP c p Q)) (hk : ST m K c l r s d g R' ⊢ WP c p' Q) :
    ST m K c l r s d g R ⊢ WP c p Q :=
  st_op_rest m K c (β := PUnit) (k := fun _ => p') (h.trans (wand_mono_left (by iintro H HR; iapply H $$ %⟨⟩ HR))) (fun _ => hk)

/-- An operation that reads one piece. -/
theorem st_op_piece (c : Dev nD) {x : Pc} (hx : x ∈ g) {p p' : Prog (TpuEff nD τ sig (Elt F) Λ₀ .tc) α}
    (h : pcP m c x ⊢ iprop((pcP m c x -∗ WP c p' Q) -∗ WP c p Q)) (hk : ST m K c l r s d g R ⊢ WP c p' Q) :
    ST m K c l r s d g R ⊢ WP c p Q := by
  unfold ST at hk ⊢
  iintro ⟨#Hc, Ho, Hl, Hr, Hs, Hd, Hg, HR⟩
  ihave Hg := (sepL_mem _ hx) $$ Hg
  icases Hg with ⟨Hx, Hg⟩
  iapply h $$ Hx
  iintro Hx
  ihave Hg := Hg $$ Hx
  iapply hk
  isplitr; · iexact Hc
  isplitl [Ho]; · iexact Ho
  isplitl [Hl]; · iexact Hl
  isplitl [Hr]; · iexact Hr
  isplitl [Hs]; · iexact Hs
  isplitl [Hd]; · iexact Hd
  isplitl [Hg]; · iexact Hg
  iexact HR

/-- What a load of a slot reads. -/
def slot4 (c : Dev nD) (M : Msg) : Vec F S1x1x128x4096 .bf16 := fun i => xq m (org M c) (quart M) (ix2 (i 2 : Fin 128) (i 3 : Fin 4096))
def slot3 (c : Dev nD) (M : Msg) : Vec F S1x128x4096 .bf16 := fun i => xq m (org M c) (quart M) (ix2 (i 1 : Fin 128) (i 2 : Fin 4096))

theorem load_cw (c : Dev nD) (h : Fin 3) (q : Fin 4) {inb hl} {k : _ → Prog (TpuEff nD τ sig (Elt F) Λ₀ .tc) α} (hx : .sl 0 (.cw h q) ∈ g)
    (hk : ST m K c l r s d g R ⊢ WP c (k (slot4 m c (.cw h q))) Q) :
    ST m K c l r s d g R ⊢ WP c (.op (.load cwB (Rect.unit (s := S3x4x128x4096) ![h.val, q.val, 0, 0] S1x1x128x4096.size inb).toLoadRect hl) k) Q := by
  have hv : cwB.view.readAt (Elt F) (Rect.unit (s := S3x4x128x4096) ![h.val, q.val, 0, 0] S1x1x128x4096.size inb).toLoadRect (cwC m c) = slot4 m c (.cw h q) := by
    funext i
    have e2 (n : ℕ) : 0 + 1 * n = n := by omega
    have hi : (Rect.unit (s := S3x4x128x4096) ![h.val, q.val, 0, 0] S1x1x128x4096.size inb).emb i = ix4 h q (i 2 : Fin 128) (i 3 : Fin 4096) := by
      funext a
      apply Fin.ext
      rw [Rect.emb_apply]
      fin_cases a
      · show h.val + 1 * (i 0).val = h.val
        have h0 : (i 0).val < 1 := (i 0).isLt
        omega
      · show q.val + 1 * (i 1).val = q.val
        have h0 : (i 1).val < 1 := (i 1).isLt
        omega
      · exact e2 _
      · exact e2 _
    show cwC m c ((Rect.unit (s := S3x4x128x4096) ![h.val, q.val, 0, 0] S1x1x128x4096.size inb).emb i) = _
    rw [hi]
    rfl
  refine st_op_piece m K c hx ?_ hk
  rw [← hv]
  refine wp_load 𝒱₀ (c : Thread nD τ) none Set.univ (m := cwB) (Q := Q) (S := (cwM h q).view.set) (q := sh3 0) (f := cwC m c) ?_
  rw [View.set_reshape, View.set_slice]
  exact Finset.Subset.refl _

theorem load_ccw (c : Dev nD) (h : Fin 3) (q : Fin 4) {inb hl} {k : _ → Prog (TpuEff nD τ sig (Elt F) Λ₀ .tc) α} (hx : .sl 0 (.ccw h q) ∈ g)
    (hk : ST m K c l r s d g R ⊢ WP c (k (slot4 m c (.ccw h q))) Q) :
    ST m K c l r s d g R ⊢ WP c (.op (.load ccwB (Rect.unit (s := S3x4x128x4096) ![h.val, q.val, 0, 0] S1x1x128x4096.size inb).toLoadRect hl) k) Q := by
  have hv : ccwB.view.readAt (Elt F) (Rect.unit (s := S3x4x128x4096) ![h.val, q.val, 0, 0] S1x1x128x4096.size inb).toLoadRect (ccwC m c) = slot4 m c (.ccw h q) := by
    funext i
    have e2 (n : ℕ) : 0 + 1 * n = n := by omega
    have hi : (Rect.unit (s := S3x4x128x4096) ![h.val, q.val, 0, 0] S1x1x128x4096.size inb).emb i = ix4 h q (i 2 : Fin 128) (i 3 : Fin 4096) := by
      funext a
      apply Fin.ext
      rw [Rect.emb_apply]
      fin_cases a
      · show h.val + 1 * (i 0).val = h.val
        have h0 : (i 0).val < 1 := (i 0).isLt
        omega
      · show q.val + 1 * (i 1).val = q.val
        have h0 : (i 1).val < 1 := (i 1).isLt
        omega
      · exact e2 _
      · exact e2 _
    show ccwC m c ((Rect.unit (s := S3x4x128x4096) ![h.val, q.val, 0, 0] S1x1x128x4096.size inb).emb i) = _
    rw [hi]
    rfl
  refine st_op_piece m K c hx ?_ hk
  rw [← hv]
  refine wp_load 𝒱₀ (c : Thread nD τ) none Set.univ (m := ccwB) (Q := Q) (S := (ccwM h q).view.set) (q := sh3 0) (f := ccwC m c) ?_
  rw [View.set_reshape, View.set_slice]
  exact Finset.Subset.refl _

theorem load_ch (c : Dev nD) (q : Fin 4) {inb hl} {k : _ → Prog (TpuEff nD τ sig (Elt F) Λ₀ .tc) α} (hx : .sl 0 (.ch q) ∈ g)
    (hk : ST m K c l r s d g R ⊢ WP c (k (slot3 m c (.ch q))) Q) :
    ST m K c l r s d g R ⊢ WP c (.op (.load chB (Rect.unit (s := S4x128x4096) ![q.val, 0, 0] S1x128x4096.size inb).toLoadRect hl) k) Q := by
  have hv : chB.view.readAt (Elt F) (Rect.unit (s := S4x128x4096) ![q.val, 0, 0] S1x128x4096.size inb).toLoadRect (chC m c) = slot3 m c (.ch q) := by
    funext i
    have e2 (n : ℕ) : 0 + 1 * n = n := by omega
    have hi : (Rect.unit (s := S4x128x4096) ![q.val, 0, 0] S1x128x4096.size inb).emb i = ix3 q (i 1 : Fin 128) (i 2 : Fin 4096) := by
      funext a
      apply Fin.ext
      rw [Rect.emb_apply]
      fin_cases a
      · show q.val + 1 * (i 0).val = q.val
        have h0 : (i 0).val < 1 := (i 0).isLt
        omega
      · exact e2 _
      · exact e2 _
    show chC m c ((Rect.unit (s := S4x128x4096) ![q.val, 0, 0] S1x128x4096.size inb).emb i) = _
    rw [hi]
    rfl
  refine st_op_piece m K c hx ?_ hk
  rw [← hv]
  refine wp_load 𝒱₀ (c : Thread nD τ) none Set.univ (m := chB) (Q := Q) (S := (chM q).view.set) (q := sh3 0) (f := chC m c) ?_
  rw [View.set_reshape, View.set_slice]
  exact Finset.Subset.refl _

/-- The load of a device's own rows, whole. -/
theorem load_x (c : Dev nD) {inb hl} {k : _ → Prog (TpuEff nD τ sig (Elt F) Λ₀ .tc) α} (hx : .xa ∈ g)
    (hk : ST m K c l r s d g R ⊢ WP c (k (X m c)) Q) :
    ST m K c l r s d g R ⊢ WP c (.op (.load xM (Rect.unit (s := S512x4096) ![0, 0] S512x4096.size inb).toLoadRect hl) k) Q := by
  have h0 : (![0, 0] : Fin 2 → ℕ) = fun _ => 0 := by funext a; fin_cases a <;> rfl
  have hv : xM.view.readAt (Elt F) (Rect.unit (s := S512x4096) ![0, 0] S512x4096.size inb).toLoadRect (X m c) = X m c :=
    Memref.readAt_unit_zero (Elt F) cc0_stg0_0 h0 inb _
  refine st_op_piece m K c hx ?_ hk
  rw [← hv]
  refine wp_load 𝒱₀ (c : Thread nD τ) none Set.univ (m := xM) (Q := Q) (S := xM.view.set) (q := sh3 0) (f := X m c) ?_
  rw [View.set_whole]
  exact Finset.subset_univ _

end Cert.KernelIdealProof
-- ==== Proof.KIW.lean ====
/-
Bringing the weights in, block by block through two places, and narrowing them.
-/
module

public import proofs.«01_k».proof.Proof.KIWait

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Option (Fin 80) → ℕ)
variable {l r s : List Msg} {d : List (DmaSem sig)} {g : List Pc} {R : sProp (MT nD τ sig Unit (Elt F) ℕ UU ℕ)}
variable {α : Type} {Q : α → sProp (MT nD τ sig Unit (Elt F) ℕ UU ℕ)}

/-! ## The weights' staging

Sixteen blocks of the weights come through two places; block `2 r + s` is place `s`'s `r`-th. -/

/-- A block not yet fetched, with the right to announce it; and a block fetched. -/
def wSrc (c : Dev nD) (b : Fin 16) : sProp 𝕄 :=
  iprop(((wrM b).view.loc (c : Thread nD τ) ↦[(wrM b).view.set]{fullShare} m ((c : Thread nD τ).loc main_arg1))
    ∗ dutyTok ER (dCell c (sW (⟨b.val % 2, Nat.mod_lt _ (by decide)⟩))) (b.val / 2) 0)
def wDone (c : Dev nD) (b : Fin 16) : sProp 𝕄 :=
  (wrM b).view.loc (c : Thread nD τ) ↦[(wrM b).view.set]{fullShare} m ((c : Thread nD τ).loc main_arg1)

/-- A place free, being filled, and filled. -/
def wFree (c : Dev nD) (p : Fin 2) (n : ℕ) : sProp 𝕄 :=
  iprop((∃ f : Buf (Elt F) ((wsM p).view.loc (c : Thread nD τ)), (wsM p).view.loc (c : Thread nD τ) ↦[(wsM p).view.set]{fullShare} f)
    ∗ atPos ER (dCell c (sW p)) n ∅ 0 ∗ reached ER (dCell c (sW p)) n)
def wFly (c : Dev nD) (p : Fin 2) (n : ℕ) : sProp 𝕄 :=
  iprop(cred (tallyAt (dCell c (sW p)) () NW) ∗ atPos ER (dCell c (sW p)) n ∅ 0)
def wGot (c : Dev nD) (p : Fin 2) (n : ℕ) : sProp 𝕄 :=
  iprop(((wsM p).view.loc (c : Thread nD τ) ↦[(wsM p).view.set]{fullShare} wsC m c p n)
    ∗ atPos ER (dCell c (sW p)) (n + 1) ∅ 0 ∗ reached ER (dCell c (sW p)) (n + 1))

theorem got_free (c : Dev nD) (p : Fin 2) (n : ℕ) : wGot m c p n ⊢ wFree (F := F) c p (n + 1) := by
  unfold wGot wFree
  iintro ⟨H, Ha⟩
  isplitl [H]; · iexists _; iexact H
  iexact Ha

/-- The narrowed weights up to block `j`. -/
def WB (c : Dev nD) (j : ℕ) : sProp 𝕄 :=
  iprop(∃ f : Buf (Elt F) (wbB.view.loc (c : Thread nD τ)), (wbB.view.loc (c : Thread nD τ) ↦[Finset.univ]{fullShare} f)
    ∗ ⌜∀ i : S4096x1024.Idx, (i 0).val < 256 * j → (f : Vec F S4096x1024 .bf16) i = wbV m c i⌝)
def wbF (c : Dev nD) : sProp 𝕄 := wbB.view.loc (c : Thread nD τ) ↦[Finset.univ]{fullShare} wbV m c

/-- The whole of it: the two places, the blocks to come and those fetched, the narrowed ones. -/
def wSt (c : Dev nD) (A B : sProp 𝕄) (bs ds : List (Fin 16)) (j : ℕ) (R : sProp 𝕄) : sProp 𝕄 :=
  iprop(A ∗ B ∗ sepL (wSrc m c) bs ∗ sepL (wDone m c) ds ∗ WB m c j ∗ R)

theorem read_wr (c : Dev nD) (b : Fin 16) (p : Fin 2) (n : ℕ) (hb : b.val = 2 * n + p.val) :
    (wsM p).view.read (Elt F) (wsC m c p n) = (wrM b).view.read (Elt F) (m ((c : Thread nD τ).loc main_arg1)) := by
  funext i
  show wsC m c p n ((wsM p).view.emb i) = Wf m c ((Rect.unit (s := S4096x1024) ![256 * b.val, 0] S256x1024.size (inb_wrows b.isLt)).emb i)
  have h0 : (i 0).val < 256 := (i 0).isLt
  have hb' := b.isLt
  rw [emb_ws, emb_rows (256 * b.val) (inb_wrows b.isLt) i (by omega)]
  exact congrArg (fun x : Fin 4096 => Wf m c (ix2 x (i 1 : Fin 1024))) (Fin.ext (show (256 * (2 * n + p.val) + (i 0).val) % 4096 = 256 * b.val + (i 0).val by
    rw [← hb, Nat.mod_eq_of_lt (by omega)]))

theorem win_pay (c : Dev nD) (p : Fin 2) (n : ℕ) (b : Fin 16) (hb : b.val = 2 * n + p.val) :
    dPay m c n (.win p) = iprop(((wsM p).view.loc (c : Thread nD τ) ↦[(wsM p).view.set]{fullShare} wsC m c p n) ∗ wDone m c b) := by
  have hof : (Fin.ofNat 16 (2 * n + p.val)) = b := by
    apply Fin.ext; show (2 * n + p.val) % 16 = b.val; have := b.isLt; omega
  show winPay m c p n = _
  unfold winPay wDone
  rw [hof]

theorem start_core (c : Dev nD) (p : Fin 2) (n : ℕ) (b : Fin 16) (hb : b.val = 2 * n + p.val) {sW' : DmaSem sig} (hs : sW' = sW p) {hsrc hdst hsem}
    {k : PUnit → Prog (TpuEff nD τ sig (Elt F) Λ₀ .tc) α}
    (hk : ST m K c l r s d g iprop(wFly (F := F) c p n ∗ R) ⊢ WP c (k ⟨⟩) Q) :
    ST m K c l r s d g iprop(wFree (F := F) c p n ∗ wSrc m c b ∗ R)
      ⊢ WP c (.op (.enqueueDma (wrM b) (.here (wsM p)) (.dma sW') hsrc hdst hsem) k) Q := by
  subst hs
  have hp : (⟨b.val % 2, Nat.mod_lt _ (by decide)⟩ : Fin 2) = p := by
    apply Fin.ext; show b.val % 2 = p.val; have := p.isLt; omega
  have hn : b.val / 2 = n := by have := p.isLt; omega
  have hn8 : n < 8 := by have := b.isLt; omega
  have hrole : dDut n (role (sW p)) = {0} := by rw [role_sW]; exact if_pos hn8
  unfold ST at hk ⊢
  unfold wFree wSrc
  rw [hp, hn]
  iintro ⟨#Hc, Ho, Hl, Hr, Hs, Hd, Hg, ⟨⟨%f, Hw⟩, Ha, Hre⟩, ⟨Hsrc, Ht⟩, HR⟩
  ihave H1 := (ctx_d m K c (sW p) (sW_pos p)) $$ Hc
  icases H1 with ⟨#HI1, -⟩
  iapply (Rounds.wp_copy_pointsTo 𝒱₀ ER (Rd m) (c : Thread nD τ) none (κ := kd K c (sW p)) (r := n) (d := 0)
    (by rw [duties_d, hrole]; exact Finset.mem_singleton_self _) () NW ((View.amount_dma _ _).trans (cr_ws p)) (by rw [amount_d, role_sW]; rfl)
    (by
      rw [payload_d, role_sW, win_pay m c p n b hb]
      exact sep_mono_left (Entails.of_eq (write_lands (wsM p) f (wsC m c p n) _ (read_wr m c b p n hb))))) $$ [Hw Hsrc Ht Hre]
  · isplitr; · iexact HI1
    isplitl [Hsrc]; · iexact Hsrc
    isplitl [Hw]; · iexact Hw
    isplitl [Ht]; · iexact Ht
    iexact Hre
  iintro Hcr
  iapply hk
  unfold wFly
  isplitr; · iexact Hc
  isplitl [Ho]; · iexact Ho
  isplitl [Hl]; · iexact Hl
  isplitl [Hr]; · iexact Hr
  isplitl [Hs]; · iexact Hs
  isplitl [Hd]; · iexact Hd
  isplitl [Hg]; · iexact Hg
  isplitl [Hcr Ha]; · isplitl [Hcr] <;> iassumption
  iexact HR

theorem fill_core (c : Dev nD) (p : Fin 2) (n : ℕ) (b : Fin 16) (hb : b.val = 2 * n + p.val) {sW' : DmaSem sig} (hs : sW' = sW p)
    {e' : EltTy} {sp' : Space} {sh' : Shape} {srcm : Memref sig .tc sp' sh' e'} {hsrc hdst}
    {k : PUnit → Prog (TpuEff nD τ sig (Elt F) Λ₀ .tc) α}
    (hk : ST m K c l r s d g iprop(wGot m c p n ∗ wDone m c b ∗ R) ⊢ WP c (k ⟨⟩) Q) :
    ST m K c l r s d g iprop(wFly (F := F) c p n ∗ R) ⊢ WP c (.op (.waitDma2 sW' srcm (wsM p) hsrc hdst) k) Q := by
  subst hs
  have hn8 : n < 8 := by have := b.isLt; omega
  have hrole : dDut n (role (sW p)) = {0} := by rw [role_sW]; exact if_pos hn8
  unfold ST at hk ⊢
  unfold wFly
  iintro ⟨#Hc, ⟨%W, Ho⟩, Hl, Hr, Hs, Hd, Hg, ⟨Hcr, Hat⟩, HR⟩
  ihave H1 := (ctx_d m K c (sW p) (sW_pos p)) $$ Hc
  icases H1 with ⟨#HI1, -⟩
  iapply (Rounds.wp_wait_rest_token 𝒱₀ ER (Rd m) (c : Thread nD τ) none (κ := kd K c (sW p))
      (wpE_waitDma2_eq 𝒱₀ (c : Thread nD τ) none Set.univ) (Set.mem_univ _) () (O := Osum c l) (W := W) (R := n) (m := 0) (T := ∅)
      (by rw [Nat.zero_add, expect_d m c _ _ hrole, role_sW]; exact cr_ws p)) $$ [Hcr Ho Hat]
  · isplitr; · iexact HI1
    isplitl [Hcr]; · rw [cr_ws p]; iexact Hcr
    isplitl [Ho]; · iexact Ho
    isplitr
    · iapply (mayWait_d c (sW p) l (by rw [lvI_sW]; exact fun M' _ => Nat.lt_of_lt_of_le Nat.zero_lt_one (lvM_pos M').le)); iapply (ctx_lev m K); iexact Hc
    iexact Hat
  iintro ⟨Ho, Hat, Hre, Hpay⟩
  ihave Hp := (Entails.of_eq ((rest_d m c (sW p) n hrole).trans (by rw [role_sW, win_pay m c p n b hb] :
    _ = iprop(((wsM p).view.loc (c : Thread nD τ) ↦[(wsM p).view.set]{fullShare} wsC m c p n) ∗ wDone m c b)))) $$ Hpay
  icases Hp with ⟨Hp, Hdn⟩
  iapply hk
  unfold wGot
  isplitr; · iexact Hc
  isplitl [Ho]; · iexists _; iexact Ho
  isplitl [Hl]; · iexact Hl
  isplitl [Hr]; · iexact Hr
  isplitl [Hs]; · iexact Hs
  isplitl [Hd]; · iexact Hd
  isplitl [Hg]; · iexact Hg
  isplitl [Hp Hat Hre]
  · isplitl [Hp]; · iexact Hp
    isplitl [Hat] <;> iassumption
  isplitl [Hdn] <;> iassumption

theorem w_start0 (c : Dev nD) (n : ℕ) (b : Fin 16) (hb : b.val = 2 * n) {A B : sProp 𝕄} {bs ds : List (Fin 16)} {j : ℕ} (hA : A ⊢ wFree (F := F) c 0 n)
    {i hsrc hdst hsem} {k : PUnit → Prog (TpuEff nD τ sig (Elt F) Λ₀ .tc) α}
    (hk : ST m K c l r s d g (wSt m c (wFly (F := F) c 0 n) B bs ds j R) ⊢ WP c (k ⟨⟩) Q) :
    ST m K c l r s d g (wSt m c A B (b :: bs) ds j R)
      ⊢ WP c (.op (.enqueueDma (wrM b) (.here (wsM 0)) (.dma ((cc0_scratch15.slice (Rect.unit (s := S2) ![0] S1.size i)).squeeze S_ squeezes_S1_S_).sem) hsrc hdst hsem) k) Q := by
  refine BIBase.Entails.trans (st_rest m K c (R' := iprop(wFree (F := F) c 0 n ∗ wSrc m c b ∗ B ∗ sepL (wSrc m c) bs ∗ sepL (wDone m c) ds ∗ WB m c j ∗ R)) ?_)
    (start_core m K c 0 n b hb (semW 0 (by decide) i) hk)
  unfold wSt
  rw [sepL_cons]
  iintro ⟨HA, HB, ⟨H1, H2⟩, H3⟩
  isplitl [HA]; · iapply hA; iexact HA
  isplitl [H1]; · iexact H1
  isplitl [HB]; · iexact HB
  isplitl [H2]; · iexact H2
  iexact H3

theorem w_start1 (c : Dev nD) (n : ℕ) (b : Fin 16) (hb : b.val = 2 * n + 1) {A B : sProp 𝕄} {bs ds : List (Fin 16)} {j : ℕ} (hB : B ⊢ wFree (F := F) c 1 n)
    {i hsrc hdst hsem} {k : PUnit → Prog (TpuEff nD τ sig (Elt F) Λ₀ .tc) α}
    (hk : ST m K c l r s d g (wSt m c A (wFly (F := F) c 1 n) bs ds j R) ⊢ WP c (k ⟨⟩) Q) :
    ST m K c l r s d g (wSt m c A B (b :: bs) ds j R)
      ⊢ WP c (.op (.enqueueDma (wrM b) (.here (wsM 1)) (.dma ((cc0_scratch15.slice (Rect.unit (s := S2) ![1] S1.size i)).squeeze S_ squeezes_S1_S_).sem) hsrc hdst hsem) k) Q := by
  refine BIBase.Entails.trans (st_rest m K c (R' := iprop(wFree (F := F) c 1 n ∗ wSrc m c b ∗ A ∗ sepL (wSrc m c) bs ∗ sepL (wDone m c) ds ∗ WB m c j ∗ R)) ?_)
    (start_core m K c 1 n b hb (semW 1 (by decide) i) (BIBase.Entails.trans (st_rest m K c ?_) hk))
  · unfold wSt
    rw [sepL_cons]
    iintro ⟨HA, HB, ⟨H1, H2⟩, H3⟩
    isplitl [HB]; · iapply hB; iexact HB
    isplitl [H1]; · iexact H1
    isplitl [HA]; · iexact HA
    isplitl [H2]; · iexact H2
    iexact H3
  · unfold wSt
    iintro ⟨HB, HA, H⟩
    isplitl [HA]; · iexact HA
    isplitl [HB]; · iexact HB
    iexact H

theorem w_wait0 (c : Dev nD) (n : ℕ) (b : Fin 16) (hb : b.val = 2 * n) {B : sProp 𝕄} {bs ds : List (Fin 16)} {j : ℕ}
    {e' : EltTy} {sp' : Space} {sh' : Shape} {srcm : Memref sig .tc sp' sh' e'} {i hsrc hdst} {k : PUnit → Prog (TpuEff nD τ sig (Elt F) Λ₀ .tc) α}
    (hk : ST m K c l r s d g (wSt m c (wGot m c 0 n) B bs (b :: ds) j R) ⊢ WP c (k ⟨⟩) Q) :
    ST m K c l r s d g (wSt m c (wFly (F := F) c 0 n) B bs ds j R)
      ⊢ WP c (.op (.waitDma2 ((cc0_scratch15.slice (Rect.unit (s := S2) ![0] S1.size i)).squeeze S_ squeezes_S1_S_).sem srcm (wsM 0) hsrc hdst) k) Q := by
  refine fill_core m K c 0 n b hb (semW 0 (by decide) i) (BIBase.Entails.trans (st_rest m K c ?_) hk)
  unfold wSt
  rw [sepL_cons]
  iintro ⟨HA, H1, HB, H2, H3, H4⟩
  isplitl [HA]; · iexact HA
  isplitl [HB]; · iexact HB
  isplitl [H2]; · iexact H2
  isplitl [H1 H3]; · isplitl [H1] <;> iassumption
  iexact H4

theorem w_wait1 (c : Dev nD) (n : ℕ) (b : Fin 16) (hb : b.val = 2 * n + 1) {A : sProp 𝕄} {bs ds : List (Fin 16)} {j : ℕ}
    {e' : EltTy} {sp' : Space} {sh' : Shape} {srcm : Memref sig .tc sp' sh' e'} {i hsrc hdst} {k : PUnit → Prog (TpuEff nD τ sig (Elt F) Λ₀ .tc) α}
    (hk : ST m K c l r s d g (wSt m c A (wGot m c 1 n) bs (b :: ds) j R) ⊢ WP c (k ⟨⟩) Q) :
    ST m K c l r s d g (wSt m c A (wFly (F := F) c 1 n) bs ds j R)
      ⊢ WP c (.op (.waitDma2 ((cc0_scratch15.slice (Rect.unit (s := S2) ![1] S1.size i)).squeeze S_ squeezes_S1_S_).sem srcm (wsM 1) hsrc hdst) k) Q := by
  refine BIBase.Entails.trans (st_rest m K c (R' := iprop(wFly (F := F) c 1 n ∗ A ∗ sepL (wSrc m c) bs ∗ sepL (wDone m c) ds ∗ WB m c j ∗ R)) ?_)
    (fill_core m K c 1 n b hb (semW 1 (by decide) i) (BIBase.Entails.trans (st_rest m K c ?_) hk))
  · unfold wSt
    iintro ⟨HA, HB, H⟩
    isplitl [HB]; · iexact HB
    isplitl [HA]; · iexact HA
    iexact H
  · unfold wSt
    rw [sepL_cons]
    iintro ⟨HB, H1, HA, H2, H3, H4⟩
    isplitl [HA]; · iexact HA
    isplitl [HB]; · iexact HB
    isplitl [H2]; · iexact H2
    isplitl [H1 H3]; · isplitl [H1] <;> iassumption
    iexact H4

/-- What the load of a filled place reads. -/
def wst (c : Dev nD) (b : Fin 16) : Vec F S1x256x1024 .f32 := fun i => Wf m c (ix2 (⟨256 * b.val + (i 1 : Fin 256).val, by
  have h : (i 1 : Fin 256).val < 256 := (i 1 : Fin 256).isLt
  have h' := b.isLt
  omega⟩ : Fin 4096) (i 2 : Fin 1024))

theorem ws_load (c : Dev nD) (p : Fin 2) (n : ℕ) (b : Fin 16) (hb : b.val = 2 * n + p.val) {inb hl} {k : _ → Prog (TpuEff nD τ sig (Elt F) Λ₀ .tc) α} :
    wGot m c p n ⊢ iprop((wGot m c p n -∗ WP c (k (wst m c b)) Q)
      -∗ WP c (.op (.load wsB (Rect.unit (s := S2x256x1024) ![p.val, 0, 0] S1x256x1024.size inb).toLoadRect hl) k) Q) := by
  have hv : wsB.view.readAt (Elt F) (Rect.unit (s := S2x256x1024) ![p.val, 0, 0] S1x256x1024.size inb).toLoadRect (wsC m c p n) = wst m c b := by
    funext i
    have e2 (n : ℕ) : 0 + 1 * n = n := by omega
    have hi : (Rect.unit (s := S2x256x1024) ![p.val, 0, 0] S1x256x1024.size inb).emb i = ix3 p (i 1 : Fin 256) (i 2 : Fin 1024) := by
      funext a
      apply Fin.ext
      rw [Rect.emb_apply]
      fin_cases a
      · show p.val + 1 * (i 0).val = p.val
        have h0 : (i 0).val < 1 := (i 0).isLt
        omega
      · exact e2 _
      · exact e2 _
    show wsC m c p n ((Rect.unit (s := S2x256x1024) ![p.val, 0, 0] S1x256x1024.size inb).emb i) = _
    rw [hi]
    have h1 : (i 1 : Fin 256).val < 256 := (i 1 : Fin 256).isLt
    have h2 := b.isLt
    exact congrArg (fun x : Fin 4096 => Wf m c (ix2 x (i 2 : Fin 1024))) (Fin.ext (show (256 * (2 * n + p.val) + (i 1 : Fin 256).val) % 4096 = 256 * b.val + (i 1 : Fin 256).val by
      rw [← hb, Nat.mod_eq_of_lt (by omega)]))
  unfold wGot
  rw [← hv]
  iintro ⟨H, Ha⟩ Hk
  iapply (wp_load 𝒱₀ (c : Thread nD τ) none Set.univ (m := wsB) (Q := Q) (S := (wsM p).view.set) (q := fullShare) (f := wsC m c p n)
    (by rw [View.set_reshape, View.set_slice]; exact Finset.Subset.refl _)) $$ H
  iintro H
  iapply Hk
  isplitl [H] <;> iassumption

theorem w_load0 (c : Dev nD) (n : ℕ) (b : Fin 16) (hb : b.val = 2 * n) {B : sProp 𝕄} {bs ds : List (Fin 16)} {j : ℕ} {inb hl}
    {k : _ → Prog (TpuEff nD τ sig (Elt F) Λ₀ .tc) α}
    (hk : ST m K c l r s d g (wSt m c (wGot m c 0 n) B bs ds j R) ⊢ WP c (k (wst m c b)) Q) :
    ST m K c l r s d g (wSt m c (wGot m c 0 n) B bs ds j R)
      ⊢ WP c (.op (.load wsB (Rect.unit (s := S2x256x1024) ![0, 0, 0] S1x256x1024.size inb).toLoadRect hl) k) Q := by
  refine st_op_rest₁ m K c ?_ hk
  unfold wSt
  iintro ⟨HA, H⟩ Hk
  iapply (ws_load m c 0 n b hb) $$ HA
  iintro HA
  iapply Hk
  isplitl [HA] <;> iassumption

theorem w_load1 (c : Dev nD) (n : ℕ) (b : Fin 16) (hb : b.val = 2 * n + 1) {A : sProp 𝕄} {bs ds : List (Fin 16)} {j : ℕ} {inb hl}
    {k : _ → Prog (TpuEff nD τ sig (Elt F) Λ₀ .tc) α}
    (hk : ST m K c l r s d g (wSt m c A (wGot m c 1 n) bs ds j R) ⊢ WP c (k (wst m c b)) Q) :
    ST m K c l r s d g (wSt m c A (wGot m c 1 n) bs ds j R)
      ⊢ WP c (.op (.load wsB (Rect.unit (s := S2x256x1024) ![1, 0, 0] S1x256x1024.size inb).toLoadRect hl) k) Q := by
  refine st_op_rest₁ m K c ?_ hk
  unfold wSt
  iintro ⟨HA, HB, H⟩ Hk
  iapply (ws_load m c 1 n b hb) $$ HB
  iintro HB
  iapply Hk
  isplitl [HA]; · iexact HA
  isplitl [HB] <;> iassumption

/-- A load whose result no one uses. -/
theorem w_dead (c : Dev nD) {A B : sProp 𝕄} {bs ds : List (Fin 16)} {j : ℕ} {rc : LoadRect S4096x1024} {hl}
    {k : _ → Prog (TpuEff nD τ sig (Elt F) Λ₀ .tc) α}
    (hk : ∀ v, ST m K c l r s d g (wSt m c A B bs ds j R) ⊢ WP c (k v) Q) :
    ST m K c l r s d g (wSt m c A B bs ds j R) ⊢ WP c (.op (.load wbB rc hl) k) Q := by
  refine st_op_rest m K c ?_ hk
  unfold wSt WB
  iintro ⟨HA, HB, H1, H2, ⟨%f, Hf, %hf⟩, HR⟩ Hk
  iapply (wp_load 𝒱₀ (c : Thread nD τ) none Set.univ (m := wbB) (Q := Q) (S := Finset.univ) (q := fullShare) (f := f) (Finset.subset_univ _)) $$ Hf
  iintro Hf
  iapply Hk
  isplitl [HA]; · iexact HA
  isplitl [HB]; · iexact HB
  isplitl [H1]; · iexact H1
  isplitl [H2]; · iexact H2
  isplitl [Hf]
  · iexists f
    isplitl [Hf]; · iexact Hf
    ipureintro; exact hf
  iexact HR

/-- A block narrowed. -/
def nrw (v : Vec F S1x256x1024 .f32) : FVec F S256x1024 .bf16 :=
  shapeCast S256x1024 (truncf .bf16 (shapeCast S256x1024 v shapeCasts_S1x256x1024_S256x1024) bitsLt_bf16_f32) shapeCasts_S256x1024_S256x1024

/-! ## Rows written -/

theorem out_write_in {n : ℕ} (o : ℕ) (inb) (f : Vec F S4096x1024 .f32) (w : (⟨2, ![n, 1024]⟩ : Shape).Idx → F .f32) (i : S4096x1024.Idx)
    (h1 : o ≤ (i 0).val) (h2 : (i 0).val - o < n) :
    (outB.access (Rect.unit (s := S4096x1024) ![o, 0] (⟨2, ![n, 1024]⟩ : Shape).size inb) : View sig .tc _ _ _).write (Elt F) f w Finset.univ i
      = w (ix2 (⟨(i 0).val - o, h2⟩ : Fin n) (i 1 : Fin 1024)) := by
  have hi : (outB.access (Rect.unit (s := S4096x1024) ![o, 0] (⟨2, ![n, 1024]⟩ : Shape).size inb) : View sig .tc _ _ _).emb (ix2 (⟨(i 0).val - o, h2⟩ : Fin n) (i 1 : Fin 1024)) = i := by
    show (Rect.unit (s := S4096x1024) ![o, 0] (⟨2, ![n, 1024]⟩ : Shape).size inb).emb _ = i
    have h3 : (i 0).val < 4096 := (i 0).isLt
    rw [emb_rows o inb (ix2 (⟨(i 0).val - o, h2⟩ : Fin n) (i 1 : Fin 1024)) (by show o + ((i 0).val - o) < 4096; omega)]
    refine Eq.trans ?_ (eq_ix2 i).symm
    exact congrArg (fun x : Fin 4096 => ix2 x (i 1 : Fin 1024)) (Fin.ext (show o + ((i 0).val - o) = (i 0).val by omega))
  conv_lhs => rw [← hi]
  rw [View.write_emb_of_mem _ _ (Finset.mem_univ _)]
  rfl

theorem out_write_out {n : ℕ} (o : ℕ) (inb) (f : Vec F S4096x1024 .f32) (w : (⟨2, ![n, 1024]⟩ : Shape).Idx → F .f32) (i : S4096x1024.Idx)
    (h : (i 0).val < o ∨ o + n ≤ (i 0).val) :
    (outB.access (Rect.unit (s := S4096x1024) ![o, 0] (⟨2, ![n, 1024]⟩ : Shape).size inb) : View sig .tc _ _ _).write (Elt F) f w Finset.univ i = f i := by
  apply View.write_of_not_mem
  intro hm
  obtain ⟨x, -, hx⟩ := Finset.mem_map.mp hm
  have h0 : ((Rect.unit (s := S4096x1024) ![o, 0] (⟨2, ![n, 1024]⟩ : Shape).size inb).emb x 0).val = (i 0).val :=
    congrArg (fun y : S4096x1024.Idx => (y 0).val) hx
  rw [Rect.emb_apply] at h0
  have h1 : o + 1 * (x 0).val = (i 0).val := h0
  have h2 : (x 0).val < n := (x 0).isLt
  omega

theorem wb_write_in {n : ℕ} (o : ℕ) (inb) (f : Vec F S4096x1024 .bf16) (w : (⟨2, ![n, 1024]⟩ : Shape).Idx → F .bf16) (i : S4096x1024.Idx)
    (h1 : o ≤ (i 0).val) (h2 : (i 0).val - o < n) :
    (wbB.access (Rect.unit (s := S4096x1024) ![o, 0] (⟨2, ![n, 1024]⟩ : Shape).size inb) : View sig .tc _ _ _).write (Elt F) f w Finset.univ i
      = w (ix2 (⟨(i 0).val - o, h2⟩ : Fin n) (i 1 : Fin 1024)) := by
  have hi : (wbB.access (Rect.unit (s := S4096x1024) ![o, 0] (⟨2, ![n, 1024]⟩ : Shape).size inb) : View sig .tc _ _ _).emb (ix2 (⟨(i 0).val - o, h2⟩ : Fin n) (i 1 : Fin 1024)) = i := by
    show (Rect.unit (s := S4096x1024) ![o, 0] (⟨2, ![n, 1024]⟩ : Shape).size inb).emb _ = i
    have h3 : (i 0).val < 4096 := (i 0).isLt
    rw [emb_rows o inb (ix2 (⟨(i 0).val - o, h2⟩ : Fin n) (i 1 : Fin 1024)) (by show o + ((i 0).val - o) < 4096; omega)]
    refine Eq.trans ?_ (eq_ix2 i).symm
    exact congrArg (fun x : Fin 4096 => ix2 x (i 1 : Fin 1024)) (Fin.ext (show o + ((i 0).val - o) = (i 0).val by omega))
  conv_lhs => rw [← hi]
  rw [View.write_emb_of_mem _ _ (Finset.mem_univ _)]
  rfl

theorem wb_write_out {n : ℕ} (o : ℕ) (inb) (f : Vec F S4096x1024 .bf16) (w : (⟨2, ![n, 1024]⟩ : Shape).Idx → F .bf16) (i : S4096x1024.Idx)
    (h : (i 0).val < o ∨ o + n ≤ (i 0).val) :
    (wbB.access (Rect.unit (s := S4096x1024) ![o, 0] (⟨2, ![n, 1024]⟩ : Shape).size inb) : View sig .tc _ _ _).write (Elt F) f w Finset.univ i = f i := by
  apply View.write_of_not_mem
  intro hm
  obtain ⟨x, -, hx⟩ := Finset.mem_map.mp hm
  have h0 : ((Rect.unit (s := S4096x1024) ![o, 0] (⟨2, ![n, 1024]⟩ : Shape).size inb).emb x 0).val = (i 0).val :=
    congrArg (fun y : S4096x1024.Idx => (y 0).val) hx
  rw [Rect.emb_apply] at h0
  have h1 : o + 1 * (x 0).val = (i 0).val := h0
  have h2 : (x 0).val < n := (x 0).isLt
  omega

theorem nrw_wst (c : Dev nD) (b : Fin 16) (j : Fin 256) (k : Fin 1024) (h : 256 * b.val + j.val < 4096) :
    nrw (wst m c b) (ix2 j k) = wbV m c (ix2 (⟨256 * b.val + j.val, h⟩ : Fin 4096) k) := by
  have h' : shapeCast S256x1024 (wst m c b) shapeCasts_S1x256x1024_S256x1024 = fun i : S256x1024.Idx => Wf m c (ix2 (⟨256 * b.val + (i 0 : Fin 256).val, by
      have h : (i 0 : Fin 256).val < 256 := (i 0 : Fin 256).isLt
      have h' := b.isLt
      omega⟩ : Fin 4096) (i 1 : Fin 1024)) := by
    funext i
    obtain ⟨i₀, i₁, rfl⟩ := ix2_surj i
    rw [shapeCast_1ab_ab_apply]
    rfl
  unfold nrw
  rw [shapeCast_self, h']
  rfl

theorem w_store (c : Dev nD) (b : Fin 16) {A B : sProp 𝕄} {bs ds : List (Fin 16)} {inb : _} {v hx hm} (hv : v = nrw (wst m c b))
    {k : PUnit → Prog (TpuEff nD τ sig (Elt F) Λ₀ .tc) α}
    (hk : ST m K c l r s d g (wSt m c A B bs ds (b.val + 1) R) ⊢ WP c (k ⟨⟩) Q) :
    ST m K c l r s d g (wSt m c A B bs ds b.val R)
      ⊢ WP c (.op (.store wbB (Rect.unit (s := S4096x1024) ![256 * b.val, 0] S256x1024.size inb) v Finset.univ hx hm) k) Q := by
  subst hv
  refine st_op_rest₁ m K c ?_ hk
  unfold wSt WB
  iintro ⟨HA, HB, H1, H2, ⟨%f, Hf, %hf⟩, HR⟩ Hk
  iapply (wp_store 𝒱₀ (c : Thread nD τ) none Set.univ (m := wbB) (r := Rect.unit (s := S4096x1024) ![256 * b.val, 0] S256x1024.size inb) (Q := Q) (S := Finset.univ) (f := f) (Finset.subset_univ _)) $$ Hf
  iintro Hf
  iapply Hk
  isplitl [HA]; · iexact HA
  isplitl [HB]; · iexact HB
  isplitl [H1]; · iexact H1
  isplitl [H2]; · iexact H2
  isplitl [Hf]
  · iexists _
    isplitl [Hf]; · iexact Hf
    ipureintro
    intro i hi
    have hb := b.isLt
    by_cases h : (i 0).val < 256 * b.val
    · refine (wb_write_out (256 * b.val) inb f _ i (.inl h)).trans (hf i h)
    · refine (wb_write_in (256 * b.val) inb f _ i (by omega) (by omega)).trans ?_
      refine (nrw_wst m c b (⟨(i 0).val - 256 * b.val, by omega⟩ : Fin 256) (i 1 : Fin 1024) (by show 256 * b.val + ((i 0).val - 256 * b.val) < 4096; omega)).trans ?_
      refine congrArg (wbV m c) (Eq.trans ?_ (eq_ix2 i).symm)
      exact congrArg (fun x : Fin 4096 => ix2 x (i 1 : Fin 1024)) (Fin.ext (show 256 * b.val + ((i 0).val - 256 * b.val) = (i 0).val by omega))
  iexact HR

/-! ## The end of the staging -/

/-- What is left of the staging: the places and the blocks. -/
def wRest (c : Dev nD) (ds : List (Fin 16)) : sProp 𝕄 :=
  iprop((∃ f : Buf (Elt F) ((wsM 0).view.loc (c : Thread nD τ)), (wsM 0).view.loc (c : Thread nD τ) ↦[(wsM 0).view.set]{fullShare} f)
    ∗ (∃ f : Buf (Elt F) ((wsM 1).view.loc (c : Thread nD τ)), (wsM 1).view.loc (c : Thread nD τ) ↦[(wsM 1).view.set]{fullShare} f)
    ∗ sepL (wDone m c) ds)

theorem w_done (c : Dev nD) {ds : List (Fin 16)} {p : Prog (TpuEff nD τ sig (Elt F) Λ₀ .tc) α}
    (hk : ST m K c l r s (sW 0 :: sW 1 :: d) g iprop(wbF m c ∗ wRest m c ds ∗ R) ⊢ WP c p Q) :
    ST m K c l r s d g (wSt m c (wGot m c 0 7) (wGot m c 1 7) [] ds 16 R) ⊢ WP c p Q := by
  unfold ST at hk ⊢
  unfold wSt wGot WB
  iintro ⟨#Hc, Ho, Hl, Hr, Hs, Hd, Hg, ⟨H0, Ha0, -⟩, ⟨H1, Ha1, -⟩, -, Hds, ⟨%f, Hf, %hf⟩, HR⟩
  have hff : f = wbV m c := funext fun i => hf i (by have h : (i 0).val < 4096 := (i 0).isLt; omega)
  subst hff
  ihave HI0 := (ctx_d m K c (sW 0) (sW_pos 0)) $$ Hc
  icases HI0 with ⟨#HI0, -⟩
  ihave HI1 := (ctx_d m K c (sW 1) (sW_pos 1)) $$ Hc
  icases HI1 with ⟨#HI1, -⟩
  imod (Rounds.cell_close ER (Rd m) (Set.mem_univ (kd K c (sW 0))) (fun h => h) (R := 7 + 1) (later_w m c 0)) $$ [Ha0] with Hz0
  · isplitr; · iexact HI0
    iexact Ha0
  imod (Rounds.cell_close ER (Rd m) (Set.mem_univ (kd K c (sW 1))) (fun h => h) (R := 7 + 1) (later_w m c 1)) $$ [Ha1] with Hz1
  · isplitr; · iexact HI1
    iexact Ha1
  iapply hk
  simp only [sepL_cons]
  unfold wbF wRest zR
  isplitr; · iexact Hc
  isplitl [Ho]; · iexact Ho
  isplitl [Hl]; · iexact Hl
  isplitl [Hr]; · iexact Hr
  isplitl [Hs]; · iexact Hs
  isplitl [Hd Hz0 Hz1]
  · isplitl [Hz0]; · iexact Hz0
    isplitl [Hz1] <;> iassumption
  isplitl [Hg]; · iexact Hg
  isplitl [Hf]; · iexact Hf
  isplitl [H0 H1 Hds]
  · isplitl [H0]; · iexists _; iexact H0
    isplitl [H1]; · iexists _; iexact H1
    iexact Hds
  iexact HR

end Cert.KernelIdealProof
-- ==== Proof.KIOut.lean ====
/-
The result's buffer while the products are made: the rows stored, and the running maximum.
-/
module

public import proofs.«01_k».proof.Proof.KIW

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Option (Fin 80) → ℕ)
variable {l r s : List Msg} {d : List (DmaSem sig)} {g : List Pc} {R : sProp (MT nD τ sig Unit (Elt F) ℕ UU ℕ)}
variable {α : Type} {Q : α → sProp (MT nD τ sig Unit (Elt F) ℕ UU ℕ)}

/-! ## The result's buffer while the products are made -/

/-- The buffer before anything of it is known. -/
def OutI (c : Dev nD) : sProp 𝕄 :=
  iprop(∃ f : Buf (Elt F) (outB.view.loc (c : Thread nD τ)), outB.view.loc (c : Thread nD τ) ↦[Finset.univ]{fullShare} f)

/-- The device's own rows and those of the messages of a list are made. -/
def OutR (c : Dev nD) (L : List Msg) : sProp 𝕄 :=
  iprop(∃ f : Buf (Elt F) (outB.view.loc (c : Thread nD τ)), (outB.view.loc (c : Thread nD τ) ↦[Finset.univ]{fullShare} f)
    ∗ ⌜∀ i : S4096x1024.Idx, ((i 0).val / 512 = c.val ∨ ∃ M ∈ L, (i 0).val / 128 = 4 * (org M c).val + (quart M).val) →
        (f : Vec F S4096x1024 .f32) i = yC m c i⌝)

/-- The loads of the narrowed weights. -/
theorem load_wb (c : Dev nD) {inb hl} {k : Vec F S4096x1024 .bf16 → Prog (TpuEff nD τ sig (Elt F) Λ₀ .tc) α}
    (hk : ST m K c l r s d g iprop(wbF m c ∗ R) ⊢ WP c (k (wbV m c)) Q) :
    ST m K c l r s d g iprop(wbF m c ∗ R)
      ⊢ WP c (.op (.load wbB (Rect.unit (s := S4096x1024) ![0, 0] S4096x1024.size inb).toLoadRect hl) k) Q := by
  have h0 : (![0, 0] : Fin 2 → ℕ) = fun _ => 0 := by funext a; fin_cases a <;> rfl
  have hv : wbB.view.readAt (Elt F) (Rect.unit (s := S4096x1024) ![0, 0] S4096x1024.size inb).toLoadRect (wbV m c) = wbV m c :=
    Memref.readAt_unit_zero (Elt F) cc0_scratch3 h0 inb _
  refine st_op_rest₁ m K c ?_ hk
  unfold wbF
  iintro ⟨H, HR⟩ Hk
  iapply (wp_load 𝒱₀ (c : Thread nD τ) none Set.univ (m := wbB) (Q := Q) (S := Finset.univ) (q := fullShare) (f := wbV m c) (Finset.subset_univ _)) $$ H
  iintro H
  rw [hv]
  iapply Hk
  isplitl [H] <;> iassumption

theorem load_outI (c : Dev nD) {P : sProp 𝕄} {rc : LoadRect S4096x1024} {hl} {k : _ → Prog (TpuEff nD τ sig (Elt F) Λ₀ .tc) α}
    (hk : ∀ v, ST m K c l r s d g iprop(P ∗ OutI (F := F) c ∗ R) ⊢ WP c (k v) Q) :
    ST m K c l r s d g iprop(P ∗ OutI (F := F) c ∗ R) ⊢ WP c (.op (.load outB rc hl) k) Q := by
  refine st_op_rest m K c ?_ hk
  unfold OutI
  iintro ⟨HP, ⟨%f, Hf⟩, HR⟩ Hk
  iapply (wp_load 𝒱₀ (c : Thread nD τ) none Set.univ (m := outB) (Q := Q) (S := Finset.univ) (q := fullShare) (f := f) (Finset.subset_univ _)) $$ Hf
  iintro Hf
  iapply Hk
  isplitl [HP]; · iexact HP
  isplitl [Hf]; · iexists f; iexact Hf
  iexact HR

theorem load_outR (c : Dev nD) {P : sProp 𝕄} {L : List Msg} {rc : LoadRect S4096x1024} {hl} {k : _ → Prog (TpuEff nD τ sig (Elt F) Λ₀ .tc) α}
    (hk : ∀ v, ST m K c l r s d g iprop(P ∗ OutR m c L ∗ R) ⊢ WP c (k v) Q) :
    ST m K c l r s d g iprop(P ∗ OutR m c L ∗ R) ⊢ WP c (.op (.load outB rc hl) k) Q := by
  refine st_op_rest m K c ?_ hk
  unfold OutR
  iintro ⟨HP, ⟨%f, Hf, %hf⟩, HR⟩ Hk
  iapply (wp_load 𝒱₀ (c : Thread nD τ) none Set.univ (m := outB) (Q := Q) (S := Finset.univ) (q := fullShare) (f := f) (Finset.subset_univ _)) $$ Hf
  iintro Hf
  iapply Hk
  isplitl [HP]; · iexact HP
  isplitl [Hf]
  · iexists f
    isplitl [Hf]; · iexact Hf
    ipureintro; exact hf
  iexact HR

/-! ### The device's own rows -/

theorem store_own (c : Dev nD) {P : sProp 𝕄} {of : Fin 2 → ℕ} (hof : of = ![512 * c.val, 0]) {inb : _} {v hx hm} (hv : v = zOwn m c)
    {k : PUnit → Prog (TpuEff nD τ sig (Elt F) Λ₀ .tc) α}
    (hk : ST m K c l r s d g iprop(P ∗ OutR m c [] ∗ R) ⊢ WP c (k ⟨⟩) Q) :
    ST m K c l r s d g iprop(P ∗ OutI (F := F) c ∗ R)
      ⊢ WP c (.op (.store outB (Rect.unit (s := S4096x1024) of S512x1024.size inb) v Finset.univ hx hm) k) Q := by
  subst hv hof
  refine st_op_rest₁ m K c ?_ hk
  unfold OutI OutR
  iintro ⟨HP, ⟨%f, Hf⟩, HR⟩ Hk
  iapply (wp_store 𝒱₀ (c : Thread nD τ) none Set.univ (m := outB) (r := Rect.unit (s := S4096x1024) ![512 * c.val, 0] S512x1024.size inb) (Q := Q)
    (S := Finset.univ) (f := f) (Finset.subset_univ _)) $$ Hf
  iintro Hf
  iapply Hk
  isplitl [HP]; · iexact HP
  isplitl [Hf]
  · iexists _
    isplitl [Hf]; · iexact Hf
    ipureintro
    intro i hi
    have hc : (i 0).val / 512 = c.val := by
      rcases hi with h | ⟨M, hM, -⟩
      · exact h
      · exact absurd hM List.not_mem_nil
    refine (out_write_in (512 * c.val) inb f _ i (by omega) (by omega)).trans ?_
    unfold yC
    dsimp only
    rw [if_pos hc]
    exact congrArg (fun x : Fin 512 => zOwn m c (ix2 x (i 1 : Fin 1024))) (Fin.ext (show (i 0).val - 512 * c.val = (i 0).val % 512 by omega))
  iexact HR

/-! ### A message's rows -/

theorem org_ne (M : Msg) (c : Dev nD) : (org M c).val ≠ c.val := by revert M c; decide

/-- The rows made from what a load read. -/
def zst (x : FVec F S128x4096 .bf16) (w : FVec F S4096x1024 .bf16) : FVec F S128x1024 .f32 :=
  shapeCast S128x1024 (zz x w) shapeCasts_S128x1024_S128x1024

/-- What a load of a message's slot read, as a matrix. -/
def vB (c : Dev nD) : Msg → FVec F S128x4096 .bf16
  | .ch q => shapeCast S128x4096 (slot3 m c (.ch q)) shapeCasts_S1x128x4096_S128x4096
  | M => shapeCast S128x4096 (slot4 m c M) shapeCasts_S1x1x128x4096_S128x4096

theorem vB_eq (c : Dev nD) (M : Msg) : vB m c M = xq m (org M c) (quart M) := by
  have h4 : shapeCast S128x4096 (slot4 m c M) shapeCasts_S1x1x128x4096_S128x4096 = xq m (org M c) (quart M) := by
    funext i
    obtain ⟨i₀, i₁, rfl⟩ := ix2_surj i
    show slot4 m c M (Shape.reshapeEquiv _ (ix2 i₀ i₁)) = _
    rw [reshapeEquiv_ix2_11ab]
    rfl
  cases M with
  | ch q =>
    funext i
    obtain ⟨i₀, i₁, rfl⟩ := ix2_surj i
    show slot3 m c (.ch q) (Shape.reshapeEquiv _ (ix2 i₀ i₁)) = _
    rw [reshapeEquiv_ix2_1ab]
    rfl
  | cw h q => exact h4
  | ccw h q => exact h4
  | am d => exact h4

theorem store_mm (c : Dev nD) (M : Msg) {P : sProp 𝕄} {L : List Msg} {of : Fin 2 → ℕ} (hof : of = ![512 * (org M c).val + 128 * (quart M).val, 0]) {inb : _} {v hx hm}
    (hv : v = zst (vB m c M) (wbV m c))
    {k : PUnit → Prog (TpuEff nD τ sig (Elt F) Λ₀ .tc) α}
    (hk : ST m K c l r s d g iprop(P ∗ OutR m c (M :: L) ∗ R) ⊢ WP c (k ⟨⟩) Q) :
    ST m K c l r s d g iprop(P ∗ OutR m c L ∗ R)
      ⊢ WP c (.op (.store outB (Rect.unit (s := S4096x1024) of S128x1024.size inb) v Finset.univ hx hm) k) Q := by
  rw [vB_eq] at hv
  unfold zst at hv
  rw [shapeCast_self] at hv
  subst hv hof
  refine st_op_rest₁ m K c ?_ hk
  unfold OutR
  iintro ⟨HP, ⟨%f, Hf, %hf⟩, HR⟩ Hk
  iapply (wp_store 𝒱₀ (c : Thread nD τ) none Set.univ (m := outB)
    (r := Rect.unit (s := S4096x1024) ![512 * (org M c).val + 128 * (quart M).val, 0] S128x1024.size inb) (Q := Q)
    (S := Finset.univ) (f := f) (Finset.subset_univ _)) $$ Hf
  iintro Hf
  iapply Hk
  isplitl [HP]; · iexact HP
  isplitl [Hf]
  · iexists _
    isplitl [Hf]; · iexact Hf
    ipureintro
    intro i hi
    have hq := (quart M).isLt
    have hne := org_ne M c
    by_cases h : (i 0).val / 128 = 4 * (org M c).val + (quart M).val
    · refine (out_write_in _ inb f _ i (by omega) (by omega)).trans ?_
      unfold yC
      dsimp only
      rw [if_neg (by omega)]
      have e1 : (⟨(i 0).val / 512, by have h : (i 0).val < 4096 := (i 0).isLt; show _ < 8; omega⟩ : Fin 8) = org M c := Fin.ext (by show (i 0).val / 512 = _; omega)
      have e2 : (⟨(i 0).val % 512 / 128, by omega⟩ : Fin 4) = quart M := Fin.ext (by show (i 0).val % 512 / 128 = _; omega)
      rw [e1, e2]
      exact congrArg (fun x : Fin 128 => zz (xq m (org M c) (quart M)) (wbV m c) (ix2 x (i 1 : Fin 1024)))
        (Fin.ext (show (i 0).val - (512 * (org M c).val + 128 * (quart M).val) = (i 0).val % 128 by omega))
    · refine (out_write_out _ inb f _ i (by omega)).trans (hf i ?_)
      rcases hi with hi | ⟨M', hM', hi⟩
      · exact .inl hi
      · rcases List.mem_cons.mp hM' with rfl | hM'
        · exact absurd hi h
        · exact .inr ⟨M', hM', hi⟩
  iexact HR

/-! ### The running maximum -/

/-- The running maximum, from what the loads read. -/
def acc' (c : Dev nD) : List Msg → F .f32
  | [] => k0_pay21 (X m c) (wbV m c)
  | M :: L => Scalar.maximumf (acc' c L) (bmax (zz (vB m c M) (wbV m c)))

theorem acc'_eq (c : Dev nD) (L : List Msg) : acc' m c L = acc m c L := by
  induction L with
  | nil => rfl
  | cons M L ih => unfold acc' acc zB; rw [ih, vB_eq]

end Cert.KernelIdealProof
-- ==== Proof.KIC1.lean ====
/-
The first hop leaves; the weights are fetched in blocks and narrowed.
-/
module

public import proofs.«01_k».proof.Proof.KIOut

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

attribute [local irreducible] k0_cond1 k0_cond2 k0_cond3 k0_cond4 k0_cond5 k0_cond6 k0_cond7 k0_cond8
variable (m : (ℓ : Loc nD τ sig) → Buf (Elt F) ℓ) (K : Dev nD × Option (Fin 80) → ℕ)
variable {l r s : List Msg} {d : List (DmaSem sig)} {g : List Pc} {R : sProp (MT nD τ sig Unit (Elt F) ℕ UU ℕ)}
variable {α : Type} {Q : α → sProp (MT nD τ sig Unit (Elt F) ℕ UU ℕ)}

/-! ## The first hop leaves; the weights are fetched and narrowed -/

/-- A printed part at the launch's buffers and semaphores. -/
abbrev at0 {β : Type 1} (f : (arg0 : Memref sig .tc .vmem S512x4096 .bf16) → arg0.IsWhole → (arg1 : Memref sig .tc .hbm S4096x1024 .f32) → arg1.IsWhole →
    (arg2 : Memref sig .tc .hbm S4096x1024 .f32) → arg2.IsWhole → (arg3 : Memref sig .tc .vmem S3x4x128x4096 .bf16) → arg3.IsWhole →
    (arg4 : Memref sig .tc .vmem S3x4x128x4096 .bf16) → arg4.IsWhole → (arg5 : Memref sig .tc .vmem S4x128x4096 .bf16) → arg5.IsWhole →
    (arg6 : Memref sig .tc .vmem S4096x1024 .bf16) → arg6.IsWhole → (arg7 : Memref sig .tc .vmem S2x256x1024 .f32) → arg7.IsWhole →
    (arg8 : Memref sig .tc .vmem S4096x1024 .f32) → arg8.IsWhole → (arg9 : Memref sig .tc .vmem S8x128 .f32) → arg9.IsWhole →
    DmaSems sig S3x4 → DmaSems sig S3x4 → DmaSems sig S3x4 → DmaSems sig S3x4 → DmaSems sig S4 → DmaSems sig S4 → DmaSems sig S7 → DmaSems sig S7 →
    DmaSems sig S2 → DmaSems sig S8 → β) : β :=
  f (Memref.whole cc0_stg0_0) (Memref.isWhole_whole _) (Memref.whole main_arg1) (Memref.isWhole_whole _) (Memref.whole main_v1) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) cc0_scratch7 cc0_scratch8 cc0_scratch9 cc0_scratch10 cc0_scratch11 cc0_scratch12 cc0_scratch13 cc0_scratch14
    cc0_scratch15 cc0_scratch16

/-- The blocks of weights fetched, the latest first. -/
abbrev allW : List (Fin 16) := [15, 14, 13, 12, 11, 10, 9, 8, 7, 6, 5, 4, 3, 2, 1, 0]

set_option maxHeartbeats 4000000 in
theorem rest3 (c : Dev nD) {v10 v16 v50 v2 : BitVec 32} {k : (Σ' (v365 : FVec F S512x1024 .f32), F .f32) → Prog (TpuEff nD τ sig (Elt F) Λ₀ .tc) α}
    (hk : ST m K c l r (.ccw 0 3 :: .ccw 0 2 :: .ccw 0 1 :: .ccw 0 0 :: .cw 0 3 :: .cw 0 2 :: s) (sW 0 :: sW 1 :: d) (.xa :: g) iprop(wbF m c ∗ wRest m c allW ∗ R)
      ⊢ WP c (k ⟨zOwn m c, acc' m c []⟩) Q) :
    ST m K c (.cw 0 2 :: .cw 0 3 :: .ccw 0 0 :: .ccw 0 1 :: .ccw 0 2 :: .ccw 0 3 :: l) r s d
      (.xs 1 2 :: .bg (.cw 0 2) :: .xs 1 3 :: .bg (.cw 0 3) :: .xs 2 0 :: .bg (.ccw 0 0) :: .xs 2 1 :: .bg (.ccw 0 1) :: .xs 2 2 :: .bg (.ccw 0 2) :: .xs 2 3 :: .bg (.ccw 0 3) :: .xa :: g)
      (wSt m c (wFree (F := F) c 0 0) (wFree (F := F) c 1 0) [0, 1, 2, 3, 4, 5, 6, 7, 8, 9, 10, 11, 12, 13, 14, 15] [] 0 R)
      ⊢ WP c (do
          (at0 (k0_part3 (F := F))) c v10 v16 v50
          (at0 (k0_part4 (F := F))) c v16
          (at0 (k0_part5 (F := F))) c
          let v153 : FVec F S256x1024 .bf16 ← (at0 (k0_part6 (F := F)))
          (at0 (k0_part7 (F := F))) v153
          (at0 (k0_part8 (F := F)))
          let v233 : FVec F S256x1024 .bf16 ← (at0 (k0_part9 (F := F)))
          (at0 (k0_part10 (F := F))) v233
          (at0 (k0_part11 (F := F)))
          let v313 : FVec F S256x1024 .bf16 ← (at0 (k0_part12 (F := F)))
          (at0 (k0_part13 (F := F))) v313
          let p ← (at0 (k0_part14 (F := F))) v2
          k p) Q := by
  rw [k0_part3_eq_skeleton]; unfold k0_part3_skel
  simp only [at0, bind_if, semSignalWord, semWaitWord, Prog.lift, Prog.bind, Prog.bind_op, Prog.bind_ret, Prog.pure_eq_ret]
  refine send_cw0 m K c 2 (nf := fun c => ⟨k0_dev6 c, k0_dev6_lt c⟩) (by decide) ?_
  refine send_cw0 m K c 3 (nf := fun c => ⟨k0_dev7 c, k0_dev7_lt c⟩) (by decide) ?_
  refine send_ccw0 m K c 0 (nf := fun c => ⟨k0_dev8 c, k0_dev8_lt c⟩) (by decide) ?_
  rw [k0_part4_eq_skeleton]; unfold k0_part4_skel
  simp only [at0, bind_if, semSignalWord, semWaitWord, Prog.lift, Prog.bind, Prog.bind_op, Prog.bind_ret, Prog.pure_eq_ret]
  refine send_ccw0 m K c 1 (nf := fun c => ⟨k0_dev9 c, k0_dev9_lt c⟩) (by decide) ?_
  refine send_ccw0 m K c 2 (nf := fun c => ⟨k0_dev10 c, k0_dev10_lt c⟩) (by decide) ?_
  rw [k0_part5_eq_skeleton]; unfold k0_part5_skel
  simp only [at0, bind_if, semSignalWord, semWaitWord, Prog.lift, Prog.bind, Prog.bind_op, Prog.bind_ret, Prog.pure_eq_ret]
  refine send_ccw0 m K c 3 (nf := fun c => ⟨k0_dev11 c, k0_dev11_lt c⟩) (by decide) ?_
  refine w_start0 m K c 0 0 rfl (BI.Entails.refl _) ?_
  refine w_start1 m K c 0 1 rfl (BI.Entails.refl _) ?_
  refine w_wait0 m K c 0 0 rfl ?_
  refine w_load0 m K c 0 0 rfl ?_
  refine w_dead m K c fun _ => ?_
  refine w_store m K c 0 rfl ?_
  rw [k0_part6_eq_skeleton]; unfold k0_part6_skel
  simp only [at0, bind_if, semSignalWord, semWaitWord, Prog.lift, Prog.bind, Prog.bind_op, Prog.bind_ret, Prog.pure_eq_ret]
  refine w_start0 m K c 1 2 rfl (got_free m c 0 0) ?_
  refine w_wait1 m K c 0 1 rfl ?_
  refine w_load1 m K c 0 1 rfl ?_
  refine w_dead m K c fun _ => ?_
  refine w_store m K c 1 rfl ?_
  refine w_start1 m K c 1 3 rfl (got_free m c 1 0) ?_
  refine w_wait0 m K c 1 2 rfl ?_
  refine w_load0 m K c 1 2 rfl ?_
  rw [k0_part7_eq_skeleton]; unfold k0_part7_skel
  simp only [at0, bind_if, semSignalWord, semWaitWord, Prog.lift, Prog.bind, Prog.bind_op, Prog.bind_ret, Prog.pure_eq_ret]
  refine w_dead m K c fun _ => ?_
  refine w_store m K c 2 rfl ?_
  refine w_start0 m K c 2 4 rfl (got_free m c 0 1) ?_
  refine w_wait1 m K c 1 3 rfl ?_
  refine w_load1 m K c 1 3 rfl ?_
  refine w_dead m K c fun _ => ?_
  refine w_store m K c 3 rfl ?_
  refine w_start1 m K c 2 5 rfl (got_free m c 1 1) ?_
  rw [k0_part8_eq_skeleton]; unfold k0_part8_skel
  simp only [at0, bind_if, semSignalWord, semWaitWord, Prog.lift, Prog.bind, Prog.bind_op, Prog.bind_ret, Prog.pure_eq_ret]
  refine w_wait0 m K c 2 4 rfl ?_
  refine w_load0 m K c 2 4 rfl ?_
  refine w_dead m K c fun _ => ?_
  refine w_store m K c 4 rfl ?_
  refine w_start0 m K c 3 6 rfl (got_free m c 0 2) ?_
  refine w_wait1 m K c 2 5 rfl ?_
  refine w_load1 m K c 2 5 rfl ?_
  refine w_dead m K c fun _ => ?_
  refine w_store m K c 5 rfl ?_
  rw [k0_part9_eq_skeleton]; unfold k0_part9_skel
  simp only [at0, bind_if, semSignalWord, semWaitWord, Prog.lift, Prog.bind, Prog.bind_op, Prog.bind_ret, Prog.pure_eq_ret]
  refine w_start1 m K c 3 7 rfl (got_free m c 1 2) ?_
  refine w_wait0 m K c 3 6 rfl ?_
  refine w_load0 m K c 3 6 rfl ?_
  refine w_dead m K c fun _ => ?_
  refine w_store m K c 6 rfl ?_
  refine w_start0 m K c 4 8 rfl (got_free m c 0 3) ?_
  refine w_wait1 m K c 3 7 rfl ?_
  refine w_load1 m K c 3 7 rfl ?_
  rw [k0_part10_eq_skeleton]; unfold k0_part10_skel
  simp only [at0, bind_if, semSignalWord, semWaitWord, Prog.lift, Prog.bind, Prog.bind_op, Prog.bind_ret, Prog.pure_eq_ret]
  refine w_dead m K c fun _ => ?_
  refine w_store m K c 7 rfl ?_
  refine w_start1 m K c 4 9 rfl (got_free m c 1 3) ?_
  refine w_wait0 m K c 4 8 rfl ?_
  refine w_load0 m K c 4 8 rfl ?_
  refine w_dead m K c fun _ => ?_
  refine w_store m K c 8 rfl ?_
  refine w_start0 m K c 5 10 rfl (got_free m c 0 4) ?_
  rw [k0_part11_eq_skeleton]; unfold k0_part11_skel
  simp only [at0, bind_if, semSignalWord, semWaitWord, Prog.lift, Prog.bind, Prog.bind_op, Prog.bind_ret, Prog.pure_eq_ret]
  refine w_wait1 m K c 4 9 rfl ?_
  refine w_load1 m K c 4 9 rfl ?_
  refine w_dead m K c fun _ => ?_
  refine w_store m K c 9 rfl ?_
  refine w_start1 m K c 5 11 rfl (got_free m c 1 4) ?_
  refine w_wait0 m K c 5 10 rfl ?_
  refine w_load0 m K c 5 10 rfl ?_
  refine w_dead m K c fun _ => ?_
  refine w_store m K c 10 rfl ?_
  rw [k0_part12_eq_skeleton]; unfold k0_part12_skel
  simp only [at0, bind_if, semSignalWord, semWaitWord, Prog.lift, Prog.bind, Prog.bind_op, Prog.bind_ret, Prog.pure_eq_ret]
  refine w_start0 m K c 6 12 rfl (got_free m c 0 5) ?_
  refine w_wait1 m K c 5 11 rfl ?_
  refine w_load1 m K c 5 11 rfl ?_
  refine w_dead m K c fun _ => ?_
  refine w_store m K c 11 rfl ?_
  refine w_start1 m K c 6 13 rfl (got_free m c 1 5) ?_
  refine w_wait0 m K c 6 12 rfl ?_
  refine w_load0 m K c 6 12 rfl ?_
  rw [k0_part13_eq_skeleton]; unfold k0_part13_skel
  simp only [at0, bind_if, semSignalWord, semWaitWord, Prog.lift, Prog.bind, Prog.bind_op, Prog.bind_ret, Prog.pure_eq_ret]
  refine w_dead m K c fun _ => ?_
  refine w_store m K c 12 rfl ?_
  refine w_start0 m K c 7 14 rfl (got_free m c 0 6) ?_
  refine w_wait1 m K c 6 13 rfl ?_
  refine w_load1 m K c 6 13 rfl ?_
  refine w_dead m K c fun _ => ?_
  refine w_store m K c 13 rfl ?_
  refine w_start1 m K c 7 15 rfl (got_free m c 1 6) ?_
  rw [k0_part14_eq_skeleton]; unfold k0_part14_skel
  simp only [at0, bind_if, semSignalWord, semWaitWord, Prog.lift, Prog.bind, Prog.bind_op, Prog.bind_ret, Prog.pure_eq_ret]
  refine w_wait0 m K c 7 14 rfl ?_
  refine w_load0 m K c 7 14 rfl ?_
  refine w_dead m K c fun _ => ?_
  refine w_store m K c 14 rfl ?_
  refine w_wait1 m K c 7 15 rfl ?_
  refine w_load1 m K c 7 15 rfl ?_
  refine w_dead m K c fun _ => ?_
  refine w_store m K c 15 rfl ?_
  refine w_done m K c ?_
  refine load_x m K c (List.mem_cons_self ..) ?_
  refine load_wb m K c ?_
  exact hk

end Cert.KernelIdealProof
-- ==== Proof.KIC2.lean ====
/-
The first hop arrives: it goes on, along the ring and across it, and is multiplied.
-/
module

public import proofs.«01_k».proof.Proof.KIC1

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

attribute [local irreducible] k0_cond1 k0_cond2 k0_cond3 k0_cond4 k0_cond5 k0_cond6 k0_cond7 k0_cond8
variable (m : (ℓ : Loc nD τ sig) → Buf (Elt F) ℓ) (K : Dev nD × Option (Fin 80) → ℕ)
variable {l r s : List Msg} {d : List (DmaSem sig)} {g : List Pc} {R : sProp (MT nD τ sig Unit (Elt F) ℕ UU ℕ)}
variable {α : Type} {Q : α → sProp (MT nD τ sig Unit (Elt F) ℕ UU ℕ)}

/-! ## The first hop arrives: it goes on, along the ring and across it, and is multiplied -/

theorem lev_lq {M₀ M : Msg} {c : Dev nD} {q : Fin 4} {l : List Msg} (h : ∀ M' ∈ M :: Msg.ch q :: l, lvM M₀ < lvM M') : ∀ M' ∈ M :: lq c q l, lvM M₀ < lvM M' := by
  intro M' hM
  rcases List.mem_cons.mp hM with rfl | hM
  · exact h _ List.mem_cons_self
  · exact h _ (List.mem_cons_of_mem _ (mem_lq hM))

/-- What a quarter of the first hop leaves: its semaphores, its messages on, its pieces. -/
abbrev dq0 (q : Fin 4) (d : List (DmaSem sig)) : List (DmaSem sig) := sR (.ccw 0 q) :: sR (.cw 0 q) :: d
abbrev sq0 (q : Fin 4) (s : List Msg) : List Msg := .ch q :: .ccw 1 q :: .cw 1 q :: s
abbrev gq0 (q : Fin 4) (g : List Pc) : List Pc := .sl 0 (.ccw 0 q) :: .tk (.ccw 0 q) :: .rs q :: .sl 0 (.cw 0 q) :: .tk (.cw 0 q) :: g

set_option maxHeartbeats 4000000 in
theorem rest15 (c : Dev nD) {v5 v10 v16 v24 : BitVec 32} {v18 : BitVec 1} {k : (Σ' (v379 : BitVec 32), BitVec 32) → (Σ' (v689 : BitVec 32), F .f32) → Prog (TpuEff nD τ sig (Elt F) Λ₀ .tc) α}
    (hk : ∀ u v, ST m K c [.cw 2 0, .ccw 2 0, .cw 2 1, .ccw 2 1, .cw 2 2, .ccw 2 2, .cw 2 3, .ccw 2 3, .am 0, .am 1, .am 2, .am 3, .am 4, .am 5, .am 6] r (sq0 3 (sq0 2 (sq0 1 (sq0 0 s)))) (dq0 3 (dq0 2 (dq0 1 (dq0 0 d)))) (gq0 3 (gq0 2 (gq0 1 (gq0 0 g))))
        iprop(wbF m c ∗ OutR m c [.cw 0 3, .ccw 0 2, .cw 0 2, .ccw 0 1, .cw 0 1, .ccw 0 0, .cw 0 0] ∗ R)
      ⊢ WP c (k u ⟨v, acc' m c [.cw 0 3, .ccw 0 2, .cw 0 2, .ccw 0 1, .cw 0 1, .ccw 0 0, .cw 0 0]⟩) Q) :
    ST m K c [.cw 1 0, .ch 0, .ccw 1 0, .cw 1 1, .ch 1, .ccw 1 1, .cw 1 2, .ch 2, .ccw 1 2, .cw 1 3, .ch 3, .ccw 1 3, .cw 2 0, .ccw 2 0, .cw 2 1, .ccw 2 1, .cw 2 2, .ccw 2 2, .cw 2 3, .ccw 2 3, .am 0, .am 1, .am 2, .am 3, .am 4, .am 5, .am 6]
      (.cw 0 0 :: .ccw 0 0 :: .cw 0 1 :: .ccw 0 1 :: .cw 0 2 :: .ccw 0 2 :: .cw 0 3 :: .ccw 0 3 :: r) s d g
      iprop(wbF m c ∗ OutI (F := F) c ∗ R)
      ⊢ WP c (do
          let x : Σ' (v379 : BitVec 32), BitVec 32 ← (at0 (k0_part15 (F := F))) c v5 v10 v18 (zOwn m c)
          let v421 : BitVec 32 ← (at0 (k0_part16 (F := F))) c v5 v16 v18 v24 x.2
          let ⟨v431, v442, v452, cst_453⟩ : Σ' (v431 : BitVec 32) (v442 : F .f32) (v452 : FVec F S128x1024 .f32), F .f32 ← (at0 (k0_part17 (F := F))) c v5 (acc' m c []) v421
          let v459 : F .f32 ← (at0 (k0_part18 (F := F))) c v10 v431 v442 v452 cst_453
          let v505 : BitVec 32 ← (at0 (k0_part19 (F := F))) c v5 v16 v18 v24
          let ⟨v517, v528, v536⟩ : Σ' (v517 : BitVec 32) (v528 : F .f32), FVec F S128x4096 .bf16 ← (at0 (k0_part20 (F := F))) c v5 v459 v505
          let v545 : F .f32 ← (at0 (k0_part21 (F := F))) c v10 v517 v528 v536
          let ⟨v589, c0_i32_602⟩ : Σ' (v589 : BitVec 32), BitVec 32 ← (at0 (k0_part22 (F := F))) c v16 v18 v24
          let ⟨v603, v614⟩ : Σ' (v603 : BitVec 32), F .f32 ← (at0 (k0_part23 (F := F))) c v5 v24 v545 v589 c0_i32_602
          let v631 : F .f32 ← (at0 (k0_part24 (F := F))) c v10 v603 v614
          (at0 (k0_part25 (F := F))) c v16 v18 v24
          let p ← (at0 (k0_part26 (F := F))) c v5 v18 v24 v631
          k x p) Q := by
  rw [k0_part15_eq_skeleton]; unfold k0_part15_skel
  simp only [at0, bind_if, semSignalWord, semWaitWord, Prog.lift, Prog.bind, Prog.bind_op, Prog.bind_ret, Prog.pure_eq_ret]
  refine load_outI m K c fun _ => ?_
  refine store_own m K c (off1_eq c) (shapeCast_self _ _) ?_
  refine wait_cw0 m K c 0 (by decide) ?_
  apply send_cw m K c 0 1 0 rfl rfl rfl (nf := fun c => ⟨k0_dev12 c, k0_dev12_lt c⟩) (by decide)
  rw [k0_part16_eq_skeleton]; unfold k0_part16_skel
  simp only [at0, bind_if, semSignalWord, semWaitWord, Prog.lift, Prog.bind, Prog.bind_op, Prog.bind_ret, Prog.pure_eq_ret]
  apply if_even m K c 0 (P := k0_cond1 c = 1#1) (cond1_ev c) (fun he hc hk' => by apply send_che m K c 0 he rfl rfl (n := ⟨k0_dev13 c, k0_dev13_lt c hc⟩) (dev13_pt c hc); exact hk')
  refine wait_ccw0 m K c 0 (lev_lq (by decide)) ?_
  apply send_ccw m K c 0 1 0 rfl rfl rfl (nf := fun c => ⟨k0_dev14 c, k0_dev14_lt c⟩) (by decide)
  apply if_odd m K c 0 (P := k0_cond2 c = 1#1) (cond2_ev c) (fun he hc hk' => by apply send_cho m K c 0 he rfl rfl (n := ⟨k0_dev15 c, k0_dev15_lt c hc⟩) (dev15_pt c hc); exact hk')
  rw [k0_part17_eq_skeleton]; unfold k0_part17_skel
  simp only [at0, bind_if, semSignalWord, semWaitWord, Prog.lift, Prog.bind, Prog.bind_op, Prog.bind_ret, Prog.pure_eq_ret]
  refine load_cw m K c 0 0 (by simp) ?_
  refine load_wb m K c ?_
  refine load_outR m K c fun _ => ?_
  refine store_mm m K c (.cw 0 0) (off2_eq c 0 0 (by decide) (by decide)) rfl ?_
  refine load_ccw m K c 0 0 (by simp) ?_
  refine load_wb m K c ?_
  rw [k0_part18_eq_skeleton]; unfold k0_part18_skel
  simp only [at0, bind_if, semSignalWord, semWaitWord, Prog.lift, Prog.bind, Prog.bind_op, Prog.bind_ret, Prog.pure_eq_ret]
  refine load_outR m K c fun _ => ?_
  refine store_mm m K c (.ccw 0 0) (off3_eq c 0 0 (by decide) (by decide)) rfl ?_
  refine wait_cw0 m K c 1 (by decide) ?_
  rw [k0_part19_eq_skeleton]; unfold k0_part19_skel
  simp only [at0, bind_if, semSignalWord, semWaitWord, Prog.lift, Prog.bind, Prog.bind_op, Prog.bind_ret, Prog.pure_eq_ret]
  apply send_cw m K c 0 1 1 rfl rfl rfl (nf := fun c => ⟨k0_dev16 c, k0_dev16_lt c⟩) (by decide)
  apply if_even m K c 1 (P := k0_cond3 c = 1#1) (cond3_ev c) (fun he hc hk' => by apply send_che m K c 1 he rfl rfl (n := ⟨k0_dev17 c, k0_dev17_lt c hc⟩) (dev17_pt c hc); exact hk')
  refine wait_ccw0 m K c 1 (lev_lq (by decide)) ?_
  apply send_ccw m K c 0 1 1 rfl rfl rfl (nf := fun c => ⟨k0_dev18 c, k0_dev18_lt c⟩) (by decide)
  apply if_odd m K c 1 (P := k0_cond4 c = 1#1) (cond4_ev c) (fun he hc hk' => by apply send_cho m K c 1 he rfl rfl (n := ⟨k0_dev19 c, k0_dev19_lt c hc⟩) (dev19_pt c hc); exact hk')
  rw [k0_part20_eq_skeleton]; unfold k0_part20_skel
  simp only [at0, bind_if, semSignalWord, semWaitWord, Prog.lift, Prog.bind, Prog.bind_op, Prog.bind_ret, Prog.pure_eq_ret]
  refine load_cw m K c 0 1 (by simp) ?_
  refine load_wb m K c ?_
  refine load_outR m K c fun _ => ?_
  refine store_mm m K c (.cw 0 1) (off2_eq c 0 1 (by decide) (by decide)) rfl ?_
  refine load_ccw m K c 0 1 (by simp) ?_
  rw [k0_part21_eq_skeleton]; unfold k0_part21_skel
  simp only [at0, bind_if, semSignalWord, semWaitWord, Prog.lift, Prog.bind, Prog.bind_op, Prog.bind_ret, Prog.pure_eq_ret]
  refine load_wb m K c ?_
  refine load_outR m K c fun _ => ?_
  refine store_mm m K c (.ccw 0 1) (off3_eq c 0 1 (by decide) (by decide)) rfl ?_
  refine wait_cw0 m K c 2 (by decide) ?_
  rw [k0_part22_eq_skeleton]; unfold k0_part22_skel
  simp only [at0, bind_if, semSignalWord, semWaitWord, Prog.lift, Prog.bind, Prog.bind_op, Prog.bind_ret, Prog.pure_eq_ret]
  apply send_cw m K c 0 1 2 rfl rfl rfl (nf := fun c => ⟨k0_dev20 c, k0_dev20_lt c⟩) (by decide)
  apply if_even m K c 2 (P := k0_cond5 c = 1#1) (cond5_ev c) (fun he hc hk' => by apply send_che m K c 2 he rfl rfl (n := ⟨k0_dev21 c, k0_dev21_lt c hc⟩) (dev21_pt c hc); exact hk')
  refine wait_ccw0 m K c 2 (lev_lq (by decide)) ?_
  apply send_ccw m K c 0 1 2 rfl rfl rfl (nf := fun c => ⟨k0_dev22 c, k0_dev22_lt c⟩) (by decide)
  rw [k0_part23_eq_skeleton]; unfold k0_part23_skel
  simp only [at0, bind_if, semSignalWord, semWaitWord, Prog.lift, Prog.bind, Prog.bind_op, Prog.bind_ret, Prog.pure_eq_ret]
  apply if_odd m K c 2 (P := k0_cond6 c = 1#1) (cond6_ev c) (fun he hc hk' => by apply send_cho m K c 2 he rfl rfl (n := ⟨k0_dev23 c, k0_dev23_lt c hc⟩) (dev23_pt c hc); exact hk')
  refine load_cw m K c 0 2 (by simp) ?_
  refine load_wb m K c ?_
  refine load_outR m K c fun _ => ?_
  refine store_mm m K c (.cw 0 2) (off2_eq c 0 2 (by decide) (by decide)) rfl ?_
  rw [k0_part24_eq_skeleton]; unfold k0_part24_skel
  simp only [at0, bind_if, semSignalWord, semWaitWord, Prog.lift, Prog.bind, Prog.bind_op, Prog.bind_ret, Prog.pure_eq_ret]
  refine load_ccw m K c 0 2 (by simp) ?_
  refine load_wb m K c ?_
  refine load_outR m K c fun _ => ?_
  refine store_mm m K c (.ccw 0 2) (off3_eq c 0 2 (by decide) (by decide)) rfl ?_
  refine wait_cw0 m K c 3 (by decide) ?_
  rw [k0_part25_eq_skeleton]; unfold k0_part25_skel
  simp only [at0, bind_if, semSignalWord, semWaitWord, Prog.lift, Prog.bind, Prog.bind_op, Prog.bind_ret, Prog.pure_eq_ret]
  apply send_cw m K c 0 1 3 rfl rfl rfl (nf := fun c => ⟨k0_dev24 c, k0_dev24_lt c⟩) (by decide)
  apply if_even m K c 3 (P := k0_cond7 c = 1#1) (cond7_ev c) (fun he hc hk' => by apply send_che m K c 3 he rfl rfl (n := ⟨k0_dev25 c, k0_dev25_lt c hc⟩) (dev25_pt c hc); exact hk')
  refine wait_ccw0 m K c 3 (lev_lq (by decide)) ?_
  apply send_ccw m K c 0 1 3 rfl rfl rfl (nf := fun c => ⟨k0_dev26 c, k0_dev26_lt c⟩) (by decide)
  rw [k0_part26_eq_skeleton]; unfold k0_part26_skel
  simp only [at0, bind_if, semSignalWord, semWaitWord, Prog.lift, Prog.bind, Prog.bind_op, Prog.bind_ret, Prog.pure_eq_ret]
  apply if_odd m K c 3 (P := k0_cond8 c = 1#1) (cond8_ev c) (fun he hc hk' => by apply send_cho m K c 3 he rfl rfl (n := ⟨k0_dev27 c, k0_dev27_lt c hc⟩) (dev27_pt c hc); exact hk')
  refine load_cw m K c 0 3 (by simp) ?_
  refine load_wb m K c ?_
  refine load_outR m K c fun _ => ?_
  refine store_mm m K c (.cw 0 3) (off2_eq c 0 3 (by decide) (by decide)) rfl ?_
  exact hk _ _

end Cert.KernelIdealProof
-- ==== Proof.KIC3.lean ====
/-
The second hop arrives, goes on and is multiplied.
-/
module

public import proofs.«01_k».proof.Proof.KIC2

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

attribute [local irreducible] k0_cond1 k0_cond2 k0_cond3 k0_cond4 k0_cond5 k0_cond6 k0_cond7 k0_cond8
variable (m : (ℓ : Loc nD τ sig) → Buf (Elt F) ℓ) (K : Dev nD × Option (Fin 80) → ℕ)
variable {l r s : List Msg} {d : List (DmaSem sig)} {g : List Pc} {R : sProp (MT nD τ sig Unit (Elt F) ℕ UU ℕ)}
variable {α : Type} {Q : α → sProp (MT nD τ sig Unit (Elt F) ℕ UU ℕ)}

/-! ## The second hop arrives, goes on and is multiplied -/

abbrev dq1 (q : Fin 4) (d : List (DmaSem sig)) : List (DmaSem sig) := sR (.ccw 1 q) :: sR (.cw 1 q) :: d
abbrev sq1 (q : Fin 4) (s : List Msg) : List Msg := .ccw 2 q :: .cw 2 q :: s
abbrev gq1 (q : Fin 4) (g : List Pc) : List Pc := .sl 0 (.ccw 1 q) :: .sl 2 (.ccw 1 q) :: .tk (.ccw 1 q) :: .sl 0 (.cw 1 q) :: .sl 2 (.cw 1 q) :: .tk (.cw 1 q) :: g

set_option maxHeartbeats 4000000 in
theorem rest27 (c : Dev nD) {v5 v10 v16 v689 : BitVec 32} {k : (Σ' (v1021 : BitVec 32), F .f32) → Prog (TpuEff nD τ sig (Elt F) Λ₀ .tc) α}
    (hx : .sl 0 (.ccw 0 3) ∈ g)
    (hk : ∀ v, ST m K c [.am 0, .am 1, .am 2, .am 3, .am 4, .am 5, .am 6] r (sq1 3 (sq1 2 (sq1 1 (sq1 0 s)))) (dq1 3 (dq1 2 (dq1 1 (dq1 0 d)))) (gq1 3 (gq1 2 (gq1 1 (gq1 0 g))))
        iprop(wbF m c ∗ OutR m c [.cw 1 3, .ccw 1 2, .cw 1 2, .ccw 1 1, .cw 1 1, .ccw 1 0, .cw 1 0, .ccw 0 3, .cw 0 3, .ccw 0 2, .cw 0 2, .ccw 0 1, .cw 0 1, .ccw 0 0, .cw 0 0] ∗ R)
      ⊢ WP c (k ⟨v, acc' m c [.cw 1 3, .ccw 1 2, .cw 1 2, .ccw 1 1, .cw 1 1, .ccw 1 0, .cw 1 0, .ccw 0 3, .cw 0 3, .ccw 0 2, .cw 0 2, .ccw 0 1, .cw 0 1, .ccw 0 0, .cw 0 0]⟩) Q) :
    ST m K c [.cw 2 0, .ccw 2 0, .cw 2 1, .ccw 2 1, .cw 2 2, .ccw 2 2, .cw 2 3, .ccw 2 3, .am 0, .am 1, .am 2, .am 3, .am 4, .am 5, .am 6]
      (.cw 1 0 :: .ccw 1 0 :: .cw 1 1 :: .ccw 1 1 :: .cw 1 2 :: .ccw 1 2 :: .cw 1 3 :: .ccw 1 3 :: r) s d g
      iprop(wbF m c ∗ OutR m c [.cw 0 3, .ccw 0 2, .cw 0 2, .ccw 0 1, .cw 0 1, .ccw 0 0, .cw 0 0] ∗ R)
      ⊢ WP c (do
          let v717 : F .f32 ← (at0 (k0_part27 (F := F))) c v10 v689 (acc' m c [.cw 0 3, .ccw 0 2, .cw 0 2, .ccw 0 1, .cw 0 1, .ccw 0 0, .cw 0 0])
          (at0 (k0_part28 (F := F))) c v10 v16
          let ⟨v772, v783⟩ : Σ' (v772 : BitVec 32), F .f32 ← (at0 (k0_part29 (F := F))) c v5 v717
          let v800 : F .f32 ← (at0 (k0_part30 (F := F))) c v10 v772 v783
          (at0 (k0_part31 (F := F))) c v10 v16
          let ⟨v855, v866⟩ : Σ' (v855 : BitVec 32), F .f32 ← (at0 (k0_part32 (F := F))) c v5 v800
          let v883 : F .f32 ← (at0 (k0_part33 (F := F))) c v10 v855 v866
          (at0 (k0_part34 (F := F))) c v10 v16
          let ⟨v938, v949⟩ : Σ' (v938 : BitVec 32), F .f32 ← (at0 (k0_part35 (F := F))) c v5 v883
          let v966 : F .f32 ← (at0 (k0_part36 (F := F))) c v10 v938 v949
          (at0 (k0_part37 (F := F))) c v10 v16
          let p ← (at0 (k0_part38 (F := F))) c v5 v966
          k p) Q := by
  rw [k0_part27_eq_skeleton]; unfold k0_part27_skel
  simp only [at0, bind_if, semSignalWord, semWaitWord, Prog.lift, Prog.bind, Prog.bind_op, Prog.bind_ret, Prog.pure_eq_ret]
  refine load_ccw m K c 0 3 hx ?_
  refine load_wb m K c ?_
  refine load_outR m K c fun _ => ?_
  refine store_mm m K c (.ccw 0 3) (off3_eq c 0 3 (by decide) (by decide)) rfl ?_
  refine wait_cw1 m K c 0 (by decide) ?_
  rw [k0_part28_eq_skeleton]; unfold k0_part28_skel
  simp only [at0, bind_if, semSignalWord, semWaitWord, Prog.lift, Prog.bind, Prog.bind_op, Prog.bind_ret, Prog.pure_eq_ret]
  apply send_cw m K c 1 2 0 rfl rfl rfl (nf := fun c => ⟨k0_dev28 c, k0_dev28_lt c⟩) (by decide)
  refine wait_ccw1 m K c 0 (by decide) ?_
  rw [k0_part29_eq_skeleton]; unfold k0_part29_skel
  simp only [at0, bind_if, semSignalWord, semWaitWord, Prog.lift, Prog.bind, Prog.bind_op, Prog.bind_ret, Prog.pure_eq_ret]
  apply send_ccw m K c 1 2 0 rfl rfl rfl (nf := fun c => ⟨k0_dev29 c, k0_dev29_lt c⟩) (by decide)
  refine load_cw m K c 1 0 (by simp) ?_
  refine load_wb m K c ?_
  refine load_outR m K c fun _ => ?_
  refine store_mm m K c (.cw 1 0) (off2_eq c 1 0 (by decide) (by decide)) rfl ?_
  rw [k0_part30_eq_skeleton]; unfold k0_part30_skel
  simp only [at0, bind_if, semSignalWord, semWaitWord, Prog.lift, Prog.bind, Prog.bind_op, Prog.bind_ret, Prog.pure_eq_ret]
  refine load_ccw m K c 1 0 (by simp) ?_
  refine load_wb m K c ?_
  refine load_outR m K c fun _ => ?_
  refine store_mm m K c (.ccw 1 0) (off3_eq c 1 0 (by decide) (by decide)) rfl ?_
  refine wait_cw1 m K c 1 (by decide) ?_
  rw [k0_part31_eq_skeleton]; unfold k0_part31_skel
  simp only [at0, bind_if, semSignalWord, semWaitWord, Prog.lift, Prog.bind, Prog.bind_op, Prog.bind_ret, Prog.pure_eq_ret]
  apply send_cw m K c 1 2 1 rfl rfl rfl (nf := fun c => ⟨k0_dev30 c, k0_dev30_lt c⟩) (by decide)
  refine wait_ccw1 m K c 1 (by decide) ?_
  rw [k0_part32_eq_skeleton]; unfold k0_part32_skel
  simp only [at0, bind_if, semSignalWord, semWaitWord, Prog.lift, Prog.bind, Prog.bind_op, Prog.bind_ret, Prog.pure_eq_ret]
  apply send_ccw m K c 1 2 1 rfl rfl rfl (nf := fun c => ⟨k0_dev31 c, k0_dev31_lt c⟩) (by decide)
  refine load_cw m K c 1 1 (by simp) ?_
  refine load_wb m K c ?_
  refine load_outR m K c fun _ => ?_
  refine store_mm m K c (.cw 1 1) (off2_eq c 1 1 (by decide) (by decide)) rfl ?_
  rw [k0_part33_eq_skeleton]; unfold k0_part33_skel
  simp only [at0, bind_if, semSignalWord, semWaitWord, Prog.lift, Prog.bind, Prog.bind_op, Prog.bind_ret, Prog.pure_eq_ret]
  refine load_ccw m K c 1 1 (by simp) ?_
  refine load_wb m K c ?_
  refine load_outR m K c fun _ => ?_
  refine store_mm m K c (.ccw 1 1) (off3_eq c 1 1 (by decide) (by decide)) rfl ?_
  refine wait_cw1 m K c 2 (by decide) ?_
  rw [k0_part34_eq_skeleton]; unfold k0_part34_skel
  simp only [at0, bind_if, semSignalWord, semWaitWord, Prog.lift, Prog.bind, Prog.bind_op, Prog.bind_ret, Prog.pure_eq_ret]
  apply send_cw m K c 1 2 2 rfl rfl rfl (nf := fun c => ⟨k0_dev32 c, k0_dev32_lt c⟩) (by decide)
  refine wait_ccw1 m K c 2 (by decide) ?_
  rw [k0_part35_eq_skeleton]; unfold k0_part35_skel
  simp only [at0, bind_if, semSignalWord, semWaitWord, Prog.lift, Prog.bind, Prog.bind_op, Prog.bind_ret, Prog.pure_eq_ret]
  apply send_ccw m K c 1 2 2 rfl rfl rfl (nf := fun c => ⟨k0_dev33 c, k0_dev33_lt c⟩) (by decide)
  refine load_cw m K c 1 2 (by simp) ?_
  refine load_wb m K c ?_
  refine load_outR m K c fun _ => ?_
  refine store_mm m K c (.cw 1 2) (off2_eq c 1 2 (by decide) (by decide)) rfl ?_
  rw [k0_part36_eq_skeleton]; unfold k0_part36_skel
  simp only [at0, bind_if, semSignalWord, semWaitWord, Prog.lift, Prog.bind, Prog.bind_op, Prog.bind_ret, Prog.pure_eq_ret]
  refine load_ccw m K c 1 2 (by simp) ?_
  refine load_wb m K c ?_
  refine load_outR m K c fun _ => ?_
  refine store_mm m K c (.ccw 1 2) (off3_eq c 1 2 (by decide) (by decide)) rfl ?_
  refine wait_cw1 m K c 3 (by decide) ?_
  rw [k0_part37_eq_skeleton]; unfold k0_part37_skel
  simp only [at0, bind_if, semSignalWord, semWaitWord, Prog.lift, Prog.bind, Prog.bind_op, Prog.bind_ret, Prog.pure_eq_ret]
  apply send_cw m K c 1 2 3 rfl rfl rfl (nf := fun c => ⟨k0_dev34 c, k0_dev34_lt c⟩) (by decide)
  refine wait_ccw1 m K c 3 (by decide) ?_
  rw [k0_part38_eq_skeleton]; unfold k0_part38_skel
  simp only [at0, bind_if, semSignalWord, semWaitWord, Prog.lift, Prog.bind, Prog.bind_op, Prog.bind_ret, Prog.pure_eq_ret]
  apply send_ccw m K c 1 2 3 rfl rfl rfl (nf := fun c => ⟨k0_dev35 c, k0_dev35_lt c⟩) (by decide)
  refine load_cw m K c 1 3 (by simp) ?_
  refine load_wb m K c ?_
  refine load_outR m K c fun _ => ?_
  refine store_mm m K c (.cw 1 3) (off2_eq c 1 3 (by decide) (by decide)) rfl ?_
  exact hk _

end Cert.KernelIdealProof
-- ==== Proof.KIC4.lean ====
/-
The last hop arrives and is multiplied.
-/
module

public import proofs.«01_k».proof.Proof.KIC3

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

attribute [local irreducible] k0_cond1 k0_cond2 k0_cond3 k0_cond4 k0_cond5 k0_cond6 k0_cond7 k0_cond8
variable (m : (ℓ : Loc nD τ sig) → Buf (Elt F) ℓ) (K : Dev nD × Option (Fin 80) → ℕ)
variable {l r s : List Msg} {d : List (DmaSem sig)} {g : List Pc} {R : sProp (MT nD τ sig Unit (Elt F) ℕ UU ℕ)}
variable {α : Type} {Q : α → sProp (MT nD τ sig Unit (Elt F) ℕ UU ℕ)}

/-! ## The last hop arrives and is multiplied -/

abbrev dq2 (q : Fin 4) (d : List (DmaSem sig)) : List (DmaSem sig) := sR (.ccw 2 q) :: sR (.cw 2 q) :: sR (.ch q) :: d
abbrev gq2 (q : Fin 4) (g : List Pc) : List Pc := .sl 0 (.ccw 2 q) :: .sl 1 (.ccw 2 q) :: .sl 2 (.ccw 2 q) :: .tk (.ccw 2 q) ::
  .sl 0 (.cw 2 q) :: .sl 1 (.cw 2 q) :: .sl 2 (.cw 2 q) :: .tk (.cw 2 q) :: .sl 0 (.ch q) :: .sl 1 (.ch q) :: .sl 2 (.ch q) :: .tk (.ch q) :: g

set_option maxHeartbeats 4000000 in
theorem rest39 (c : Dev nD) {v5 v10 v16 v24 v379 v1021 : BitVec 32} {k : (Σ' (v1373 : BitVec 32), F .f32) → Prog (TpuEff nD τ sig (Elt F) Λ₀ .tc) α}
    (hx : .sl 0 (.ccw 1 3) ∈ g)
    (hk : ∀ v, ST m K c [.am 0, .am 1, .am 2, .am 3, .am 4, .am 5, .am 6] r s (dq2 3 (dq2 2 (dq2 1 (dq2 0 d)))) (gq2 3 (gq2 2 (gq2 1 (gq2 0 g))))
        iprop(wbF m c ∗ OutR m c [.cw 2 3, .ch 3, .ccw 2 2, .cw 2 2, .ch 2, .ccw 2 1, .cw 2 1, .ch 1, .ccw 2 0, .cw 2 0, .ch 0, .ccw 1 3, .cw 1 3, .ccw 1 2, .cw 1 2, .ccw 1 1, .cw 1 1, .ccw 1 0, .cw 1 0, .ccw 0 3, .cw 0 3, .ccw 0 2, .cw 0 2, .ccw 0 1, .cw 0 1, .ccw 0 0, .cw 0 0] ∗ R)
      ⊢ WP c (k ⟨v, acc' m c [.cw 2 3, .ch 3, .ccw 2 2, .cw 2 2, .ch 2, .ccw 2 1, .cw 2 1, .ch 1, .ccw 2 0, .cw 2 0, .ch 0, .ccw 1 3, .cw 1 3, .ccw 1 2, .cw 1 2, .ccw 1 1, .cw 1 1, .ccw 1 0, .cw 1 0, .ccw 0 3, .cw 0 3, .ccw 0 2, .cw 0 2, .ccw 0 1, .cw 0 1, .ccw 0 0, .cw 0 0]⟩) Q) :
    ST m K c [.am 0, .am 1, .am 2, .am 3, .am 4, .am 5, .am 6]
      (.ch 0 :: .cw 2 0 :: .ccw 2 0 :: .ch 1 :: .cw 2 1 :: .ccw 2 1 :: .ch 2 :: .cw 2 2 :: .ccw 2 2 :: .ch 3 :: .cw 2 3 :: .ccw 2 3 :: r) s d g
      iprop(wbF m c ∗ OutR m c [.cw 1 3, .ccw 1 2, .cw 1 2, .ccw 1 1, .cw 1 1, .ccw 1 0, .cw 1 0, .ccw 0 3, .cw 0 3, .ccw 0 2, .cw 0 2, .ccw 0 1, .cw 0 1, .ccw 0 0, .cw 0 0] ∗ R)
      ⊢ WP c (do
          let ⟨v1049, v1067⟩ : Σ' (v1049 : F .f32), FVec F S128x1024 .f32 ← (at0 (k0_part39 (F := F))) c v24 v1021 (acc' m c [.cw 1 3, .ccw 1 2, .cw 1 2, .ccw 1 1, .cw 1 1, .ccw 1 0, .cw 1 0, .ccw 0 3, .cw 0 3, .ccw 0 2, .cw 0 2, .ccw 0 1, .cw 0 1, .ccw 0 0, .cw 0 0])
          let v1074 : F .f32 ← (at0 (k0_part40 (F := F))) c v10 v16 v379 v1049 v1067
          let ⟨v1109, v1120⟩ : Σ' (v1109 : BitVec 32), F .f32 ← (at0 (k0_part41 (F := F))) c v5 v1074
          let ⟨v1137, v1155, cst_1192⟩ : Σ' (v1137 : F .f32) (v1155 : FVec F S128x1024 .f32), F .f32 ← (at0 (k0_part42 (F := F))) c v24 v1109 v1120
          let v1162 : F .f32 ← (at0 (k0_part43 (F := F))) c v10 v16 v379 v1137 v1155 cst_1192
          let ⟨v1197, v1208⟩ : Σ' (v1197 : BitVec 32), F .f32 ← (at0 (k0_part44 (F := F))) c v5 v1162
          let ⟨v1225, v1243, v1244⟩ : Σ' (v1225 : F .f32) (v1243 : FVec F S128x1024 .f32), FVec F S128x1024 .f32 ← (at0 (k0_part45 (F := F))) c v24 v1197 v1208
          let v1250 : F .f32 ← (at0 (k0_part46 (F := F))) c v10 v16 v379 v1225 v1243 v1244
          let ⟨v1285, v1296⟩ : Σ' (v1285 : BitVec 32), F .f32 ← (at0 (k0_part47 (F := F))) c v5 v1250
          let ⟨v1313, v1333⟩ : Σ' (v1313 : F .f32), FVec F S128x1024 .f32 ← (at0 (k0_part48 (F := F))) c v24 v1285 v1296
          let v1338 : F .f32 ← (at0 (k0_part49 (F := F))) c v10 v16 v379 v1313 v1333
          let p ← (at0 (k0_part50 (F := F))) c v5 v1338
          k p) Q := by
  rw [k0_part39_eq_skeleton]; unfold k0_part39_skel
  simp only [at0, bind_if, semSignalWord, semWaitWord, Prog.lift, Prog.bind, Prog.bind_op, Prog.bind_ret, Prog.pure_eq_ret]
  refine load_ccw m K c 1 3 hx ?_
  refine load_wb m K c ?_
  refine load_outR m K c fun _ => ?_
  refine store_mm m K c (.ccw 1 3) (off3_eq c 1 3 (by decide) (by decide)) rfl ?_
  refine wait_ch m K c 0 (by decide) ?_
  refine load_ch m K c 0 (by simp) ?_
  refine load_wb m K c ?_
  rw [k0_part40_eq_skeleton]; unfold k0_part40_skel
  simp only [at0, bind_if, semSignalWord, semWaitWord, Prog.lift, Prog.bind, Prog.bind_op, Prog.bind_ret, Prog.pure_eq_ret]
  refine load_outR m K c fun _ => ?_
  refine store_mm m K c (.ch 0) (off4_eq c 0 (by decide)) rfl ?_
  refine wait_cw2 m K c 0 (by decide) ?_
  rw [k0_part41_eq_skeleton]; unfold k0_part41_skel
  simp only [at0, bind_if, semSignalWord, semWaitWord, Prog.lift, Prog.bind, Prog.bind_op, Prog.bind_ret, Prog.pure_eq_ret]
  refine wait_ccw2 m K c 0 (by decide) ?_
  refine load_cw m K c 2 0 (by simp) ?_
  refine load_wb m K c ?_
  refine load_outR m K c fun _ => ?_
  refine store_mm m K c (.cw 2 0) (off2_eq c 2 0 (by decide) (by decide)) rfl ?_
  rw [k0_part42_eq_skeleton]; unfold k0_part42_skel
  simp only [at0, bind_if, semSignalWord, semWaitWord, Prog.lift, Prog.bind, Prog.bind_op, Prog.bind_ret, Prog.pure_eq_ret]
  refine load_ccw m K c 2 0 (by simp) ?_
  refine load_wb m K c ?_
  refine load_outR m K c fun _ => ?_
  refine store_mm m K c (.ccw 2 0) (off3_eq c 2 0 (by decide) (by decide)) rfl ?_
  refine wait_ch m K c 1 (by decide) ?_
  refine load_ch m K c 1 (by simp) ?_
  refine load_wb m K c ?_
  rw [k0_part43_eq_skeleton]; unfold k0_part43_skel
  simp only [at0, bind_if, semSignalWord, semWaitWord, Prog.lift, Prog.bind, Prog.bind_op, Prog.bind_ret, Prog.pure_eq_ret]
  refine load_outR m K c fun _ => ?_
  refine store_mm m K c (.ch 1) (off4_eq c 1 (by decide)) rfl ?_
  refine wait_cw2 m K c 1 (by decide) ?_
  rw [k0_part44_eq_skeleton]; unfold k0_part44_skel
  simp only [at0, bind_if, semSignalWord, semWaitWord, Prog.lift, Prog.bind, Prog.bind_op, Prog.bind_ret, Prog.pure_eq_ret]
  refine wait_ccw2 m K c 1 (by decide) ?_
  refine load_cw m K c 2 1 (by simp) ?_
  refine load_wb m K c ?_
  refine load_outR m K c fun _ => ?_
  refine store_mm m K c (.cw 2 1) (off2_eq c 2 1 (by decide) (by decide)) rfl ?_
  rw [k0_part45_eq_skeleton]; unfold k0_part45_skel
  simp only [at0, bind_if, semSignalWord, semWaitWord, Prog.lift, Prog.bind, Prog.bind_op, Prog.bind_ret, Prog.pure_eq_ret]
  refine load_ccw m K c 2 1 (by simp) ?_
  refine load_wb m K c ?_
  refine load_outR m K c fun _ => ?_
  refine store_mm m K c (.ccw 2 1) (off3_eq c 2 1 (by decide) (by decide)) rfl ?_
  refine wait_ch m K c 2 (by decide) ?_
  refine load_ch m K c 2 (by simp) ?_
  refine load_wb m K c ?_
  rw [k0_part46_eq_skeleton]; unfold k0_part46_skel
  simp only [at0, bind_if, semSignalWord, semWaitWord, Prog.lift, Prog.bind, Prog.bind_op, Prog.bind_ret, Prog.pure_eq_ret]
  refine load_outR m K c fun _ => ?_
  refine store_mm m K c (.ch 2) (off4_eq c 2 (by decide)) rfl ?_
  refine wait_cw2 m K c 2 (by decide) ?_
  rw [k0_part47_eq_skeleton]; unfold k0_part47_skel
  simp only [at0, bind_if, semSignalWord, semWaitWord, Prog.lift, Prog.bind, Prog.bind_op, Prog.bind_ret, Prog.pure_eq_ret]
  refine wait_ccw2 m K c 2 (by decide) ?_
  refine load_cw m K c 2 2 (by simp) ?_
  refine load_wb m K c ?_
  refine load_outR m K c fun _ => ?_
  refine store_mm m K c (.cw 2 2) (off2_eq c 2 2 (by decide) (by decide)) rfl ?_
  rw [k0_part48_eq_skeleton]; unfold k0_part48_skel
  simp only [at0, bind_if, semSignalWord, semWaitWord, Prog.lift, Prog.bind, Prog.bind_op, Prog.bind_ret, Prog.pure_eq_ret]
  refine load_ccw m K c 2 2 (by simp) ?_
  refine load_wb m K c ?_
  refine load_outR m K c fun _ => ?_
  refine store_mm m K c (.ccw 2 2) (off3_eq c 2 2 (by decide) (by decide)) rfl ?_
  refine wait_ch m K c 3 (by decide) ?_
  refine load_ch m K c 3 (by simp) ?_
  refine load_wb m K c ?_
  rw [k0_part49_eq_skeleton]; unfold k0_part49_skel
  simp only [at0, bind_if, semSignalWord, semWaitWord, Prog.lift, Prog.bind, Prog.bind_op, Prog.bind_ret, Prog.pure_eq_ret]
  refine load_outR m K c fun _ => ?_
  refine store_mm m K c (.ch 3) (off4_eq c 3 (by decide)) rfl ?_
  refine wait_cw2 m K c 3 (by decide) ?_
  rw [k0_part50_eq_skeleton]; unfold k0_part50_skel
  simp only [at0, bind_if, semSignalWord, semWaitWord, Prog.lift, Prog.bind, Prog.bind_op, Prog.bind_ret, Prog.pure_eq_ret]
  refine wait_ccw2 m K c 3 (by decide) ?_
  refine load_cw m K c 2 3 (by simp) ?_
  refine load_wb m K c ?_
  refine load_outR m K c fun _ => ?_
  refine store_mm m K c (.cw 2 3) (off2_eq c 2 3 (by decide) (by decide)) rfl ?_
  exact hk _

end Cert.KernelIdealProof
-- ==== Proof.KIGeo.lean ====
/-
Which elements of its buffer each piece holds, and a buffer in its pieces.
-/
module

public import proofs.«01_k».proof.Proof.KIMem
public import Idealize.ShloMosaic.Lib.Ring

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Option (Fin 80) → ℕ)

/-! ## Which elements a piece holds -/

theorem mem_cw (h : Fin 3) (q : Fin 4) (i : S3x4x128x4096.Idx) : i ∈ (cwM h q).view.set ↔ ((i 0 : Fin 3), (i 1 : Fin 4)) = (h, q) := by
  refine ⟨fun hm => ?_, fun hh => ?_⟩
  · obtain ⟨x, -, hx⟩ := Finset.mem_map.mp hm
    rw [emb_cw] at hx
    subst hx; rfl
  · obtain ⟨h0, h1⟩ := Prod.mk.inj hh
    refine Finset.mem_map.mpr ⟨ix2 (i 2 : Fin 128) (i 3 : Fin 4096), Finset.mem_univ _, ?_⟩
    rw [emb_cw]
    refine Eq.trans ?_ (eq_ix4 i).symm
    rw [← h0, ← h1]; rfl
theorem mem_ccw (h : Fin 3) (q : Fin 4) (i : S3x4x128x4096.Idx) : i ∈ (ccwM h q).view.set ↔ ((i 0 : Fin 3), (i 1 : Fin 4)) = (h, q) := mem_cw h q i
theorem mem_ch (q : Fin 4) (i : S4x128x4096.Idx) : i ∈ (chM q).view.set ↔ (i 0 : Fin 4) = q := by
  refine ⟨fun hm => ?_, fun h0 => ?_⟩
  · obtain ⟨x, -, hx⟩ := Finset.mem_map.mp hm
    rw [emb_ch] at hx
    subst hx; rfl
  · refine Finset.mem_map.mpr ⟨ix2 (i 1 : Fin 128) (i 2 : Fin 4096), Finset.mem_univ _, ?_⟩
    rw [emb_ch]
    refine Eq.trans ?_ (eq_ix3 i).symm
    rw [← h0]; rfl
theorem mem_ws (q : Fin 2) (i : S2x256x1024.Idx) : i ∈ (wsM q).view.set ↔ (i 0 : Fin 2) = q := by
  refine ⟨fun hm => ?_, fun h0 => ?_⟩
  · obtain ⟨x, -, hx⟩ := Finset.mem_map.mp hm
    rw [emb_ws] at hx
    subst hx; rfl
  · refine Finset.mem_map.mpr ⟨ix2 (i 1 : Fin 256) (i 2 : Fin 1024), Finset.mem_univ _, ?_⟩
    rw [emb_ws]
    refine Eq.trans ?_ (eq_ix3 i).symm
    rw [← h0]; rfl

/-- Of `A` rows, the block of `n` from `n b` on. -/
theorem mem_rows {A B n : ℕ} (b : ℕ) (hn : 0 < n) (inb) (i : (⟨2, ![A, B]⟩ : Shape).Idx) :
    i ∈ (Rect.unit (s := (⟨2, ![A, B]⟩ : Shape)) ![n * b, 0] (⟨2, ![n, B]⟩ : Shape).size inb).set ↔ (i 0).val / n = b := by
  rw [Rect.mem_set_unit]
  refine ⟨fun hm => ?_, fun h0 a => ?_⟩
  · have h1 : n * b ≤ (i 0).val := (hm 0).1
    have h2 : (i 0).val < n * b + n := (hm 0).2
    exact Nat.div_eq_of_lt_le (by rw [Nat.mul_comm]; exact h1) (by rw [Nat.add_mul, Nat.one_mul, Nat.mul_comm]; exact h2)
  · have h1 : n * ((i 0).val / n) + (i 0).val % n = (i 0).val := Nat.div_add_mod _ _
    have h2 := Nat.mod_lt (i 0).val hn
    rw [h0] at h1
    fin_cases a
    · exact ⟨show n * b ≤ (i 0).val by omega, show (i 0).val < n * b + n by omega⟩
    · exact ⟨Nat.zero_le _, show (i 1).val < 0 + B by rw [Nat.zero_add]; exact (i 1).isLt⟩

theorem mem_out (j : Fin 8) (i : S4096x1024.Idx) : i ∈ (outM j).view.set ↔ (⟨(i 0).val / 512, by have h : (i 0).val < 4096 := (i 0).isLt; omega⟩ : Fin 8) = j := by
  rw [show (outM j).view.set = (Rect.unit (s := S4096x1024) ![512 * j.val, 0] S512x1024.size (inb_orows j.isLt)).set from View.set_slice_whole _ _]
  exact (mem_rows j.val (by decide) _ i).trans (Fin.ext_iff (a := (⟨(i 0).val / 512, _⟩ : Fin 8)) (b := j)).symm
theorem mem_res (j : Fin 8) (i : S4096x1024.Idx) : i ∈ (resM j).view.set ↔ (⟨(i 0).val / 512, by have h : (i 0).val < 4096 := (i 0).isLt; omega⟩ : Fin 8) = j := by
  rw [show (resM j).view.set = (Rect.unit (s := S4096x1024) ![512 * j.val, 0] S512x1024.size (inb_orows j.isLt)).set from View.set_slice_whole _ _]
  exact (mem_rows j.val (by decide) _ i).trans (Fin.ext_iff (a := (⟨(i 0).val / 512, _⟩ : Fin 8)) (b := j)).symm
theorem mem_wr (j : Fin 16) (i : S4096x1024.Idx) : i ∈ (wrM j).view.set ↔ (⟨(i 0).val / 256, by have h : (i 0).val < 4096 := (i 0).isLt; omega⟩ : Fin 16) = j := by
  rw [show (wrM j).view.set = (Rect.unit (s := S4096x1024) ![256 * j.val, 0] S256x1024.size (inb_wrows j.isLt)).set from View.set_slice_whole _ _]
  exact (mem_rows j.val (by decide) _ i).trans (Fin.ext_iff (a := (⟨(i 0).val / 256, _⟩ : Fin 16)) (b := j)).symm
theorem mem_xq (j : Fin 4) (i : S512x4096.Idx) : i ∈ (xqM j).view.set ↔ (⟨(i 0).val / 128, by have h : (i 0).val < 512 := (i 0).isLt; omega⟩ : Fin 4) = j := by
  rw [show (xqM j).view.set = (Rect.unit (s := S512x4096) ![128 * j.val, 0] S128x4096.size (inb_quarter j.isLt)).set from View.set_slice_whole _ _]
  exact (mem_rows j.val (by decide) _ i).trans (Fin.ext_iff (a := (⟨(i 0).val / 128, _⟩ : Fin 4)) (b := j)).symm
theorem mem_am (j : Dev nD) (i : S8x128.Idx) : i ∈ (amM j).view.set ↔ (i 0 : Fin 8) = j := by
  rw [show (amM j).view.set = (Rect.unit (s := S8x128) ![j.val, 0] S1x128.size (inb_row j.isLt)).set from View.set_slice_whole _ _]
  rw [Rect.mem_set_unit]
  refine ⟨fun hm => ?_, fun h0 a => ?_⟩
  · have h1 : j.val ≤ (i 0).val := (hm 0).1
    have h2 : (i 0).val < j.val + 1 := (hm 0).2
    exact Fin.ext (show (i 0).val = j.val by omega)
  · have h1 : (i 0).val = j.val := congrArg Fin.val h0
    fin_cases a
    · exact ⟨show j.val ≤ (i 0).val by omega, show (i 0).val < j.val + 1 by omega⟩
    · exact ⟨Nat.zero_le _, show (i 1).val < 0 + 128 by rw [Nat.zero_add]; exact (i 1).isLt⟩

/-! ## A buffer in its pieces -/

section Keyed
variable {ℓ : Loc nD τ sig} {B : Type} [Fintype B] [DecidableEq B] (I : B → Finset (Idx ℓ)) (key : Idx ℓ → B) (h : ∀ b i, i ∈ I b ↔ key i = b)
include h

omit [FloatOps F] in
theorem keyed (f : Buf (Elt F) ℓ) (q : PosShare TreeShare) : (ℓ ↦[Finset.univ]{q} f : sProp 𝕄) = bigSep Finset.univ fun b => ℓ ↦[I b]{q} f :=
  Ring.pointsTo_blocks I (fun b b' hb => Finset.disjoint_left.mpr fun i hi hi' => hb (((h b i).mp hi).symm.trans ((h b' i).mp hi')))
    (Finset.eq_univ_of_forall fun i => Finset.mem_biUnion.mpr ⟨key i, Finset.mem_univ _, (h _ i).mpr rfl⟩) f

omit [FloatOps F] in
theorem keyed_join (f₀ : Buf (Elt F) ℓ) (q : PosShare TreeShare) :
    bigSep Finset.univ (fun b => iprop(∃ f, ℓ ↦[I b]{q} f)) ⊢ (iprop(∃ g, ℓ ↦[Finset.univ]{q} g) : sProp 𝕄) :=
  Ring.pointsTo_blocks_join_exists I (fun b b' hb => Finset.disjoint_left.mpr fun i hi hi' => hb (((h b i).mp hi).symm.trans ((h b' i).mp hi')))
    (Finset.eq_univ_of_forall fun i => Finset.mem_biUnion.mpr ⟨key i, Finset.mem_univ _, (h _ i).mpr rfl⟩) f₀

end Keyed

omit [FloatOps F] in
/-- A family over a finite type, as a list of its members. -/
theorem big_list {B : Type} [Fintype B] [DecidableEq B] (Φ : B → sProp 𝕄) (L : List B) (hn : L.Nodup) (ha : ∀ b, b ∈ L) :
    bigSep Finset.univ Φ ⊣⊢ sepL Φ L := by
  rw [show (Finset.univ : Finset B) = L.toFinset from (Finset.eq_univ_of_forall fun b => List.mem_toFinset.mpr (ha b)).symm]
  clear ha
  induction L with
  | nil => rw [List.toFinset_nil, bigSep_empty]; exact ⟨BI.Entails.refl _, BI.Entails.refl _⟩
  | cons a L ih =>
    have hn' := List.nodup_cons.mp hn
    rw [List.toFinset_cons, bigSep_insert (fun h => hn'.1 (List.mem_toFinset.mp h))]
    exact ⟨sep_mono_right (ih hn'.2).1, sep_mono_right (ih hn'.2).2⟩

end Cert.KernelIdealProof
-- ==== Proof.KIAm.lean ====
/-
The devices' maxima: each writes its own row, sends it to the seven others and reads all eight.
-/
module

public import proofs.«01_k».proof.Proof.KIOut
public import proofs.«01_k».proof.Proof.KIGeo

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Option (Fin 80) → ℕ)
variable {l r s : List Msg} {d : List (DmaSem sig)} {g : List Pc} {R : sProp (MT nD τ sig Unit (Elt F) ℕ UU ℕ)}
variable {α : Type} {Q : α → sProp (MT nD τ sig Unit (Elt F) ℕ UU ℕ)}

/-! ## The device's own row -/

theorem am_eq (c : Dev nD) {of : Fin 2 → ℕ} (hof : of = ![c.val, 0]) {inb h} : amB.slice (Rect.unit (s := S8x128) of S1x128.size inb) h = amM c := by
  subst hof; rfl

theorem cr_am' (c : Dev nD) {dstm : Memref sig .tc .vmem S1x128 .f32} (h : dstm = amM c) : dstm.view.dmaCredit = NA := by
  subst h; exact cr_am c

theorem read_am (c : Dev nD) : (amM c).view.read (Elt F) (amx m) = fun _ => acc' m c mulOrder := by
  funext i
  rw [acc'_eq]
  show acc m ((amM c).view.emb i 0 : Fin 8) mulOrder = _
  have h := (mem_am c ((amM c).view.emb i)).mp (View.emb_mem_set _ i)
  rw [h]

theorem row_split (c : Dev nD) : ((amM c).view.loc (c : Thread nD τ) ↦[(amM c).view.set]{fullShare} amx m : sProp 𝕄)
    ⊣⊢ sepL (pcP m c) [.row 0, .row 1, .row 2, .row 3, .row 4, .row 5, .row 6, .row 7] := by
  have h (q : PosShare TreeShare) : ((amM c).view.loc (c : Thread nD τ) ↦[(amM c).view.set]{q} amx m : sProp 𝕄) ⊣⊢
      iprop(((amM c).view.loc (c : Thread nD τ) ↦[(amM c).view.set]{q.left} amx m) ∗ (amM c).view.loc (c : Thread nD τ) ↦[(amM c).view.set]{q.right} amx m) :=
    pointsTo_share (PosShare.mem_left_op_right q)
  simp only [sepL, pcP, sh8]
  constructor
  · iintro H
    ihave H := (h _).1 $$ H
    icases H with ⟨HL, HR⟩
    ihave HL := (h _).1 $$ HL
    icases HL with ⟨HLL, HLR⟩
    ihave HR := (h _).1 $$ HR
    icases HR with ⟨HRL, HRR⟩
    ihave H := (h _).1 $$ HLL
    icases H with ⟨H0, H1⟩
    ihave H := (h _).1 $$ HLR
    icases H with ⟨H2, H3⟩
    ihave H := (h _).1 $$ HRL
    icases H with ⟨H4, H5⟩
    ihave H := (h _).1 $$ HRR
    icases H with ⟨H6, H7⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iempintro
  · iintro ⟨H0, H1, H2, H3, H4, H5, H6, H7, -⟩
    iapply (h _).2
    isplitl [H0 H1 H2 H3]
    · iapply (h _).2
      isplitl [H0 H1]
      · iapply (h _).2; isplitl [H0] <;> iassumption
      · iapply (h _).2; isplitl [H2] <;> iassumption
    · iapply (h _).2
      isplitl [H4 H5]
      · iapply (h _).2; isplitl [H4] <;> iassumption
      · iapply (h _).2; isplitl [H6] <;> iassumption

/-- The load of the row before it is written. -/
theorem am_dead (c : Dev nD) {of : Fin 2 → ℕ} (hof : of = ![c.val, 0]) {inb hl} {k : _ → Prog (TpuEff nD τ sig (Elt F) Λ₀ .tc) α}
    (hk : ∀ v, ST m K c l r s d g iprop(tick (F := F) c c ∗ R) ⊢ WP c (k v) Q) :
    ST m K c l r s d g iprop(tick (F := F) c c ∗ R) ⊢ WP c (.op (.load amB (Rect.unit (s := S8x128) of S1x128.size inb).toLoadRect hl) k) Q := by
  subst hof
  refine st_op_rest m K c ?_ hk
  unfold tick
  iintro ⟨⟨%f, Hf⟩, HR⟩ Hk
  iapply (wp_load 𝒱₀ (c : Thread nD τ) none Set.univ (m := amB) (Q := Q) (S := (amM c).view.set) (q := fullShare) (f := f)
    (by rw [View.set_slice]; exact Finset.Subset.refl _)) $$ Hf
  iintro Hf
  iapply Hk
  isplitl [Hf]; · iexists f; iexact Hf
  iexact HR

/-- The device's maximum is written along its row. -/
theorem am_store (c : Dev nD) {of : Fin 2 → ℕ} (hof : of = ![c.val, 0]) {inb : _} {v hx hm}
    (hv : v = shapeCast S1x128 (broadcast S1x128 (acc' m c mulOrder)) shapeCasts_S1x128_S1x128)
    {k : PUnit → Prog (TpuEff nD τ sig (Elt F) Λ₀ .tc) α}
    (hk : ST m K c l r s d (.row 0 :: .row 1 :: .row 2 :: .row 3 :: .row 4 :: .row 5 :: .row 6 :: .row 7 :: g) R ⊢ WP c (k ⟨⟩) Q) :
    ST m K c l r s d g iprop(tick (F := F) c c ∗ R)
      ⊢ WP c (.op (.store amB (Rect.unit (s := S8x128) of S1x128.size inb) v Finset.univ hx hm) k) Q := by
  subst hof
  rw [shapeCast_self] at hv
  subst hv
  refine st_op_rest₁ m K c (R' := iprop(((amM c).view.loc (c : Thread nD τ) ↦[(amM c).view.set]{fullShare} amx m) ∗ R)) ?_
    ((st_pieces m K c (g₁ := []) (g₂ := [.row 0, .row 1, .row 2, .row 3, .row 4, .row 5, .row 6, .row 7]) ?_).trans hk)
  · unfold tick
    iintro ⟨⟨%f, Hf⟩, HR⟩ Hk
    iapply (wp_store 𝒱₀ (c : Thread nD τ) none Set.univ (m := amB) (r := Rect.unit (s := S8x128) ![c.val, 0] S1x128.size inb) (Q := Q)
      (S := (amM c).view.set) (f := f) (by rw [View.setOn_univ])) $$ Hf
    iintro Hf
    iapply Hk
    isplitl [Hf]
    · ihave H := (Entails.of_eq (write_lands (amM c) f (amx m) (fun _ => acc' m c mulOrder) (read_am m c))) $$ [Hf]
      · iexact Hf
      iexact H
    iexact HR
  · iintro ⟨-, H, HR⟩
    isplitl [H]
    · iapply (row_split m c).1; iexact H
    iexact HR

/-! ## The rows of maxima go to the other seven devices -/

theorem send_am (c : Dev nD) (q : Fin 7) {srcm dstm : Memref sig .tc .vmem S1x128 .f32} (hsm : srcm = amM c) (hdm : dstm = amM c)
    {n : Dev nD} (hn : n = plus (q.val + 1) c) {i j hsc hsrc hdst hsem}
    {k : PUnit → Prog (TpuEff nD τ sig (Elt F) Λ₀ .tc) α}
    (hk : ST m K c l r (.am q :: s) d g R ⊢ WP c (k ⟨⟩) Q) :
    ST m K c (.am q :: l) r s d (.row q.castSucc :: .bg (.am q) :: g) R
      ⊢ WP c (.op (.enqueueDma srcm (.remote (Dev.tc n : Thread nD τ) dstm
        (.dma ((cc0_scratch13.slice (Rect.unit (s := S7) ![q.val] S1.size i)).squeeze S_ squeezes_S1_S_).sem) hsc)
        (.dma ((cc0_scratch14.slice (Rect.unit (s := S7) ![q.val] S1.size j)).squeeze S_ squeezes_S1_S_).sem) hsrc hdst hsem) k) Q := by
  subst hsm hdm
  have ho : org (.am q) (tgt (.am q) c) = c := frm_tgt (.am q) c
  refine send_core m K c (.am q) (amM c) (amM c) rfl ?_ (fun f => ?_) (cr_am c) hn (semAmS q.val q.isLt i) (semAmR q.val q.isLt j) hk
  · show iprop(emp ∗ tick (F := F) (tgt (.am q) c) c) ⊢ iprop(tick (F := F) (tgt (.am q) c) c ∗ emp)
    iintro ⟨He, H⟩
    isplitl [H] <;> iassumption
  · refine (Entails.of_eq (write_lands (amM c) f (amx m) _ rfl)).trans ?_
    unfold lnd
    dsimp only
    rw [ho]

/-! ## All the rows -/

/-- The rows of maxima, whole. -/
def amF (c : Dev nD) : sProp 𝕄 := amB.view.loc (c : Thread nD τ) ↦[Finset.univ]{fullShare} amx m

theorem am_all (c : Dev nD) : ∀ p : Dev nD, p ∈ [c, org (.am 0) c, org (.am 1) c, org (.am 2) c, org (.am 3) c, org (.am 4) c, org (.am 5) c, org (.am 6) c] := by
  revert c; decide
theorem am_nodup (c : Dev nD) : [c, org (.am 0) c, org (.am 1) c, org (.am 2) c, org (.am 3) c, org (.am 4) c, org (.am 5) c, org (.am 6) c].Nodup := by
  revert c; decide

theorem lnd_am (c : Dev nD) (q : Fin 7) : lnd m c (.am q) fullShare = (amB.view.loc (c : Thread nD τ) ↦[(amM (org (.am q) c)).view.set]{fullShare} amx m) := rfl

theorem am_join (c : Dev nD) : iprop(sepL (pcP m c) [.row 0, .row 1, .row 2, .row 3, .row 4, .row 5, .row 6, .row 7]
      ∗ sepL (pcP m c) [.lam 0, .lam 1, .lam 2, .lam 3, .lam 4, .lam 5, .lam 6]) ⊢ amF m c := by
  unfold amF
  refine BIBase.Entails.trans ?_ (Entails.of_eq (keyed (ℓ := amB.view.loc (c : Thread nD τ)) (fun p : Dev nD => (amM p).view.set) (fun i => ((i : S8x128.Idx) 0 : Fin 8)) mem_am (amx m) fullShare).symm)
  refine BIBase.Entails.trans ?_ (big_list _ _ (am_nodup c) (am_all c)).2
  iintro ⟨H0, H1⟩
  ihave H0 := (row_split m c).2 $$ H0
  simp only [sepL, pcP, lnd_am]
  isplitl [H0]; · iexact H0
  iexact H1

theorem am_load (c : Dev nD) {inb hl} {k : Vec F S8x128 .f32 → Prog (TpuEff nD τ sig (Elt F) Λ₀ .tc) α}
    (hk : ST m K c l r s d g iprop(amF m c ∗ R) ⊢ WP c (k (amx m)) Q) :
    ST m K c l r s d (.lam 6 :: .row 6 :: .lam 5 :: .row 5 :: .lam 4 :: .row 4 :: .lam 3 :: .row 3 :: .lam 2 :: .row 2 :: .lam 1 :: .row 1 :: .lam 0 :: .row 0 :: .row 7 :: g) R
      ⊢ WP c (.op (.load amB (Rect.unit (s := S8x128) ![0, 0] S8x128.size inb).toLoadRect hl) k) Q := by
  have h0 : (![0, 0] : Fin 2 → ℕ) = fun _ => 0 := by funext a; fin_cases a <;> rfl
  have hv : amB.view.readAt (Elt F) (Rect.unit (s := S8x128) ![0, 0] S8x128.size inb).toLoadRect (amx m) = amx m :=
    Memref.readAt_unit_zero (Elt F) cc0_scratch6 h0 inb _
  have hp : ([.lam 6, .row 6, .lam 5, .row 5, .lam 4, .row 4, .lam 3, .row 3, .lam 2, .row 2, .lam 1, .row 1, .lam 0, .row 0, .row 7] ++ g : List Pc).Perm
      ([.row 0, .row 1, .row 2, .row 3, .row 4, .row 5, .row 6, .row 7, .lam 0, .lam 1, .lam 2, .lam 3, .lam 4, .lam 5, .lam 6] ++ g) :=
    List.Perm.append_right g (by decide)
  refine BIBase.Entails.trans (st_perm m K c (List.Perm.refl l) (List.Perm.refl r) (List.Perm.refl s) (List.Perm.refl d) hp) ?_
  refine BIBase.Entails.trans (st_pieces m K c (g₁ := [.row 0, .row 1, .row 2, .row 3, .row 4, .row 5, .row 6, .row 7, .lam 0, .lam 1, .lam 2, .lam 3, .lam 4, .lam 5, .lam 6]) (g₂ := []) (R' := iprop(amF m c ∗ R)) ?_) ?_
  · iintro ⟨H, HR⟩
    ihave H := (sepL_split (pcP m c) [.row 0, .row 1, .row 2, .row 3, .row 4, .row 5, .row 6, .row 7] [.lam 0, .lam 1, .lam 2, .lam 3, .lam 4, .lam 5, .lam 6]) $$ [H]
    · iexact H
    ihave H := (am_join m c) $$ H
    isplitr; · (unfold sepL; iempintro)
    isplitl [H] <;> iassumption
  refine st_op_rest₁ m K c ?_ hk
  unfold amF
  iintro ⟨H, HR⟩ Hk
  iapply (wp_load 𝒱₀ (c : Thread nD τ) none Set.univ (m := amB) (Q := Q) (S := Finset.univ) (q := fullShare) (f := amx m) (Finset.subset_univ _)) $$ H
  iintro H
  rw [hv]
  iapply Hk
  isplitl [H] <;> iassumption

end Cert.KernelIdealProof
-- ==== Proof.KIRes.lean ====
/-
The result, block by block: read, quantised, written back and copied out.
-/
module

public import proofs.«01_k».proof.Proof.KIAm

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Option (Fin 80) → ℕ)
variable {l r s : List Msg} {d : List (DmaSem sig)} {g : List Pc} {R : sProp (MT nD τ sig Unit (Elt F) ℕ UU ℕ)}
variable {α : Type} {Q : α → sProp (MT nD τ sig Unit (Elt F) ℕ UU ℕ)}

/-! ## The result leaves in eight blocks -/

/-- What a block's copy out needs besides the block. -/
def oTo (c : Dev nD) (j : Fin 8) : sProp 𝕄 :=
  iprop((∃ f : Buf (Elt F) ((resM j).view.loc (c : Thread nD τ)), (resM j).view.loc (c : Thread nD τ) ↦[(resM j).view.set]{fullShare} f)
    ∗ dutyTok ER (dCell c (sO j)) 0 0 ∗ atPos ER (dCell c (sO j)) 0 ∅ 0)
/-- A block of products; a block of results; one on its way; one out. -/
def oY (c : Dev nD) (j : Fin 8) : sProp 𝕄 := iprop(((outM j).view.loc (c : Thread nD τ) ↦[(outM j).view.set]{fullShare} yC m c) ∗ oTo (F := F) c j)
def oS (c : Dev nD) (j : Fin 8) : sProp 𝕄 := iprop(((outM j).view.loc (c : Thread nD τ) ↦[(outM j).view.set]{fullShare} resC m c) ∗ oTo (F := F) c j)
def oF (c : Dev nD) (j : Fin 8) : sProp 𝕄 := iprop(cred (tallyAt (dCell c (sO j)) () NO) ∗ atPos ER (dCell c (sO j)) 0 ∅ 0)

/-- The blocks by how far they are. -/
def oSt (c : Dev nD) (us ss fs ds : List (Fin 8)) (R : sProp 𝕄) : sProp 𝕄 :=
  iprop(sepL (oY m c) us ∗ sepL (oS m c) ss ∗ sepL (oF (F := F) c) fs ∗ sepL (outPay m c) ds ∗ R)

abbrev all8 : List (Fin 8) := [0, 1, 2, 3, 4, 5, 6, 7]

/-- The row blocks an index may lie in are all made. -/
theorem made (c : Dev nD) : ∀ n : Fin 32, n.val / 4 = c.val ∨ ∃ M ∈ mulOrder, n.val = 4 * (org M c).val + (quart M).val := by revert c; decide

theorem out_start (c : Dev nD) : iprop(OutR m c mulOrder ∗ sepL (oTo (F := F) c) all8) ⊢ sepL (oY m c) all8 := by
  have h : OutR m c mulOrder ⊢ sepL (fun j : Fin 8 => ((outM j).view.loc (c : Thread nD τ) ↦[(outM j).view.set]{fullShare} yC m c : sProp 𝕄)) all8 := by
    unfold OutR
    iintro ⟨%f, Hf, %hf⟩
    have hff : f = yC m c := funext fun i => hf i (by
      have h4 : ((i : S4096x1024.Idx) 0).val < 4096 := ((i : S4096x1024.Idx) 0).isLt
      rcases made c ⟨((i : S4096x1024.Idx) 0).val / 128, by omega⟩ with h | h
      · exact .inl (by have h' : ((i : S4096x1024.Idx) 0).val / 128 / 4 = c.val := h; omega)
      · exact .inr h)
    subst hff
    ihave H := (Entails.of_eq (keyed (ℓ := outB.view.loc (c : Thread nD τ)) (fun j : Fin 8 => (outM j).view.set) _ mem_out (yC m c) fullShare)) $$ Hf
    ihave H := (big_list _ all8 (by decide) (by decide)).1 $$ H
    iexact H
  refine BIBase.Entails.trans (sep_mono_left h) ?_
  simp only [sepL, oY]
  iintro ⟨⟨A0, A1, A2, A3, A4, A5, A6, A7, -⟩, B0, B1, B2, B3, B4, B5, B6, B7, -⟩
  isplitl [A0 B0]; · isplitl [A0] <;> iassumption
  isplitl [A1 B1]; · isplitl [A1] <;> iassumption
  isplitl [A2 B2]; · isplitl [A2] <;> iassumption
  isplitl [A3 B3]; · isplitl [A3] <;> iassumption
  isplitl [A4 B4]; · isplitl [A4] <;> iassumption
  isplitl [A5 B5]; · isplitl [A5] <;> iassumption
  isplitl [A6 B6]; · isplitl [A6] <;> iassumption
  isplitl [A7 B7]; · isplitl [A7] <;> iassumption
  iempintro

theorem emb_out (j : Fin 8) (i : S512x1024.Idx) : (outM j).view.emb i = ix2 (⟨512 * j.val + (i 0).val, by
    have h : (i 0).val < 512 := (i 0).isLt
    omega⟩ : Fin 4096) (i 1 : Fin 1024) :=
  emb_rows (512 * j.val) (inb_orows j.isLt) i _

theorem res_at (c : Dev nD) (j : Fin 8) (i : S512x1024.Idx) : resC m c (ix2 (⟨512 * j.val + (i 0).val, by
    have h : (i 0).val < 512 := (i 0).isLt
    omega⟩ : Fin 4096) (i 1 : Fin 1024)) = qB m c j i := by
  have h : (i 0).val < 512 := (i 0).isLt
  have e1 : (⟨(512 * j.val + (i 0).val) / 512, by omega⟩ : Fin 8) = j := Fin.ext (by show (512 * j.val + (i 0).val) / 512 = j.val; omega)
  have e2 : (⟨(512 * j.val + (i 0).val) % 512, Nat.mod_lt _ (by decide)⟩ : Fin 512) = (i 0 : Fin 512) := Fin.ext (by show (512 * j.val + (i 0).val) % 512 = (i 0).val; omega)
  show qB m c (⟨(512 * j.val + (i 0).val) / 512, _⟩ : Fin 8) (ix2 (⟨(512 * j.val + (i 0).val) % 512, _⟩ : Fin 512) (i 1 : Fin 1024)) = _
  rw [e1, e2]
  exact congrArg (qB m c j) (eq_ix2 i).symm

theorem read_out (c : Dev nD) (j : Fin 8) : (outM j).view.read (Elt F) (resC m c) = qB m c j := by
  funext i
  refine Eq.trans ?_ (res_at m c j i)
  show resC m c ((outM j).view.emb i) = _
  rw [emb_out]; rfl

theorem read_res (c : Dev nD) (j : Fin 8) : (resM j).view.read (Elt F) (resC m c) = (outM j).view.read (Elt F) (resC m c) := rfl

/-- The loads of a block. -/
theorem o_load (c : Dev nD) (j : Fin 8) {us ss fs ds : List (Fin 8)} {inb hl} {k : Vec F S512x1024 .f32 → Prog (TpuEff nD τ sig (Elt F) Λ₀ .tc) α}
    (hk : ST m K c l r s d g (oSt m c (j :: us) ss fs ds R) ⊢ WP c (k (yB m c j)) Q) :
    ST m K c l r s d g (oSt m c (j :: us) ss fs ds R)
      ⊢ WP c (.op (.load outB (Rect.unit (s := S4096x1024) ![512 * j.val, 0] S512x1024.size inb).toLoadRect hl) k) Q := by
  have hv : outB.view.readAt (Elt F) (Rect.unit (s := S4096x1024) ![512 * j.val, 0] S512x1024.size inb).toLoadRect (yC m c) = yB m c j := by
    funext i
    show yC m c ((Rect.unit (s := S4096x1024) ![512 * j.val, 0] S512x1024.size inb).emb i) = _
    rw [emb_rows (512 * j.val) inb i (by have h : (i 0).val < 512 := (i 0).isLt; omega)]
    rfl
  refine st_op_rest₁ m K c ?_ hk
  simp only [oSt, sepL, oY]
  iintro ⟨⟨⟨Hf, Ht⟩, Hu⟩, HR⟩ Hk
  iapply (wp_load 𝒱₀ (c : Thread nD τ) none Set.univ (m := outB) (Q := Q) (S := (outM j).view.set) (q := fullShare) (f := yC m c)
    (by rw [View.set_slice]; exact Finset.Subset.refl _)) $$ Hf
  iintro Hf
  rw [hv]
  iapply Hk
  isplitr [HR]
  · isplitr [Hu]
    · isplitl [Hf] <;> iassumption
    iexact Hu
  iexact HR

theorem o_dead (c : Dev nD) (j : Fin 8) {us ss fs ds : List (Fin 8)} {inb hl} {k : Vec F S512x1024 .f32 → Prog (TpuEff nD τ sig (Elt F) Λ₀ .tc) α}
    (hk : ∀ v, ST m K c l r s d g (oSt m c (j :: us) ss fs ds R) ⊢ WP c (k v) Q) :
    ST m K c l r s d g (oSt m c (j :: us) ss fs ds R)
      ⊢ WP c (.op (.load outB (Rect.unit (s := S4096x1024) ![512 * j.val, 0] S512x1024.size inb).toLoadRect hl) k) Q :=
  o_load m K c j (hk _)

theorem o_store (c : Dev nD) (j : Fin 8) {us ss fs ds : List (Fin 8)} {inb : _} {v hx hm} (hv : v = qB m c j)
    {k : PUnit → Prog (TpuEff nD τ sig (Elt F) Λ₀ .tc) α}
    (hk : ST m K c l r s d g (oSt m c us (j :: ss) fs ds R) ⊢ WP c (k ⟨⟩) Q) :
    ST m K c l r s d g (oSt m c (j :: us) ss fs ds R)
      ⊢ WP c (.op (.store outB (Rect.unit (s := S4096x1024) ![512 * j.val, 0] S512x1024.size inb) v Finset.univ hx hm) k) Q := by
  subst hv
  refine st_op_rest₁ m K c ?_ hk
  simp only [oSt, sepL, oY, oS]
  iintro ⟨⟨⟨Hf, Ht⟩, Hu⟩, Hs, HR⟩ Hk
  iapply (wp_store 𝒱₀ (c : Thread nD τ) none Set.univ (m := outB) (r := Rect.unit (s := S4096x1024) ![512 * j.val, 0] S512x1024.size inb) (Q := Q)
    (S := (outM j).view.set) (f := yC m c) (by rw [View.setOn_univ])) $$ Hf
  iintro Hf
  iapply Hk
  isplitl [Hu]; · iexact Hu
  isplitl [Hf Ht Hs]
  · isplitr [Hs]
    · isplitl [Hf]
      · ihave H := (Entails.of_eq (write_lands (outM j) (yC m c) (resC m c) (qB m c j) (read_out m c j))) $$ [Hf]
        · iexact Hf
        iexact H
      iexact Ht
    iexact Hs
  iexact HR

theorem o_start (c : Dev nD) (j : Fin 8) {us ss fs ds : List (Fin 8)} {i hsrc hdst hsem}
    {k : PUnit → Prog (TpuEff nD τ sig (Elt F) Λ₀ .tc) α}
    (hk : ST m K c l r s d g (oSt m c us ss (fs ++ [j]) ds R) ⊢ WP c (k ⟨⟩) Q) :
    ST m K c l r s d g (oSt m c us (j :: ss) fs ds R)
      ⊢ WP c (.op (.enqueueDma (outM j) (.here (resM j)) (.dma ((cc0_scratch16.slice (Rect.unit (s := S8) ![j.val] S1.size i)).squeeze S_ squeezes_S1_S_).sem) hsrc hdst hsem) k) Q := by
  have hs := semO j.val j.isLt i
  revert hsem
  rw [hs]
  intro hsem
  have hrole : dDut 0 (role (sO j)) = {0} := by rw [role_sO]; rfl
  unfold ST at hk ⊢
  simp only [oSt, sepL, oS, oTo] at hk ⊢
  iintro ⟨#Hc, Ho, Hl, Hr, Hs, Hd, Hg, Hu, ⟨⟨Hf, ⟨%f, Hw⟩, Ht, Ha⟩, Hss⟩, Hfs, Hds, HR⟩
  ihave H1 := (ctx_d m K c (sO j) (sO_pos j)) $$ Hc
  icases H1 with ⟨#HI1, #Hre⟩
  iapply (Rounds.wp_copy_pointsTo 𝒱₀ ER (Rd m) (c : Thread nD τ) none (κ := kd K c (sO j)) (r := 0) (d := 0)
    (by rw [duties_d, hrole]; exact Finset.mem_singleton_self _) () NO ((View.amount_dma _ _).trans (cr_res j)) (by rw [amount_d, role_sO]; rfl)
    (by
      rw [payload_d, role_sO]
      exact sep_mono_left (Entails.of_eq (write_lands (resM j) f (resC m c) _ (read_res m c j))))) $$ [Hw Hf Ht]
  · isplitr; · iexact HI1
    isplitl [Hf]; · iexact Hf
    isplitl [Hw]; · iexact Hw
    isplitl [Ht]; · iexact Ht
    iexact Hre
  iintro Hcr
  iapply hk
  isplitr; · iexact Hc
  isplitl [Ho]; · iexact Ho
  isplitl [Hl]; · iexact Hl
  isplitl [Hr]; · iexact Hr
  isplitl [Hs]; · iexact Hs
  isplitl [Hd]; · iexact Hd
  isplitl [Hg]; · iexact Hg
  isplitl [Hu]; · iexact Hu
  isplitl [Hss]; · iexact Hss
  isplitl [Hfs Hcr Ha]
  · iapply (sepL_join _ _ _)
    isplitl [Hfs]; · iexact Hfs
    simp only [sepL, oF]
    isplitl [Hcr Ha]; · isplitl [Hcr] <;> iassumption
    iempintro
  isplitl [Hds] <;> iassumption

theorem o_wait (c : Dev nD) (j : Fin 8) {us ss fs ds : List (Fin 8)} {e' : EltTy} {sp' : Space} {sh' : Shape} {srcm : Memref sig .tc sp' sh' e'} {i hsrc hdst}
    {k : PUnit → Prog (TpuEff nD τ sig (Elt F) Λ₀ .tc) α}
    (hk : ST m K c l r s (sO j :: d) g (oSt m c us ss fs (j :: ds) R) ⊢ WP c (k ⟨⟩) Q) :
    ST m K c l r s d g (oSt m c us ss (j :: fs) ds R)
      ⊢ WP c (.op (.waitDma2 ((cc0_scratch16.slice (Rect.unit (s := S8) ![j.val] S1.size i)).squeeze S_ squeezes_S1_S_).sem srcm (resM j) hsrc hdst) k) Q := by
  rw [semO j.val j.isLt i]
  have hrole : dDut 0 (role (sO j)) = {0} := by rw [role_sO]; rfl
  unfold ST at hk ⊢
  simp only [oSt, sepL, oF] at hk ⊢
  iintro ⟨#Hc, ⟨%W, Ho⟩, Hl, Hr, Hs, Hd, Hg, Hu, Hss, ⟨⟨Hcr, Hat⟩, Hfs⟩, Hds, HR⟩
  ihave H1 := (ctx_d m K c (sO j) (sO_pos j)) $$ Hc
  icases H1 with ⟨#HI1, -⟩
  iapply (Rounds.wp_wait_rest_token 𝒱₀ ER (Rd m) (c : Thread nD τ) none (κ := kd K c (sO j))
      (wpE_waitDma2_eq 𝒱₀ (c : Thread nD τ) none Set.univ) (Set.mem_univ _) () (O := Osum c l) (W := W) (R := 0) (m := 0) (T := ∅)
      (by rw [Nat.zero_add, expect_d m c _ _ hrole, role_sO]; exact cr_res j)) $$ [Hcr Ho Hat]
  · isplitr; · iexact HI1
    isplitl [Hcr]; · rw [cr_res j]; iexact Hcr
    isplitl [Ho]; · iexact Ho
    isplitr
    · iapply (mayWait_d c (sO j) l (by rw [lvI_sO]; exact fun M' _ => Nat.lt_of_lt_of_le Nat.zero_lt_one (lvM_pos M').le)); iapply (ctx_lev m K); iexact Hc
    iexact Hat
  iintro ⟨Ho, Hat, -, Hpay⟩
  ihave Hp := (Entails.of_eq ((rest_d m c (sO j) 0 hrole).trans (by rw [role_sO]; rfl : _ = outPay m c j))) $$ Hpay
  imod (Rounds.cell_close ER (Rd m) (Set.mem_univ (kd K c (sO j))) (fun h => h) (R := 0 + 1)
    (later_d m c (sO j) (fun s => by rw [role_sO]; exact fun h => by cases h))) $$ [Hat] with Hz
  · isplitr; · iexact HI1
    iexact Hat
  iapply hk
  simp only [zR]
  isplitr; · iexact Hc
  isplitl [Ho]; · iexists _; iexact Ho
  isplitl [Hl]; · iexact Hl
  isplitl [Hr]; · iexact Hr
  isplitl [Hs]; · iexact Hs
  isplitl [Hd Hz]; · isplitl [Hz] <;> iassumption
  isplitl [Hg]; · iexact Hg
  isplitl [Hu]; · iexact Hu
  isplitl [Hss]; · iexact Hss
  isplitl [Hfs]; · iexact Hfs
  isplitl [Hp Hds]; · isplitl [Hp] <;> iassumption
  iexact HR

end Cert.KernelIdealProof
-- ==== Proof.KIC5.lean ====
/-
The devices exchange their maxima; the result's first block is made.
-/
module

public import proofs.«01_k».proof.Proof.KIC4
public import proofs.«01_k».proof.Proof.KIRes

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

attribute [local irreducible] k0_cond1 k0_cond2 k0_cond3 k0_cond4 k0_cond5 k0_cond6 k0_cond7 k0_cond8
variable (m : (ℓ : Loc nD τ sig) → Buf (Elt F) ℓ) (K : Dev nD × Option (Fin 80) → ℕ)
variable {l r s : List Msg} {d : List (DmaSem sig)} {g : List Pc} {R : sProp (MT nD τ sig Unit (Elt F) ℕ UU ℕ)}
variable {α : Type} {Q : α → sProp (MT nD τ sig Unit (Elt F) ℕ UU ℕ)}

/-! ## Rearrangements -/

theorem st_ready (c : Dev nD) {p : Prog (TpuEff nD τ sig (Elt F) Λ₀ .tc) α}
    (hk : ST m K c l r s d g iprop(tick (F := F) c c ∗ oSt m c all8 [] [] [] iprop(wbF m c ∗ R)) ⊢ WP c p Q) :
    ST m K c l r s d g iprop(wbF m c ∗ OutR m c mulOrder ∗ tick (F := F) c c ∗ sepL (oTo (F := F) c) all8 ∗ R) ⊢ WP c p Q := by
  refine BIBase.Entails.trans (st_rest m K c ?_) hk
  iintro ⟨Hw, Ho, Ht, Hs, HR⟩
  ihave H := (out_start m c) $$ [Ho Hs]
  · isplitl [Ho] <;> iassumption
  isplitl [Ht]; · iexact Ht
  unfold oSt
  isplitl [H]; · iexact H
  isplitr; · (unfold sepL; iempintro)
  isplitr; · (unfold sepL; iempintro)
  isplitr; · (unfold sepL; iempintro)
  isplitl [Hw] <;> iassumption

theorem st_rows (c : Dev nD) {p : Prog (TpuEff nD τ sig (Elt F) Λ₀ .tc) α}
    (hk : ST m K c l r s d (.row 0 :: .bg (.am 0) :: .row 1 :: .bg (.am 1) :: .row 2 :: .bg (.am 2) :: .row 3 :: .bg (.am 3) :: .row 4 :: .bg (.am 4) :: .row 5 :: .bg (.am 5) :: .row 6 :: .bg (.am 6) :: .row 7 :: g) R ⊢ WP c p Q) :
    ST m K c l r s d (.row 0 :: .row 1 :: .row 2 :: .row 3 :: .row 4 :: .row 5 :: .row 6 :: .row 7 :: .bg (.am 0) :: .bg (.am 1) :: .bg (.am 2) :: .bg (.am 3) :: .bg (.am 4) :: .bg (.am 5) :: .bg (.am 6) :: g) R ⊢ WP c p Q := by
  have hp : ([.row 0, .row 1, .row 2, .row 3, .row 4, .row 5, .row 6, .row 7, .bg (.am 0), .bg (.am 1), .bg (.am 2), .bg (.am 3), .bg (.am 4), .bg (.am 5), .bg (.am 6)] ++ g : List Pc).Perm ([.row 0, .bg (.am 0), .row 1, .bg (.am 1), .row 2, .bg (.am 2), .row 3, .bg (.am 3), .row 4, .bg (.am 4), .row 5, .bg (.am 5), .row 6, .bg (.am 6), .row 7] ++ g) := List.Perm.append_right g (by decide)
  exact BIBase.Entails.trans (st_perm m K c (List.Perm.refl l) (List.Perm.refl r) (List.Perm.refl s) (List.Perm.refl d) hp) hk

theorem st_sent (c : Dev nD) {p : Prog (TpuEff nD τ sig (Elt F) Λ₀ .tc) α}
    (hk : ST m K c l r (.am 0 :: .am 1 :: .am 2 :: .am 3 :: .am 4 :: .am 5 :: .am 6 :: s) d g R ⊢ WP c p Q) :
    ST m K c l r (.am 6 :: .am 5 :: .am 4 :: .am 3 :: .am 2 :: .am 1 :: .am 0 :: s) d g R ⊢ WP c p Q := by
  have hp : ([.am 6, .am 5, .am 4, .am 3, .am 2, .am 1, .am 0] ++ s : List Msg).Perm ([.am 0, .am 1, .am 2, .am 3, .am 4, .am 5, .am 6] ++ s) := List.Perm.append_right s (by decide)
  exact BIBase.Entails.trans (st_perm m K c (List.Perm.refl l) (List.Perm.refl r) hp (List.Perm.refl d) (List.Perm.refl g)) hk

theorem st_amF (c : Dev nD) {us ss fs ds : List (Fin 8)} {p : Prog (TpuEff nD τ sig (Elt F) Λ₀ .tc) α}
    (hk : ST m K c l r s d g (oSt m c us ss fs ds iprop(amF m c ∗ R)) ⊢ WP c p Q) :
    ST m K c l r s d g iprop(amF m c ∗ oSt m c us ss fs ds R) ⊢ WP c p Q := by
  refine BIBase.Entails.trans (st_rest m K c ?_) hk
  unfold oSt
  iintro ⟨Ha, H1, H2, H3, H4, HR⟩
  isplitl [H1]; · iexact H1
  isplitl [H2]; · iexact H2
  isplitl [H3]; · iexact H3
  isplitl [H4]; · iexact H4
  isplitl [Ha] <;> iassumption

/-! ## The maxima are exchanged -/

/-- The semaphores of the exchange. -/
abbrev dam (d : List (DmaSem sig)) : List (DmaSem sig) := sR (.am 6) :: sS (.am 6) :: sR (.am 5) :: sS (.am 5) :: sR (.am 4) :: sS (.am 4) :: sR (.am 3) :: sS (.am 3) :: sR (.am 2) :: sS (.am 2) :: sR (.am 1) :: sS (.am 1) :: sR (.am 0) :: sS (.am 0) :: d

set_option maxHeartbeats 4000000 in
theorem rest51 (c : Dev nD) {v2 v1373 : BitVec 32} {k : (Σ' (v1558 : F .f32), F .f32) → Prog (TpuEff nD τ sig (Elt F) Λ₀ .tc) α}
    (hx : .sl 0 (.ccw 2 3) ∈ g)
    (hk : ST m K c [] r s (dam d) g (oSt m c [1, 2, 3, 4, 5, 6, 7] [0] [] [] iprop(amF m c ∗ wbF m c ∗ R))
      ⊢ WP c (k ⟨k0_pay114 (amx m), k0_pay115 (amx m)⟩) Q) :
    ST m K c [.am 0, .am 1, .am 2, .am 3, .am 4, .am 5, .am 6]
      (.am 0 :: .am 1 :: .am 2 :: .am 3 :: .am 4 :: .am 5 :: .am 6 :: r) s d (.bg (.am 0) :: .bg (.am 1) :: .bg (.am 2) :: .bg (.am 3) :: .bg (.am 4) :: .bg (.am 5) :: .bg (.am 6) :: g)
      iprop(wbF m c ∗ OutR m c [.cw 2 3, .ch 3, .ccw 2 2, .cw 2 2, .ch 2, .ccw 2 1, .cw 2 1, .ch 1, .ccw 2 0, .cw 2 0, .ch 0, .ccw 1 3, .cw 1 3, .ccw 1 2, .cw 1 2, .ccw 1 1, .cw 1 1, .ccw 1 0, .cw 1 0, .ccw 0 3, .cw 0 3, .ccw 0 2, .cw 0 2, .ccw 0 1, .cw 0 1, .ccw 0 0, .cw 0 0] ∗ tick (F := F) c c ∗ sepL (oTo (F := F) c) all8 ∗ R)
      ⊢ WP c (do
          let ⟨v1414, v1424, v1425⟩ : Σ' (v1414 : BitVec 32) (v1424 : BitVec 32), BitVec 32 ← (at0 (k0_part51 (F := F))) c v2 v1373 (acc' m c [.cw 2 3, .ch 3, .ccw 2 2, .cw 2 2, .ch 2, .ccw 2 1, .cw 2 1, .ch 1, .ccw 2 0, .cw 2 0, .ch 0, .ccw 1 3, .cw 1 3, .ccw 1 2, .cw 1 2, .ccw 1 1, .cw 1 1, .ccw 1 0, .cw 1 0, .ccw 0 3, .cw 0 3, .ccw 0 2, .cw 0 2, .ccw 0 1, .cw 0 1, .ccw 0 0, .cw 0 0])
          let ⟨v1434, v1444, v1454⟩ : Σ' (v1434 : BitVec 32) (v1444 : BitVec 32), BitVec 32 ← (at0 (k0_part52 (F := F))) c v2 v1425
          let ⟨v1464, v1474, v1487⟩ : Σ' (v1464 : BitVec 32) (v1474 : BitVec 32), BitVec 32 ← (at0 (k0_part53 (F := F))) c v2 v1414
          (at0 (k0_part54 (F := F))) c v1424 v1434 v1487
          (at0 (k0_part55 (F := F))) c v1444 v1454 v1464
          let p ← (at0 (k0_part56 (F := F))) c v1474
          k p) Q := by
  rw [k0_part51_eq_skeleton]; unfold k0_part51_skel
  simp only [at0, bind_if, semSignalWord, semWaitWord, Prog.lift, Prog.bind, Prog.bind_op, Prog.bind_ret, Prog.pure_eq_ret]
  refine load_ccw m K c 2 3 (by simp [hx]) ?_
  refine load_wb m K c ?_
  refine load_outR m K c fun _ => ?_
  refine store_mm m K c (.ccw 2 3) (off3_eq c 2 3 (by decide) (by decide)) rfl ?_
  refine st_ready m K c ?_
  refine am_dead m K c (off5_eq c) fun _ => ?_
  refine am_store m K c (off5_eq c) rfl ?_
  refine st_rows m K c ?_
  apply send_am m K c 0 (am_eq c (off6_eq c)) (am_eq c (off6_eq c)) (n := ⟨k0_dev36 c, k0_dev36_lt c⟩) ((by decide : ∀ c : Dev nD, (⟨k0_dev36 c, k0_dev36_lt c⟩ : Dev nD) = plus 1 c) c)
  rw [k0_part52_eq_skeleton]; unfold k0_part52_skel
  simp only [at0, bind_if, semSignalWord, semWaitWord, Prog.lift, Prog.bind, Prog.bind_op, Prog.bind_ret, Prog.pure_eq_ret]
  apply send_am m K c 1 (am_eq c (off6_eq c)) (am_eq c (off6_eq c)) (n := ⟨k0_dev37 c, k0_dev37_lt c⟩) ((by decide : ∀ c : Dev nD, (⟨k0_dev37 c, k0_dev37_lt c⟩ : Dev nD) = plus 2 c) c)
  apply send_am m K c 2 (am_eq c (off6_eq c)) (am_eq c (off6_eq c)) (n := ⟨k0_dev38 c, k0_dev38_lt c⟩) ((by decide : ∀ c : Dev nD, (⟨k0_dev38 c, k0_dev38_lt c⟩ : Dev nD) = plus 3 c) c)
  apply send_am m K c 3 (am_eq c (off6_eq c)) (am_eq c (off6_eq c)) (n := ⟨k0_dev39 c, k0_dev39_lt c⟩) ((by decide : ∀ c : Dev nD, (⟨k0_dev39 c, k0_dev39_lt c⟩ : Dev nD) = plus 4 c) c)
  rw [k0_part53_eq_skeleton]; unfold k0_part53_skel
  simp only [at0, bind_if, semSignalWord, semWaitWord, Prog.lift, Prog.bind, Prog.bind_op, Prog.bind_ret, Prog.pure_eq_ret]
  apply send_am m K c 4 (am_eq c (off6_eq c)) (am_eq c (off6_eq c)) (n := ⟨k0_dev40 c, k0_dev40_lt c⟩) ((by decide : ∀ c : Dev nD, (⟨k0_dev40 c, k0_dev40_lt c⟩ : Dev nD) = plus 5 c) c)
  apply send_am m K c 5 (am_eq c (off6_eq c)) (am_eq c (off6_eq c)) (n := ⟨k0_dev41 c, k0_dev41_lt c⟩) ((by decide : ∀ c : Dev nD, (⟨k0_dev41 c, k0_dev41_lt c⟩ : Dev nD) = plus 6 c) c)
  apply send_am m K c 6 (am_eq c (off6_eq c)) (am_eq c (off6_eq c)) (n := ⟨k0_dev42 c, k0_dev42_lt c⟩) ((by decide : ∀ c : Dev nD, (⟨k0_dev42 c, k0_dev42_lt c⟩ : Dev nD) = plus 7 c) c)
  refine st_sent m K c ?_
  refine wait_sam m K c 0 (cr_am' c (am_eq c (off6_eq c))) ?_
  rw [k0_part54_eq_skeleton]; unfold k0_part54_skel
  simp only [at0, bind_if, semSignalWord, semWaitWord, Prog.lift, Prog.bind, Prog.bind_op, Prog.bind_ret, Prog.pure_eq_ret]
  refine wait_am m K c 0 (cr_am' c (am_eq c (off6_eq c))) ?_
  refine wait_sam m K c 1 (cr_am' c (am_eq c (off6_eq c))) ?_
  refine wait_am m K c 1 (cr_am' c (am_eq c (off6_eq c))) ?_
  refine wait_sam m K c 2 (cr_am' c (am_eq c (off6_eq c))) ?_
  refine wait_am m K c 2 (cr_am' c (am_eq c (off6_eq c))) ?_
  rw [k0_part55_eq_skeleton]; unfold k0_part55_skel
  simp only [at0, bind_if, semSignalWord, semWaitWord, Prog.lift, Prog.bind, Prog.bind_op, Prog.bind_ret, Prog.pure_eq_ret]
  refine wait_sam m K c 3 (cr_am' c (am_eq c (off6_eq c))) ?_
  refine wait_am m K c 3 (cr_am' c (am_eq c (off6_eq c))) ?_
  refine wait_sam m K c 4 (cr_am' c (am_eq c (off6_eq c))) ?_
  refine wait_am m K c 4 (cr_am' c (am_eq c (off6_eq c))) ?_
  refine wait_sam m K c 5 (cr_am' c (am_eq c (off6_eq c))) ?_
  rw [k0_part56_eq_skeleton]; unfold k0_part56_skel
  simp only [at0, bind_if, semSignalWord, semWaitWord, Prog.lift, Prog.bind, Prog.bind_op, Prog.bind_ret, Prog.pure_eq_ret]
  refine wait_am m K c 5 (cr_am' c (am_eq c (off6_eq c))) ?_
  refine wait_sam m K c 6 (cr_am' c (am_eq c (off6_eq c))) ?_
  refine wait_am m K c 6 (cr_am' c (am_eq c (off6_eq c))) ?_
  refine am_load m K c ?_
  refine st_amF m K c ?_
  refine o_load m K c 0 ?_
  refine o_dead m K c 0 fun _ => ?_
  refine o_store m K c 0 rfl ?_
  exact hk

end Cert.KernelIdealProof
-- ==== Proof.KIC6.lean ====
/-
The result goes out and the departures are waited for.
-/
module

public import proofs.«01_k».proof.Proof.KIC5

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

attribute [local irreducible] k0_cond1 k0_cond2 k0_cond3 k0_cond4 k0_cond5 k0_cond6 k0_cond7 k0_cond8
variable (m : (ℓ : Loc nD τ sig) → Buf (Elt F) ℓ) (K : Dev nD × Option (Fin 80) → ℕ)
variable {l r s : List Msg} {d : List (DmaSem sig)} {g : List Pc} {R : sProp (MT nD τ sig Unit (Elt F) ℕ UU ℕ)}
variable {α : Type} {Q : α → sProp (MT nD τ sig Unit (Elt F) ℕ UU ℕ)}

/-! ## The result goes out -/

set_option maxHeartbeats 4000000 in
theorem rest57 (c : Dev nD) {k : PUnit → Prog (TpuEff nD τ sig (Elt F) Λ₀ .tc) α}
    (hk : ST m K c l r s (sO 3 :: sO 2 :: sO 1 :: sO 0 :: d) g (oSt m c [] [] [4, 5, 6, 7] [3, 2, 1, 0] R) ⊢ WP c (k ⟨⟩) Q) :
    ST m K c l r s d g (oSt m c [1, 2, 3, 4, 5, 6, 7] [0] [] [] R)
      ⊢ WP c (do
          (at0 (k0_part57 (F := F))) (k0_pay114 (amx m)) (k0_pay115 (amx m))
          let v1638 : FVec F S512x1024 .f32 ← (at0 (k0_part58 (F := F))) (k0_pay114 (amx m)) (k0_pay115 (amx m))
          let v1672 : FVec F S512x1024 .f32 ← (at0 (k0_part59 (F := F))) (k0_pay114 (amx m)) (k0_pay115 (amx m)) v1638
          let p ← (at0 (k0_part60 (F := F))) v1672
          k p) Q := by
  rw [k0_part57_eq_skeleton]; unfold k0_part57_skel
  simp only [at0, bind_if, semSignalWord, semWaitWord, Prog.lift, Prog.bind, Prog.bind_op, Prog.bind_ret, Prog.pure_eq_ret]
  refine o_start m K c 0 ?_
  refine o_load m K c 1 ?_
  refine o_dead m K c 1 fun _ => ?_
  refine o_store m K c 1 rfl ?_
  refine o_start m K c 1 ?_
  refine o_load m K c 2 ?_
  refine o_dead m K c 2 fun _ => ?_
  refine o_store m K c 2 rfl ?_
  refine o_start m K c 2 ?_
  rw [k0_part58_eq_skeleton]; unfold k0_part58_skel
  simp only [at0, bind_if, semSignalWord, semWaitWord, Prog.lift, Prog.bind, Prog.bind_op, Prog.bind_ret, Prog.pure_eq_ret]
  refine o_load m K c 3 ?_
  refine o_dead m K c 3 fun _ => ?_
  refine o_store m K c 3 rfl ?_
  refine o_start m K c 3 ?_
  refine o_load m K c 4 ?_
  refine o_dead m K c 4 fun _ => ?_
  refine o_store m K c 4 rfl ?_
  refine o_start m K c 4 ?_
  refine o_load m K c 5 ?_
  rw [k0_part59_eq_skeleton]; unfold k0_part59_skel
  simp only [at0, bind_if, semSignalWord, semWaitWord, Prog.lift, Prog.bind, Prog.bind_op, Prog.bind_ret, Prog.pure_eq_ret]
  refine o_dead m K c 5 fun _ => ?_
  refine o_store m K c 5 rfl ?_
  refine o_start m K c 5 ?_
  refine o_load m K c 6 ?_
  refine o_dead m K c 6 fun _ => ?_
  refine o_store m K c 6 rfl ?_
  refine o_start m K c 6 ?_
  refine o_load m K c 7 ?_
  rw [k0_part60_eq_skeleton]; unfold k0_part60_skel
  simp only [at0, bind_if, semSignalWord, semWaitWord, Prog.lift, Prog.bind, Prog.bind_op, Prog.bind_ret, Prog.pure_eq_ret]
  refine o_dead m K c 7 fun _ => ?_
  refine o_store m K c 7 rfl ?_
  refine o_start m K c 7 ?_
  refine o_wait m K c 0 ?_
  refine o_wait m K c 1 ?_
  refine o_wait m K c 2 ?_
  refine o_wait m K c 3 ?_
  exact hk

/-! ## The departures are waited for -/

set_option maxHeartbeats 4000000 in
theorem rest61 (c : Dev nD) {k : PUnit → Prog (TpuEff nD τ sig (Elt F) Λ₀ .tc) α}
    (hk : ST m K c l r s (sS (.ch 1) :: sS (.ch 0) :: sS (.ccw 2 3) :: sS (.ccw 2 2) :: sS (.ccw 2 1) :: sS (.ccw 2 0) :: sS (.ccw 1 3) :: sS (.ccw 1 2) :: sS (.ccw 1 1) :: sS (.ccw 1 0) :: sS (.ccw 0 3) :: sS (.ccw 0 2) :: sS (.ccw 0 1) :: sS (.ccw 0 0) :: sS (.cw 2 3) :: sS (.cw 2 2) :: sS (.cw 2 1) :: sS (.cw 2 0) :: sS (.cw 1 3) :: sS (.cw 1 2) :: sS (.cw 1 1) :: sS (.cw 1 0) :: sS (.cw 0 3) :: sS (.cw 0 2) :: sS (.cw 0 1) :: sS (.cw 0 0) :: sO 7 :: sO 6 :: sO 5 :: sO 4 :: d) (src c (.ch 1) :: src c (.ch 0) :: src c (.ccw 2 3) :: src c (.ccw 2 2) :: src c (.ccw 2 1) :: src c (.ccw 2 0) :: src c (.ccw 1 3) :: src c (.ccw 1 2) :: src c (.ccw 1 1) :: src c (.ccw 1 0) :: src c (.ccw 0 3) :: src c (.ccw 0 2) :: src c (.ccw 0 1) :: src c (.ccw 0 0) :: src c (.cw 2 3) :: src c (.cw 2 2) :: src c (.cw 2 1) :: src c (.cw 2 0) :: src c (.cw 1 3) :: src c (.cw 1 2) :: src c (.cw 1 1) :: src c (.cw 1 0) :: src c (.cw 0 3) :: src c (.cw 0 2) :: src c (.cw 0 1) :: src c (.cw 0 0) :: g) (oSt m c [] [] [] [7, 6, 5, 4, 3, 2, 1, 0] R) ⊢ WP c (k ⟨⟩) Q) :
    ST m K c l r (.cw 0 0 :: .cw 0 1 :: .cw 0 2 :: .cw 0 3 :: .cw 1 0 :: .cw 1 1 :: .cw 1 2 :: .cw 1 3 :: .cw 2 0 :: .cw 2 1 :: .cw 2 2 :: .cw 2 3 :: .ccw 0 0 :: .ccw 0 1 :: .ccw 0 2 :: .ccw 0 3 :: .ccw 1 0 :: .ccw 1 1 :: .ccw 1 2 :: .ccw 1 3 :: .ccw 2 0 :: .ccw 2 1 :: .ccw 2 2 :: .ccw 2 3 :: .ch 0 :: .ch 1 :: s) d g (oSt m c [] [] [4, 5, 6, 7] [3, 2, 1, 0] R)
      ⊢ WP c (do
          (at0 (k0_part61 (F := F)))
          (at0 (k0_part62 (F := F)))
          (at0 (k0_part63 (F := F)))
          (at0 (k0_part64 (F := F)))
          (at0 (k0_part65 (F := F)))
          (at0 (k0_part66 (F := F)))
          (at0 (k0_part67 (F := F)))
          (at0 (k0_part68 (F := F)))
          let p ← (at0 (k0_part69 (F := F)))
          k p) Q := by
  rw [k0_part61_eq_skeleton]; unfold k0_part61_skel
  simp only [at0, bind_if, semSignalWord, semWaitWord, Prog.lift, Prog.bind, Prog.bind_op, Prog.bind_ret, Prog.pure_eq_ret]
  refine o_wait m K c 4 ?_
  refine o_wait m K c 5 ?_
  refine o_wait m K c 6 ?_
  refine o_wait m K c 7 ?_
  refine wait_scw m K c 0 0 (cr_x 0) ?_
  rw [k0_part62_eq_skeleton]; unfold k0_part62_skel
  simp only [at0, bind_if, semSignalWord, semWaitWord, Prog.lift, Prog.bind, Prog.bind_op, Prog.bind_ret, Prog.pure_eq_ret]
  refine wait_scw m K c 0 1 (cr_x 1) ?_
  refine wait_scw m K c 0 2 (cr_x 2) ?_
  refine wait_scw m K c 0 3 (cr_x 3) ?_
  rw [k0_part63_eq_skeleton]; unfold k0_part63_skel
  simp only [at0, bind_if, semSignalWord, semWaitWord, Prog.lift, Prog.bind, Prog.bind_op, Prog.bind_ret, Prog.pure_eq_ret]
  refine wait_scw m K c 1 0 (cr_cw 0 0) ?_
  refine wait_scw m K c 1 1 (cr_cw 0 1) ?_
  refine wait_scw m K c 1 2 (cr_cw 0 2) ?_
  rw [k0_part64_eq_skeleton]; unfold k0_part64_skel
  simp only [at0, bind_if, semSignalWord, semWaitWord, Prog.lift, Prog.bind, Prog.bind_op, Prog.bind_ret, Prog.pure_eq_ret]
  refine wait_scw m K c 1 3 (cr_cw 0 3) ?_
  refine wait_scw m K c 2 0 (cr_cw 1 0) ?_
  refine wait_scw m K c 2 1 (cr_cw 1 1) ?_
  rw [k0_part65_eq_skeleton]; unfold k0_part65_skel
  simp only [at0, bind_if, semSignalWord, semWaitWord, Prog.lift, Prog.bind, Prog.bind_op, Prog.bind_ret, Prog.pure_eq_ret]
  refine wait_scw m K c 2 2 (cr_cw 1 2) ?_
  refine wait_scw m K c 2 3 (cr_cw 1 3) ?_
  refine wait_sccw m K c 0 0 (cr_x 0) ?_
  refine wait_sccw m K c 0 1 (cr_x 1) ?_
  rw [k0_part66_eq_skeleton]; unfold k0_part66_skel
  simp only [at0, bind_if, semSignalWord, semWaitWord, Prog.lift, Prog.bind, Prog.bind_op, Prog.bind_ret, Prog.pure_eq_ret]
  refine wait_sccw m K c 0 2 (cr_x 2) ?_
  refine wait_sccw m K c 0 3 (cr_x 3) ?_
  refine wait_sccw m K c 1 0 (cr_ccw 0 0) ?_
  rw [k0_part67_eq_skeleton]; unfold k0_part67_skel
  simp only [at0, bind_if, semSignalWord, semWaitWord, Prog.lift, Prog.bind, Prog.bind_op, Prog.bind_ret, Prog.pure_eq_ret]
  refine wait_sccw m K c 1 1 (cr_ccw 0 1) ?_
  refine wait_sccw m K c 1 2 (cr_ccw 0 2) ?_
  refine wait_sccw m K c 1 3 (cr_ccw 0 3) ?_
  rw [k0_part68_eq_skeleton]; unfold k0_part68_skel
  simp only [at0, bind_if, semSignalWord, semWaitWord, Prog.lift, Prog.bind, Prog.bind_op, Prog.bind_ret, Prog.pure_eq_ret]
  refine wait_sccw m K c 2 0 (cr_ccw 1 0) ?_
  refine wait_sccw m K c 2 1 (cr_ccw 1 1) ?_
  refine wait_sccw m K c 2 2 (cr_ccw 1 2) ?_
  rw [k0_part69_eq_skeleton]; unfold k0_part69_skel
  simp only [at0, bind_if, semSignalWord, semWaitWord, Prog.lift, Prog.bind, Prog.bind_op, Prog.bind_ret, Prog.pure_eq_ret]
  refine wait_sccw m K c 2 3 (cr_ccw 1 3) ?_
  refine wait_sch m K c 0 (cr_cw 0 0) ?_
  refine wait_sch m K c 1 (cr_cw 0 1) ?_
  exact hk

end Cert.KernelIdealProof
-- ==== Proof.KIPcs.lean ====
/-
The pieces of memory a device holds at the stages of its body, and how they turn into one another.
-/
module

public import proofs.«01_k».proof.Proof.KIC6

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Option (Fin 80) → ℕ)
variable {R : sProp (MT nD τ sig Unit (Elt F) ℕ UU ℕ)}
variable {α : Type} {Q : α → sProp (MT nD τ sig Unit (Elt F) ℕ UU ℕ)}

/-! ## Pieces at the stages of the body -/

/-- The pieces a device starts from. -/
abbrev gStart : List Pc := [.xs 1 0, .bg (.cw 0 0), .xs 1 1, .bg (.cw 0 1), .xs 1 2, .bg (.cw 0 2), .xs 1 3, .bg (.cw 0 3), .xs 2 0, .bg (.ccw 0 0), .xs 2 1, .bg (.ccw 0 1), .xs 2 2, .bg (.ccw 0 2), .xs 2 3, .bg (.ccw 0 3), .xa]
/-- The first quarters' rows of maxima. -/
abbrev gTk : List Pc := [.tk (.cw 0 0), .tk (.cw 1 0), .tk (.cw 2 0), .tk (.ccw 0 0), .tk (.ccw 1 0), .tk (.ccw 2 0), .tk (.ch 0)]
abbrev gAm : List Pc := [.bg (.am 0), .bg (.am 1), .bg (.am 2), .bg (.am 3), .bg (.am 4), .bg (.am 5), .bg (.am 6)]
/-- The other pieces held once everything arrived. -/
abbrev gMid : List Pc := [.tk (.ccw 2 3), .tk (.cw 2 3), .tk (.ch 3), .tk (.ccw 2 2), .tk (.cw 2 2), .tk (.ch 2), .tk (.ccw 2 1), .tk (.cw 2 1), .tk (.ch 1), .tk (.ccw 1 3), .tk (.cw 1 3), .tk (.ccw 1 2), .tk (.cw 1 2), .tk (.ccw 1 1), .tk (.cw 1 1), .tk (.ccw 0 3), .tk (.cw 0 3), .tk (.ccw 0 2), .tk (.cw 0 2), .tk (.ccw 0 1), .tk (.cw 0 1), .sl 0 (.ccw 2 3), .sl 1 (.ccw 2 3), .sl 2 (.ccw 2 3), .sl 0 (.cw 2 3), .sl 1 (.cw 2 3), .sl 2 (.cw 2 3), .sl 0 (.ch 3), .sl 1 (.ch 3), .sl 2 (.ch 3), .sl 0 (.ccw 2 2), .sl 1 (.ccw 2 2), .sl 2 (.ccw 2 2), .sl 0 (.cw 2 2), .sl 1 (.cw 2 2), .sl 2 (.cw 2 2), .sl 0 (.ch 2), .sl 1 (.ch 2), .sl 2 (.ch 2), .sl 0 (.ccw 2 1), .sl 1 (.ccw 2 1), .sl 2 (.ccw 2 1), .sl 0 (.cw 2 1), .sl 1 (.cw 2 1), .sl 2 (.cw 2 1), .sl 0 (.ch 1), .sl 1 (.ch 1), .sl 2 (.ch 1), .sl 0 (.ccw 2 0), .sl 1 (.ccw 2 0), .sl 2 (.ccw 2 0), .sl 0 (.cw 2 0), .sl 1 (.cw 2 0), .sl 2 (.cw 2 0), .sl 0 (.ch 0), .sl 1 (.ch 0), .sl 2 (.ch 0), .sl 0 (.ccw 1 3), .sl 2 (.ccw 1 3), .sl 0 (.cw 1 3), .sl 2 (.cw 1 3), .sl 0 (.ccw 1 2), .sl 2 (.ccw 1 2), .sl 0 (.cw 1 2), .sl 2 (.cw 1 2), .sl 0 (.ccw 1 1), .sl 2 (.ccw 1 1), .sl 0 (.cw 1 1), .sl 2 (.cw 1 1), .sl 0 (.ccw 1 0), .sl 2 (.ccw 1 0), .sl 0 (.cw 1 0), .sl 2 (.cw 1 0), .sl 0 (.ccw 0 3), .rs 3, .sl 0 (.cw 0 3), .sl 0 (.ccw 0 2), .rs 2, .sl 0 (.cw 0 2), .sl 0 (.ccw 0 1), .rs 1, .sl 0 (.cw 0 1), .sl 0 (.ccw 0 0), .rs 0, .sl 0 (.cw 0 0), .xa]
/-- The slots, each in its three shares, and the rows of `x`: all that is held at the end. -/
abbrev gEnd : List Pc := [.sl 0 (.cw 0 0), .sl 1 (.cw 0 0), .sl 2 (.cw 0 0), .sl 0 (.cw 0 1), .sl 1 (.cw 0 1), .sl 2 (.cw 0 1), .sl 0 (.cw 0 2), .sl 1 (.cw 0 2), .sl 2 (.cw 0 2), .sl 0 (.cw 0 3), .sl 1 (.cw 0 3), .sl 2 (.cw 0 3), .sl 0 (.cw 1 0), .sl 1 (.cw 1 0), .sl 2 (.cw 1 0), .sl 0 (.cw 1 1), .sl 1 (.cw 1 1), .sl 2 (.cw 1 1), .sl 0 (.cw 1 2), .sl 1 (.cw 1 2), .sl 2 (.cw 1 2), .sl 0 (.cw 1 3), .sl 1 (.cw 1 3), .sl 2 (.cw 1 3), .sl 0 (.cw 2 0), .sl 1 (.cw 2 0), .sl 2 (.cw 2 0), .sl 0 (.cw 2 1), .sl 1 (.cw 2 1), .sl 2 (.cw 2 1), .sl 0 (.cw 2 2), .sl 1 (.cw 2 2), .sl 2 (.cw 2 2), .sl 0 (.cw 2 3), .sl 1 (.cw 2 3), .sl 2 (.cw 2 3), .sl 0 (.ccw 0 0), .sl 1 (.ccw 0 0), .sl 2 (.ccw 0 0), .sl 0 (.ccw 0 1), .sl 1 (.ccw 0 1), .sl 2 (.ccw 0 1), .sl 0 (.ccw 0 2), .sl 1 (.ccw 0 2), .sl 2 (.ccw 0 2), .sl 0 (.ccw 0 3), .sl 1 (.ccw 0 3), .sl 2 (.ccw 0 3), .sl 0 (.ccw 1 0), .sl 1 (.ccw 1 0), .sl 2 (.ccw 1 0), .sl 0 (.ccw 1 1), .sl 1 (.ccw 1 1), .sl 2 (.ccw 1 1), .sl 0 (.ccw 1 2), .sl 1 (.ccw 1 2), .sl 2 (.ccw 1 2), .sl 0 (.ccw 1 3), .sl 1 (.ccw 1 3), .sl 2 (.ccw 1 3), .sl 0 (.ccw 2 0), .sl 1 (.ccw 2 0), .sl 2 (.ccw 2 0), .sl 0 (.ccw 2 1), .sl 1 (.ccw 2 1), .sl 2 (.ccw 2 1), .sl 0 (.ccw 2 2), .sl 1 (.ccw 2 2), .sl 2 (.ccw 2 2), .sl 0 (.ccw 2 3), .sl 1 (.ccw 2 3), .sl 2 (.ccw 2 3), .sl 0 (.ch 0), .sl 1 (.ch 0), .sl 2 (.ch 0), .sl 0 (.ch 1), .sl 1 (.ch 1), .sl 2 (.ch 1), .sl 0 (.ch 2), .sl 1 (.ch 2), .sl 2 (.ch 2), .sl 0 (.ch 3), .sl 1 (.ch 3), .sl 2 (.ch 3), .xs 1 0, .xs 1 1, .xs 1 2, .xs 1 3, .xs 2 0, .xs 2 1, .xs 2 2, .xs 2 3, .xa]

theorem mid_perm : (gq2 3 (gq2 2 (gq2 1 (gq2 0 (gq1 3 (gq1 2 (gq1 1 (gq1 0 (gq0 3 (gq0 2 (gq0 1 (gq0 0 [.xa])))))))))))).Perm (gTk ++ gMid) := by decide

/-- The semaphores done with at the end. -/
abbrev dEnd : List (DmaSem sig) := sS (.ch 3) :: sS (.ch 2) :: sS (.ch 1) :: sS (.ch 0) :: sS (.ccw 2 3) :: sS (.ccw 2 2) :: sS (.ccw 2 1) :: sS (.ccw 2 0) :: sS (.ccw 1 3) :: sS (.ccw 1 2) :: sS (.ccw 1 1) :: sS (.ccw 1 0) :: sS (.ccw 0 3) :: sS (.ccw 0 2) :: sS (.ccw 0 1) :: sS (.ccw 0 0) :: sS (.cw 2 3) :: sS (.cw 2 2) :: sS (.cw 2 1) :: sS (.cw 2 0) :: sS (.cw 1 3) :: sS (.cw 1 2) :: sS (.cw 1 1) :: sS (.cw 1 0) :: sS (.cw 0 3) :: sS (.cw 0 2) :: sS (.cw 0 1) :: sS (.cw 0 0) :: sO 7 :: sO 6 :: sO 5 :: sO 4 :: sO 3 :: sO 2 :: sO 1 :: sO 0 :: dam (dq2 3 (dq2 2 (dq2 1 (dq2 0 (dq1 3 (dq1 2 (dq1 1 (dq1 0 (dq0 3 (dq0 2 (dq0 1 (dq0 0 [sW 0, sW 1]))))))))))))

/-- The rows the first quarters brought are those the device is to write. -/
theorem tk_bg (c : Dev nD) : sepL (pcP m c) gTk ⊢ sepL (pcP m c) gAm := by
  have hp : [org (.cw 0 0) c, org (.cw 1 0) c, org (.cw 2 0) c, org (.ccw 0 0) c, org (.ccw 1 0) c, org (.ccw 2 0) c, org (.ch 0) c].Perm
      [tgt (.am 0) c, tgt (.am 1) c, tgt (.am 2) c, tgt (.am 3) c, tgt (.am 4) c, tgt (.am 5) c, tgt (.am 6) c] := by
    revert c; decide
  exact sepL_perm (fun p : Dev nD => tick (F := F) p c) hp

/-- What did not go across the ring and what came back from it: the third shares of the first hops' slots. -/
theorem rs_fix (c : Dev nD) (q : Fin 4) : iprop(pcP m c (.rs q) ∗ pcP m c (src c (.ch q))) ⊢ iprop(pcP m c (.sl 2 (.cw 0 q)) ∗ pcP m c (.sl 2 (.ccw 0 q))) := by
  cases h : ev c
  · simp only [pcP, src, h, Bool.false_eq_true, if_false]
    exact BI.Entails.refl _
  · simp only [pcP, src, h, if_true]
    iintro ⟨H1, H2⟩
    isplitl [H2] <;> iassumption

/-- The pieces the waits brought back, last first; and the groupings in between. -/
abbrev gSrc : List Pc := [.sl 1 (.ccw 1 3), .sl 1 (.ccw 1 2), .sl 1 (.ccw 1 1), .sl 1 (.ccw 1 0), .sl 1 (.ccw 0 3), .sl 1 (.ccw 0 2), .sl 1 (.ccw 0 1), .sl 1 (.ccw 0 0), .xs 2 3, .xs 2 2, .xs 2 1, .xs 2 0, .sl 1 (.cw 1 3), .sl 1 (.cw 1 2), .sl 1 (.cw 1 1), .sl 1 (.cw 1 0), .sl 1 (.cw 0 3), .sl 1 (.cw 0 2), .sl 1 (.cw 0 1), .sl 1 (.cw 0 0), .xs 1 3, .xs 1 2, .xs 1 1, .xs 1 0]
abbrev gRs : List Pc := [.rs 0, .rs 1, .rs 2, .rs 3]
abbrev gSl2 : List Pc := [.sl 2 (.cw 0 0), .sl 2 (.cw 0 1), .sl 2 (.cw 0 2), .sl 2 (.cw 0 3), .sl 2 (.ccw 0 0), .sl 2 (.ccw 0 1), .sl 2 (.ccw 0 2), .sl 2 (.ccw 0 3)]
abbrev gTkr : List Pc := [.tk (.ccw 2 3), .tk (.cw 2 3), .tk (.ch 3), .tk (.ccw 2 2), .tk (.cw 2 2), .tk (.ch 2), .tk (.ccw 2 1), .tk (.cw 2 1), .tk (.ch 1), .tk (.ccw 1 3), .tk (.cw 1 3), .tk (.ccw 1 2), .tk (.cw 1 2), .tk (.ccw 1 1), .tk (.cw 1 1), .tk (.ccw 0 3), .tk (.cw 0 3), .tk (.ccw 0 2), .tk (.cw 0 2), .tk (.ccw 0 1), .tk (.cw 0 1)]
abbrev gG2 : List Pc := [.sl 1 (.ccw 1 3), .sl 1 (.ccw 1 2), .sl 1 (.ccw 1 1), .sl 1 (.ccw 1 0), .sl 1 (.ccw 0 3), .sl 1 (.ccw 0 2), .sl 1 (.ccw 0 1), .sl 1 (.ccw 0 0), .xs 2 3, .xs 2 2, .xs 2 1, .xs 2 0, .sl 1 (.cw 1 3), .sl 1 (.cw 1 2), .sl 1 (.cw 1 1), .sl 1 (.cw 1 0), .sl 1 (.cw 0 3), .sl 1 (.cw 0 2), .sl 1 (.cw 0 1), .sl 1 (.cw 0 0), .xs 1 3, .xs 1 2, .xs 1 1, .xs 1 0, .sl 0 (.ccw 2 3), .sl 1 (.ccw 2 3), .sl 2 (.ccw 2 3), .sl 0 (.cw 2 3), .sl 1 (.cw 2 3), .sl 2 (.cw 2 3), .sl 0 (.ch 3), .sl 1 (.ch 3), .sl 2 (.ch 3), .sl 0 (.ccw 2 2), .sl 1 (.ccw 2 2), .sl 2 (.ccw 2 2), .sl 0 (.cw 2 2), .sl 1 (.cw 2 2), .sl 2 (.cw 2 2), .sl 0 (.ch 2), .sl 1 (.ch 2), .sl 2 (.ch 2), .sl 0 (.ccw 2 1), .sl 1 (.ccw 2 1), .sl 2 (.ccw 2 1), .sl 0 (.cw 2 1), .sl 1 (.cw 2 1), .sl 2 (.cw 2 1), .sl 0 (.ch 1), .sl 1 (.ch 1), .sl 2 (.ch 1), .sl 0 (.ccw 2 0), .sl 1 (.ccw 2 0), .sl 2 (.ccw 2 0), .sl 0 (.cw 2 0), .sl 1 (.cw 2 0), .sl 2 (.cw 2 0), .sl 0 (.ch 0), .sl 1 (.ch 0), .sl 2 (.ch 0), .sl 0 (.ccw 1 3), .sl 2 (.ccw 1 3), .sl 0 (.cw 1 3), .sl 2 (.cw 1 3), .sl 0 (.ccw 1 2), .sl 2 (.ccw 1 2), .sl 0 (.cw 1 2), .sl 2 (.cw 1 2), .sl 0 (.ccw 1 1), .sl 2 (.ccw 1 1), .sl 0 (.cw 1 1), .sl 2 (.cw 1 1), .sl 0 (.ccw 1 0), .sl 2 (.ccw 1 0), .sl 0 (.cw 1 0), .sl 2 (.cw 1 0), .sl 0 (.ccw 0 3), .sl 0 (.cw 0 3), .sl 0 (.ccw 0 2), .sl 0 (.cw 0 2), .sl 0 (.ccw 0 1), .sl 0 (.cw 0 1), .sl 0 (.ccw 0 0), .sl 0 (.cw 0 0), .xa, .tk (.ccw 2 3), .tk (.cw 2 3), .tk (.ch 3), .tk (.ccw 2 2), .tk (.cw 2 2), .tk (.ch 2), .tk (.ccw 2 1), .tk (.cw 2 1), .tk (.ch 1), .tk (.ccw 1 3), .tk (.cw 1 3), .tk (.ccw 1 2), .tk (.cw 1 2), .tk (.ccw 1 1), .tk (.cw 1 1), .tk (.ccw 0 3), .tk (.cw 0 3), .tk (.ccw 0 2), .tk (.cw 0 2), .tk (.ccw 0 1), .tk (.cw 0 1)]

theorem end_perm : (gSrc ++ gMid).Perm (gRs ++ gG2) := by decide
theorem end_perm' : (gSl2 ++ gG2).Perm (gTkr ++ gEnd) := by decide

theorem rs_all (c : Dev nD) : iprop(sepL (pcP m c) gRs ∗ pcP m c (src c (.ch 3)) ∗ pcP m c (src c (.ch 2)) ∗ pcP m c (src c (.ch 1)) ∗ pcP m c (src c (.ch 0))) ⊢ sepL (pcP m c) gSl2 := by
  simp only [sepL_cons]
  iintro ⟨⟨R0, R1, R2, R3, He⟩, H3, H2, H1, H0⟩
  ihave H0 := (rs_fix m c 0) $$ [R0 H0]
  · isplitl [R0] <;> iassumption
  ihave H1 := (rs_fix m c 1) $$ [R1 H1]
  · isplitl [R1] <;> iassumption
  ihave H2 := (rs_fix m c 2) $$ [R2 H2]
  · isplitl [R2] <;> iassumption
  ihave H3 := (rs_fix m c 3) $$ [R3 H3]
  · isplitl [R3] <;> iassumption
  icases H0 with ⟨A0, B0⟩
  icases H1 with ⟨A1, B1⟩
  icases H2 with ⟨A2, B2⟩
  icases H3 with ⟨A3, B3⟩
  isplitl [A0]; · iexact A0
  isplitl [A1]; · iexact A1
  isplitl [A2]; · iexact A2
  isplitl [A3]; · iexact A3
  isplitl [B0]; · iexact B0
  isplitl [B1]; · iexact B1
  isplitl [B2]; · iexact B2
  isplitl [B3]; · iexact B3
  iexact He

theorem end_pieces (c : Dev nD) : sepL (pcP m c) (src c (.ch 3) :: src c (.ch 2) :: src c (.ch 1) :: src c (.ch 0) :: (gSrc ++ gMid)) ⊢ sepL (pcP m c) gEnd := by
  rw [sepL_cons, sepL_cons, sepL_cons, sepL_cons]
  iintro ⟨H3, H2, H1, H0, H⟩
  ihave H := (sepL_perm (pcP m c) end_perm) $$ H
  ihave H := (sepL_split (pcP m c) gRs gG2) $$ H
  icases H with ⟨Hr, H⟩
  ihave Hr := (rs_all m c) $$ [Hr H3 H2 H1 H0]
  · isplitl [Hr]; · iexact Hr
    isplitl [H3]; · iexact H3
    isplitl [H2]; · iexact H2
    isplitl [H1] <;> iassumption
  ihave H := (sepL_join (pcP m c) gSl2 gG2) $$ [Hr H]
  · isplitl [Hr] <;> iassumption
  ihave H := (sepL_perm (pcP m c) end_perm') $$ H
  ihave H := (sepL_split (pcP m c) gTkr gEnd) $$ H
  icases H with ⟨-, H⟩
  iexact H

end Cert.KernelIdealProof
-- ==== Proof.KIBar.lean ====
/-
The barrier: each device hands its slots to the three devices that will write them.
-/
module

public import proofs.«01_k».proof.Proof.KICore

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Option (Fin 80) → ℕ)
variable {r : List Msg} {g : List Pc} {R : sProp (MT nD τ sig Unit (Elt F) ℕ UU ℕ)}
variable {α : Type} {Q : α → sProp (MT nD τ sig Unit (Elt F) ℕ UU ℕ)}

/-! ## The barrier -/

/-- The sum of what two devices' lists hold. -/
theorem sepL_sep {β : Type} (Φ Ψ : β → sProp 𝕄) (l : List β) : iprop(sepL Φ l ∗ sepL Ψ l) ⊢ sepL (fun a => iprop(Φ a ∗ Ψ a)) l := by
  induction l with
  | nil => iintro ⟨H, -⟩; iexact H
  | cons a l ih =>
    rw [sepL_cons, sepL_cons, sepL_cons]
    iintro ⟨⟨H1, H2⟩, H3, H4⟩
    isplitl [H1 H3]
    · isplitl [H1] <;> iassumption
    iapply ih
    isplitl [H2] <;> iassumption

/-- What sending a message takes, without its landing place. -/
def sndT (c : Dev nD) (M : Msg) : sProp 𝕄 :=
  iprop(dutyTok ER (dCell c (sS M)) 0 0 ∗ dutyTok ER (dCell (tgt M c) (sR M)) 0 0 ∗ atPos ER (dCell c (sS M)) 0 ∅ 0)

/-- Rows of maxima come later: their landing places are no part of this. -/
abbrev amAll : List Msg := [.am 0, .am 1, .am 2, .am 3, .am 4, .am 5, .am 6]

theorem order_perm : (cwAll ++ (ccwAll ++ (chAll ++ amAll))).Perm sendOrder := by decide

theorem snd_ready (c : Dev nD) : iprop(sepL (sndT (F := F) c) sendOrder ∗ barPay (F := F) c 0 ∗ barPay (F := F) c 1 ∗ barPay (F := F) c 2) ⊢ sepL (sndR (F := F) c) sendOrder := by
  have e0 : barPay (F := F) c 0 = sepL (fun M => dst (F := F) (tgt M c) M) cwAll := rfl
  have e1 : barPay (F := F) c 1 = sepL (fun M => dst (F := F) (tgt M c) M) ccwAll := rfl
  have e2 : barPay (F := F) c 2 = sepL (fun M => dst (F := F) (tgt M c) M) chAll := rfl
  have hd : iprop(barPay (F := F) c 0 ∗ barPay (F := F) c 1 ∗ barPay (F := F) c 2) ⊢ sepL (fun M => dst (F := F) (tgt M c) M) sendOrder := by
    refine BIBase.Entails.trans ?_ (sepL_perm _ order_perm)
    rw [e0, e1, e2]
    iintro ⟨H0, H1, H2⟩
    iapply (sepL_join _ _ _)
    isplitl [H0]; · iexact H0
    iapply (sepL_join _ _ _)
    isplitl [H1]; · iexact H1
    iapply (sepL_join _ _ _)
    isplitl [H2]; · iexact H2
    simp only [sepL, dst]
    isplitl; · iempintro
    isplitl; · iempintro
    isplitl; · iempintro
    isplitl; · iempintro
    isplitl; · iempintro
    isplitl; · iempintro
    isplitl; · iempintro
    iempintro
  have he : sepL (fun M => iprop(sndT (F := F) c M ∗ dst (F := F) (tgt M c) M)) sendOrder ⊢ sepL (sndR (F := F) c) sendOrder := by
    have : ∀ l : List Msg, sepL (fun M => iprop(sndT (F := F) c M ∗ dst (F := F) (tgt M c) M)) l ⊢ sepL (sndR (F := F) c) l := by
      intro l
      induction l with
      | nil => exact BI.Entails.refl _
      | cons a l ih =>
        rw [sepL_cons, sepL_cons]
        unfold sndT sndR
        iintro ⟨⟨⟨H1, H2, H3⟩, H4⟩, H⟩
        isplitl [H1 H2 H3 H4]
        · isplitl [H1]; · iexact H1
          isplitl [H2]; · iexact H2
          isplitl [H3] <;> iassumption
        iapply ih; iexact H
    exact this _
  iintro ⟨Ht, Hb⟩
  iapply he
  iapply (sepL_sep _ _ _)
  isplitl [Ht]; · iexact Ht
  iapply hd; iexact Hb

/-- What a device owes at launch: its messages' arrivals and its three signals. -/
def O₂ (c : Dev nD) : CellTallies nD τ sig Unit := Osum c sendOrder + tallyAt (barCell (pt c)) () 1
def O₁ (c : Dev nD) : CellTallies nD τ sig Unit := O₂ c + tallyAt (barCell (rt c)) () 1
def O₀ (c : Dev nD) : CellTallies nD τ sig Unit := O₁ c + tallyAt (barCell (lf c)) () 1

/-- A device's own slots, before anything landed. -/
def slots (c : Dev nD) : sProp 𝕄 := iprop(sepL (dst (F := F) c) cwAll ∗ sepL (dst (F := F) c) ccwAll ∗ sepL (dst (F := F) c) chAll)

/-- What the barrier takes: the three signals' duties, the place at the device's own, its credit, the slots. -/
def barT (c : Dev nD) : sProp 𝕄 :=
  iprop(dutyTok ER (barCell (lf c)) 0 0 ∗ dutyTok ER (barCell (rt c)) 0 1 ∗ dutyTok ER (barCell (pt c)) 0 2
    ∗ atPos ER (barCell c) 0 ∅ 0 ∗ cred (tallyAt (barCell c) () 3) ∗ slots (F := F) c)

theorem sepL_nil {β : Type} (Φ : β → sProp 𝕄) : sepL Φ [] = iprop(emp) := rfl

set_option maxHeartbeats 1000000 in
theorem bar_core (c : Dev nD) {n₁ n₂ n₃ : Dev nD} (h₁ : n₁ = lf c) (h₂ : n₂ = rt c) (h₃ : n₃ = pt c) {k : PUnit → Prog (TpuEff nD τ sig (Elt F) Λ₀ .tc) α}
    (hk : ST m K c sendOrder r [] [] g iprop(semVal (barCell c) 0 ∗ R) ⊢ WP c (k ⟨⟩) Q) :
    iprop(ctx m K ∗ (∃ W, owes (c : Thread nD τ) (O₀ c) W) ∗ sepL (sndT (F := F) c) sendOrder ∗ barT (F := F) c ∗ sepL (rcvR (F := F) c) r ∗ sepL (pcP m c) g ∗ R)
      ⊢ WP c (.op (.semSignal (n₁ : Thread nD τ) barS (1#32).toInt) fun _ => .op (.semSignal (n₂ : Thread nD τ) barS (1#32).toInt) fun _ =>
          .op (.semSignal (n₃ : Thread nD τ) barS (1#32).toInt) fun _ => .op (.semWait barS (3#32).toInt) k) Q := by
  subst h₁ h₂ h₃
  unfold barT slots
  iintro ⟨#Hc, ⟨%W, HO⟩, Hsnd, ⟨T0, T1, T2, Hat, Hcr, S0, S1, S2⟩, Hr, Hg, HR⟩
  ihave #IL := (ctx_bar m K (lf c)) $$ Hc
  ihave #IR := (ctx_bar m K (rt c)) $$ Hc
  ihave #IP := (ctx_bar m K (pt c)) $$ Hc
  ihave #IC := (ctx_bar m K c) $$ Hc
  icases IL with ⟨IL, RL⟩
  icases IR with ⟨IR, RR⟩
  icases IP with ⟨IP, RP⟩
  icases IC with ⟨IC, RC⟩
  iapply (Rounds.wp_signal 𝒱₀ ER (Rd m) (c : Thread nD τ) none (dst := (lf c : Thread nD τ)) (κ := K (lf c, none))
      (d := 0) (by rw [duties_bar]; exact Finset.mem_univ _) ((amount_bar m (lf c) 0).trans (by decide)) () (O₁ c) rfl) $$ [HO T0 S0]
  · isplitr; · iexact IL
    isplitl [HO]; · iexact HO
    isplitl [T0]; · iexact T0
    isplitl [S0]; · rw [payload_bar]; unfold barPay; dsimp only; rw [rt_lf]; iexact S0
    iexact RL
  iintro HO
  unfold O₁
  iapply (Rounds.wp_signal 𝒱₀ ER (Rd m) (c : Thread nD τ) none (dst := (rt c : Thread nD τ)) (κ := K (rt c, none))
      (d := 1) (by rw [duties_bar]; exact Finset.mem_univ _) ((amount_bar m (rt c) 1).trans (by decide)) () (O₂ c) rfl) $$ [HO T1 S1]
  · isplitr; · iexact IR
    isplitl [HO]; · iexact HO
    isplitl [T1]; · iexact T1
    isplitl [S1]; · rw [payload_bar]; unfold barPay; dsimp only; rw [lf_rt]; iexact S1
    iexact RR
  iintro HO
  unfold O₂
  iapply (Rounds.wp_signal 𝒱₀ ER (Rd m) (c : Thread nD τ) none (dst := (pt c : Thread nD τ)) (κ := K (pt c, none))
      (d := 2) (by rw [duties_bar]; exact Finset.mem_univ _) ((amount_bar m (pt c) 2).trans (by decide)) () (Osum c sendOrder) rfl) $$ [HO T2 S2]
  · isplitr; · iexact IP
    isplitl [HO]; · iexact HO
    isplitl [T2]; · iexact T2
    isplitl [S2]; · rw [payload_bar]; unfold barPay; dsimp only; rw [pt_pt]; iexact S2
    iexact RP
  iintro HO
  iapply (Rounds.wp_wait_rest_token 𝒱₀ ER (Rd m) (c : Thread nD τ) none (κ := K (c, none))
      (wpE_semWait_eq 𝒱₀ (c : Thread nD τ) none Set.univ) (Set.mem_univ _) () (O := Osum c sendOrder) (W := W) (R := 0) (m := 0) (T := ∅)
      (by rw [expect_bar]; decide)) $$ [Hcr HO Hat]
  · isplitr; · iexact IC
    isplitl [Hcr]; · iexact Hcr
    isplitl [HO]; · iexact HO
    isplitr; · iapply (mayWait_bar c sendOrder); iapply (ctx_lev m K); iexact Hc
    iexact Hat
  iintro ⟨HO, Hat, -, Hpay⟩
  ihave Hp := (Entails.of_eq (rest_bar m c)) $$ Hpay
  imod (Rounds.cell_close ER (Rd m) (Set.mem_univ (K (c, none))) (fun h => h) (R := 0 + 1) (later_bar m c)) $$ [Hat] with Hz
  · isplitr; · iexact IC
    iexact Hat
  iapply hk
  unfold ST
  isplitr; · iexact Hc
  isplitl [HO]; · iexists _; iexact HO
  isplitl [Hsnd Hp]
  · iapply (snd_ready c)
    isplitl [Hsnd] <;> iassumption
  isplitl [Hr]; · iexact Hr
  isplitr; · unfold sepL; iempintro
  isplitr; · unfold sepL; iempintro
  isplitl [Hg]; · iexact Hg
  isplitl [Hz] <;> iassumption

end Cert.KernelIdealProof
-- ==== Proof.KIChain.lean ====
/-
The body of the kernel, part after part.
-/
module

public import proofs.«01_k».proof.Proof.KIPcs
public import proofs.«01_k».proof.Proof.KIBar

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Option (Fin 80) → ℕ)
variable {R : sProp (MT nD τ sig Unit (Elt F) ℕ UU ℕ)}

theorem sent_perm : (sq1 3 (sq1 2 (sq1 1 (sq1 0 (sq0 3 (sq0 2 (sq0 1 (sq0 0 [.ccw 0 3, .ccw 0 2, .ccw 0 1, .ccw 0 0, .cw 0 3, .cw 0 2, .cw 0 1, .cw 0 0])))))))).Perm [.cw 0 0, .cw 0 1, .cw 0 2, .cw 0 3, .cw 1 0, .cw 1 1, .cw 1 2, .cw 1 3, .cw 2 0, .cw 2 1, .cw 2 2, .cw 2 3, .ccw 0 0, .ccw 0 1, .ccw 0 2, .ccw 0 3, .ccw 1 0, .ccw 1 1, .ccw 1 2, .ccw 1 3, .ccw 2 0, .ccw 2 1, .ccw 2 2, .ccw 2 3, .ch 0, .ch 1, .ch 2, .ch 3] := by decide

/-- From the state after the last wait to the pieces held at the end. -/
theorem chain_end (c : Dev nD) {d : List (DmaSem sig)} {Q : sProp (MT nD τ sig Unit (Elt F) ℕ UU ℕ)} (h : ST m K c [] [] [] d gEnd R ⊢ Q) :
    ST m K c [] [] [] d (src c (.ch 3) :: src c (.ch 2) :: src c (.ch 1) :: src c (.ch 0) :: (gSrc ++ gMid)) R ⊢ Q := by
  refine BIBase.Entails.trans ?_ h
  unfold ST
  iintro ⟨Hc, Ho, Hl, Hr, Hs, Hd, Hg, HR⟩
  isplitl [Hc]; · iexact Hc
  isplitl [Ho]; · iexact Ho
  isplitl [Hl]; · iexact Hl
  isplitl [Hr]; · iexact Hr
  isplitl [Hs]; · iexact Hs
  isplitl [Hd]; · iexact Hd
  isplitl [Hg]; · iapply (end_pieces m c); iexact Hg
  iexact HR

/-- The rows that came with the first quarters, ready to be sent to. -/
theorem chain_rows (c : Dev nD) {l r s : List Msg} {d : List (DmaSem sig)} {α : Type} {Q : α → sProp (MT nD τ sig Unit (Elt F) ℕ UU ℕ)} {p : Prog (TpuEff nD τ sig (Elt F) Λ₀ .tc) α}
    (h : ST m K c l r s d (.bg (.am 0) :: .bg (.am 1) :: .bg (.am 2) :: .bg (.am 3) :: .bg (.am 4) :: .bg (.am 5) :: .bg (.am 6) :: gMid) R ⊢ WP c p Q) :
    ST m K c l r s d (gq2 3 (gq2 2 (gq2 1 (gq2 0 (gq1 3 (gq1 2 (gq1 1 (gq1 0 (gq0 3 (gq0 2 (gq0 1 (gq0 0 [.xa])))))))))))) R ⊢ WP c p Q := by
  refine BIBase.Entails.trans (st_perm m K c (List.Perm.refl l) (List.Perm.refl r) (List.Perm.refl s) (List.Perm.refl d) mid_perm) ?_
  refine BIBase.Entails.trans (st_pieces m K c (g₁ := gTk) (g₂ := gAm) (R' := R) ?_) h
  iintro ⟨H, HR⟩
  isplitl [H]; · iapply (tk_bg m c); iexact H
  iexact HR

attribute [local irreducible] zOwn acc' k0_pay114 k0_pay115

variable {r : List Msg} {g : List Pc} {α : Type} {Q : α → sProp (MT nD τ sig Unit (Elt F) ℕ UU ℕ)}

set_option maxHeartbeats 40000000 in
/-- The barrier and the first two sends. -/
theorem rest1 (c : Dev nD) {k : (Σ' (d0 : Dev nD) (v2 : BitVec 32) (v5 : BitVec 32) (v10 : BitVec 32) (v16 : BitVec 32) (v18 : BitVec 1) (v24 : BitVec 32), Sems sig S_) → BitVec 32 → Prog (TpuEff nD τ sig (Elt F) Λ₀ .tc) α}
    (hk : ∀ v2 v5 v10 v16 v18 v24 v25 u, ST m K c (sendOrder.drop 2) r [.cw 0 1, .cw 0 0] [] g iprop(semVal (barCell c) 0 ∗ R) ⊢ WP c (k ⟨c, v2, v5, v10, v16, v18, v24, v25⟩ u) Q) :
    iprop(ctx m K ∗ (∃ W, owes (c : Thread nD τ) (O₀ c) W) ∗ sepL (sndT (F := F) c) sendOrder ∗ barT (F := F) c ∗ sepL (rcvR (F := F) c) r
      ∗ sepL (pcP m c) (.xs 1 0 :: .bg (.cw 0 0) :: .xs 1 1 :: .bg (.cw 0 1) :: g) ∗ R)
    ⊢ WP c (do
        let x : (Σ' (d0 : Dev nD) (v2 : BitVec 32) (v5 : BitVec 32) (v10 : BitVec 32) (v16 : BitVec 32) (v18 : BitVec 1) (v24 : BitVec 32), Sems sig S_) ← (at0 (k0_part1 (F := F)))
        let u : BitVec 32 ← (at0 (k0_part2 (F := F))) x.1 x.2.2.2.1 x.2.2.2.2.2.2.1 x.2.2.2.2.2.2.2
        k x u) Q := by
  rw [k0_part1_eq_skeleton]; unfold k0_part1_skel
  rw [k0_part2_eq_skeleton]; unfold k0_part2_skel
  simp only [at0, bind_assoc, semSignalWord, semWaitWord, Prog.lift, Prog.bind, Prog.bind_op, Prog.bind_ret, Prog.pure_eq_ret, wp_deviceId]
  refine bar_core m K c (dev1_lf c) (dev2_rt c) (dev3_pt c) ?_
  refine send_cw0 m K c 0 (nf := fun c => ⟨k0_dev4 c, k0_dev4_lt c⟩) (by decide) ?_
  refine send_cw0 m K c 1 (nf := fun c => ⟨k0_dev5 c, k0_dev5_lt c⟩) (by decide) ?_
  exact hk _ _ _ _ _ _ _ _

/-- What the messages' steps leave alone until the exchange of maxima. -/
def keepR (c : Dev nD) (R : sProp (MT nD τ sig Unit (Elt F) ℕ UU ℕ)) : sProp 𝕄 := iprop(OutI (F := F) c ∗ tick (F := F) c c ∗ sepL (oTo (F := F) c) all8 ∗ R)

/-- The weights' state with a piece added to what it keeps. -/
theorem wSt_keep (c : Dev nD) {A B S : sProp (MT nD τ sig Unit (Elt F) ℕ UU ℕ)} {bs ds : List (Fin 16)} {j : ℕ} : iprop(S ∗ wSt m c A B bs ds j (keepR c R)) ⊢ wSt m c A B bs ds j (keepR c iprop(S ∗ R)) := by
  unfold wSt keepR
  iintro ⟨HS, H1, H2, H3, H4, H5, H6, H7, H8, H9⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS] <;> iassumption

theorem keep_order (c : Dev nD) {A B : sProp (MT nD τ sig Unit (Elt F) ℕ UU ℕ)} : iprop(A ∗ B ∗ keepR c R) ⊢ iprop(A ∗ OutI (F := F) c ∗ (tick (F := F) c c ∗ sepL (oTo (F := F) c) all8 ∗ B ∗ R)) := by
  unfold keepR
  iintro ⟨HA, HB, H1, H2, H3, H4⟩
  isplitl [HA]; · iexact HA
  isplitl [H1]; · iexact H1
  isplitl [H2]; · iexact H2
  isplitl [H3]; · iexact H3
  isplitl [HB] <;> iassumption

attribute [local irreducible] k0_part1 k0_part2 k0_part3 k0_part4 k0_part5 k0_part6 k0_part7 k0_part8 k0_part9 k0_part10 k0_part11 k0_part12 k0_part13 k0_part14 k0_part15 k0_part16 k0_part17 k0_part18 k0_part19 k0_part20 k0_part21 k0_part22 k0_part23 k0_part24 k0_part25 k0_part26 k0_part27 k0_part28 k0_part29 k0_part30 k0_part31 k0_part32 k0_part33 k0_part34 k0_part35 k0_part36 k0_part37 k0_part38 k0_part39 k0_part40 k0_part41 k0_part42 k0_part43 k0_part44 k0_part45 k0_part46 k0_part47 k0_part48 k0_part49 k0_part50 k0_part51 k0_part52 k0_part53 k0_part54 k0_part55 k0_part56 k0_part57 k0_part58 k0_part59 k0_part60 k0_part61 k0_part62 k0_part63 k0_part64 k0_part65 k0_part66 k0_part67 k0_part68 k0_part69

set_option maxHeartbeats 4000000 in
/-- The whole body. -/
theorem chain (c : Dev nD) {Q : PUnit → sProp (MT nD τ sig Unit (Elt F) ℕ UU ℕ)}
    (hQ : ST m K c [] [] [] dEnd gEnd (oSt m c [] [] [] [7, 6, 5, 4, 3, 2, 1, 0] iprop(amF m c ∗ wbF m c ∗ wRest m c allW ∗ semVal (barCell c) 0 ∗ R)) ⊢ Q ⟨⟩) :
    iprop(ctx m K ∗ (∃ W, owes (c : Thread nD τ) (O₀ c) W) ∗ sepL (sndT (F := F) c) sendOrder ∗ barT (F := F) c ∗ sepL (rcvR (F := F) c) recvOrder ∗ sepL (pcP m c) gStart
      ∗ wSt m c (wFree (F := F) c 0 0) (wFree (F := F) c 1 0) [0, 1, 2, 3, 4, 5, 6, 7, 8, 9, 10, 11, 12, 13, 14, 15] [] 0 (keepR c R))
    ⊢ WP c (at0 (cc0_body (F := F))) Q := by
  rw [cc0_body_eq_skeleton]; unfold cc0_body_skel
  rw [k0_part70_eq_skeleton]; unfold k0_part70_skel
  simp only [at0, bind_assoc, Prog.lift, pure_bind]
  refine rest1 m K c (fun v2 v5 v10 v16 v18 v24 v25 u => ?_)
  refine BIBase.Entails.trans (st_rest m K c (wSt_keep m c)) ?_
  dsimp only
  refine rest3 m K c ?_
  refine BIBase.Entails.trans (st_rest m K c (keep_order c)) ?_
  refine rest15 m K c (fun x v => ?_)
  refine rest27 m K c (by simp) (fun v => ?_)
  refine rest39 m K c (by simp) (fun v => ?_)
  refine chain_rows m K c ?_
  refine rest51 m K c (by simp) ?_
  refine rest57 m K c ?_
  refine BIBase.Entails.trans (st_perm m K c (List.Perm.refl _) (List.Perm.refl _) sent_perm (List.Perm.refl _) (List.Perm.refl _)) ?_
  refine rest61 m K c ?_
  refine wait_sch m K c 2 (cr_cw 0 2) ?_
  refine wait_sch m K c 3 (cr_cw 0 3) ?_
  refine BIBase.Entails.trans (chain_end m K c hQ) ?_
  simp only [Prog.bind, Prog.bind_ret, Prog.pure_eq_ret, wp_ret]
  exact fupd_intro

end Cert.KernelIdealProof
-- ==== Proof.KIMemIO.lean ====
/-
The buffers a device's kernel starts from, cut into the pieces its messages carry, and put together again at the end.
-/
module

public import proofs.«01_k».proof.Proof.KIChain

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Lists and families -/

omit [FloatOps F] in
theorem sepL_mono {A : Type} (Φ Ψ : A → sProp (MT nD τ sig Unit (Elt F) ℕ UU ℕ)) (h : ∀ a, Φ a ⊢ Ψ a) : ∀ l : List A, sepL Φ l ⊢ sepL Ψ l
  | [] => BI.Entails.refl _
  | a :: l => BI.sep_mono (h a) (sepL_mono Φ Ψ h l)
omit [FloatOps F] in
theorem sepL_map {A B : Type} (Ψ : B → sProp (MT nD τ sig Unit (Elt F) ℕ UU ℕ)) (e : A → B) : ∀ l : List A, sepL (fun a => Ψ (e a)) l = sepL Ψ (l.map e)
  | [] => rfl
  | a :: l => congrArg (fun R => iprop(Ψ (e a) ∗ R)) (sepL_map Ψ e l)

abbrev slots12 : List (Fin 3 × Fin 4) := [(0, 0), (0, 1), (0, 2), (0, 3), (1, 0), (1, 1), (1, 2), (1, 3), (2, 0), (2, 1), (2, 2), (2, 3)]
abbrev all4 : List (Fin 4) := [0, 1, 2, 3]
abbrev all16 : List (Fin 16) := [0, 1, 2, 3, 4, 5, 6, 7, 8, 9, 10, 11, 12, 13, 14, 15]

/-! ## The slots, before and after -/

section In
omit [FloatOps F]

theorem cw_in (c : Dev nD) : (iprop(∃ f : Buf (Elt F) ((c : Thread nD τ).loc cc0_scratch0), ((c : Thread nD τ).loc cc0_scratch0) ↦{fullShare} f) : sProp (MT nD τ sig Unit (Elt F) ℕ UU ℕ)) ⊢ sepL (dst (F := F) c) cwAll := by
  iintro ⟨%f, H⟩
  ihave H := (Entails.of_eq (keyed (ℓ := cwB.view.loc (c : Thread nD τ)) (fun b : Fin 3 × Fin 4 => (cwM b.1 b.2).view.set) _ (fun b => mem_cw b.1 b.2) f fullShare)) $$ H
  ihave H := (big_list _ slots12 (by decide) (by decide)).1 $$ H
  ihave H := (sepL_mono _ (fun b : Fin 3 × Fin 4 => dst (F := F) c (.cw b.1 b.2)) (fun b => by
    unfold dst; iintro H; iexists f; iexact H) slots12) $$ H
  ihave H := (Entails.of_eq (sepL_map (dst (F := F) c) (fun b : Fin 3 × Fin 4 => Msg.cw b.1 b.2) slots12)) $$ H
  iexact H

theorem ccw_in (c : Dev nD) : (iprop(∃ f : Buf (Elt F) ((c : Thread nD τ).loc cc0_scratch1), ((c : Thread nD τ).loc cc0_scratch1) ↦{fullShare} f) : sProp (MT nD τ sig Unit (Elt F) ℕ UU ℕ)) ⊢ sepL (dst (F := F) c) ccwAll := by
  iintro ⟨%f, H⟩
  ihave H := (Entails.of_eq (keyed (ℓ := ccwB.view.loc (c : Thread nD τ)) (fun b : Fin 3 × Fin 4 => (ccwM b.1 b.2).view.set) _ (fun b => mem_ccw b.1 b.2) f fullShare)) $$ H
  ihave H := (big_list _ slots12 (by decide) (by decide)).1 $$ H
  ihave H := (sepL_mono _ (fun b : Fin 3 × Fin 4 => dst (F := F) c (.ccw b.1 b.2)) (fun b => by
    unfold dst; iintro H; iexists f; iexact H) slots12) $$ H
  ihave H := (Entails.of_eq (sepL_map (dst (F := F) c) (fun b : Fin 3 × Fin 4 => Msg.ccw b.1 b.2) slots12)) $$ H
  iexact H

theorem ch_in (c : Dev nD) : (iprop(∃ f : Buf (Elt F) ((c : Thread nD τ).loc cc0_scratch2), ((c : Thread nD τ).loc cc0_scratch2) ↦{fullShare} f) : sProp (MT nD τ sig Unit (Elt F) ℕ UU ℕ)) ⊢ sepL (dst (F := F) c) chAll := by
  iintro ⟨%f, H⟩
  ihave H := (Entails.of_eq (keyed (ℓ := chB.view.loc (c : Thread nD τ)) (fun b : Fin 4 => (chM b).view.set) _ mem_ch f fullShare)) $$ H
  ihave H := (big_list _ all4 (by decide) (by decide)).1 $$ H
  ihave H := (sepL_mono _ (fun b : Fin 4 => dst (F := F) c (.ch b)) (fun b => by
    unfold dst; iintro H; iexists f; iexact H) all4) $$ H
  ihave H := (Entails.of_eq (sepL_map (dst (F := F) c) Msg.ch all4)) $$ H
  iexact H

theorem ws_in (c : Dev nD) : (iprop(∃ f : Buf (Elt F) ((c : Thread nD τ).loc cc0_scratch4), ((c : Thread nD τ).loc cc0_scratch4) ↦{fullShare} f) : sProp (MT nD τ sig Unit (Elt F) ℕ UU ℕ))
    ⊢ iprop((∃ f : Buf (Elt F) ((wsM 0).view.loc (c : Thread nD τ)), (wsM 0).view.loc (c : Thread nD τ) ↦[(wsM 0).view.set]{fullShare} f)
      ∗ (∃ f : Buf (Elt F) ((wsM 1).view.loc (c : Thread nD τ)), (wsM 1).view.loc (c : Thread nD τ) ↦[(wsM 1).view.set]{fullShare} f)) := by
  iintro ⟨%f, H⟩
  ihave H := (Entails.of_eq (keyed (ℓ := wsB.view.loc (c : Thread nD τ)) (fun b : Fin 2 => (wsM b).view.set) _ mem_ws f fullShare)) $$ H
  ihave H := (big_list _ [0, 1] (by decide) (by decide)).1 $$ H
  simp only [sepL]
  icases H with ⟨H0, H1, -⟩
  isplitl [H0]
  · iexists f; iexact H0
  · iexists f; iexact H1

theorem ws_out (c : Dev nD) : iprop((∃ f : Buf (Elt F) ((wsM 0).view.loc (c : Thread nD τ)), (wsM 0).view.loc (c : Thread nD τ) ↦[(wsM 0).view.set]{fullShare} f)
      ∗ (∃ f : Buf (Elt F) ((wsM 1).view.loc (c : Thread nD τ)), (wsM 1).view.loc (c : Thread nD τ) ↦[(wsM 1).view.set]{fullShare} f))
    ⊢ (iprop(∃ f : Buf (Elt F) ((c : Thread nD τ).loc cc0_scratch4), ((c : Thread nD τ).loc cc0_scratch4) ↦{fullShare} f) : sProp (MT nD τ sig Unit (Elt F) ℕ UU ℕ)) := by
  iintro ⟨⟨%f, H0⟩, H1⟩
  ihave H := (big_list (fun b : Fin 2 => iprop(∃ f : Buf (Elt F) (wsB.view.loc (c : Thread nD τ)), wsB.view.loc (c : Thread nD τ) ↦[(wsM b).view.set]{fullShare} f)) [0, 1] (by decide) (by decide)).2 $$ [H0 H1]
  · simp only [sepL]
    isplitl [H0]; · iexists f; iexact H0
    isplitl [H1]; · iexact H1
    iempintro
  ihave H := (keyed_join (ℓ := wsB.view.loc (c : Thread nD τ)) (fun b : Fin 2 => (wsM b).view.set) _ mem_ws f fullShare) $$ H
  iexact H

/-! ## The weights and the results -/

theorem w_in (c : Dev nD) (f : Buf (Elt F) ((c : Thread nD τ).loc main_arg1)) : (((c : Thread nD τ).loc main_arg1) ↦{fullShare} f : sProp (MT nD τ sig Unit (Elt F) ℕ UU ℕ))
    ⊢ sepL (fun b : Fin 16 => ((wrM b).view.loc (c : Thread nD τ) ↦[(wrM b).view.set]{fullShare} f : sProp (MT nD τ sig Unit (Elt F) ℕ UU ℕ))) all16 := by
  iintro H
  ihave H := (Entails.of_eq (keyed (ℓ := wM.view.loc (c : Thread nD τ)) (fun b : Fin 16 => (wrM b).view.set) _ mem_wr f fullShare)) $$ H
  ihave H := (big_list _ all16 (by decide) (by decide)).1 $$ H
  iexact H

theorem w_out (c : Dev nD) : sepL (wDone m c) allW ⊢ (((c : Thread nD τ).loc main_arg1) ↦{fullShare} m ((c : Thread nD τ).loc main_arg1) : sProp (MT nD τ sig Unit (Elt F) ℕ UU ℕ)) := by
  iintro H
  ihave H := (big_list (wDone m c) allW (by decide) (by decide)).2 $$ H
  ihave H := (Entails.of_eq (keyed (ℓ := wM.view.loc (c : Thread nD τ)) (fun b : Fin 16 => (wrM b).view.set) _ mem_wr (m ((c : Thread nD τ).loc main_arg1)) fullShare).symm) $$ [H]
  · iexact H
  iexact H

theorem res_in (c : Dev nD) (f : Buf (Elt F) ((c : Thread nD τ).loc main_v1)) : (((c : Thread nD τ).loc main_v1) ↦{fullShare} f : sProp (MT nD τ sig Unit (Elt F) ℕ UU ℕ))
    ⊢ sepL (fun b : Fin 8 => iprop(∃ f : Buf (Elt F) ((resM b).view.loc (c : Thread nD τ)), (resM b).view.loc (c : Thread nD τ) ↦[(resM b).view.set]{fullShare} f)) all8 := by
  iintro H
  ihave H := (Entails.of_eq (keyed (ℓ := rM.view.loc (c : Thread nD τ)) (fun b : Fin 8 => (resM b).view.set) _ mem_res f fullShare)) $$ H
  ihave H := (big_list _ all8 (by decide) (by decide)).1 $$ H
  iapply (sepL_mono _ _ (fun b => by iintro H; iexists f; iexact H) all8) $$ H

end In

theorem res_out (c : Dev nD) : sepL (outPay m c) [7, 6, 5, 4, 3, 2, 1, 0] ⊢ iprop((((c : Thread nD τ).loc main_v1) ↦{fullShare} resC m c)
    ∗ (∃ f : Buf (Elt F) ((c : Thread nD τ).loc cc0_scratch5), ((c : Thread nD τ).loc cc0_scratch5) ↦{fullShare} f)) := by
  iintro H
  ihave H := (big_list (outPay m c) [7, 6, 5, 4, 3, 2, 1, 0] (by decide) (by decide)).2 $$ H
  unfold outPay
  ihave H := (Entails.of_eq (bigSep_sep' Finset.univ (fun j : Fin 8 => ((resM j).view.loc (c : Thread nD τ) ↦[(resM j).view.set]{fullShare} resC m c : sProp (MT nD τ sig Unit (Elt F) ℕ UU ℕ)))
    (fun j : Fin 8 => (outM j).view.loc (c : Thread nD τ) ↦[(outM j).view.set]{fullShare} resC m c))) $$ H
  icases H with ⟨H1, H2⟩
  ihave H1 := (Entails.of_eq (keyed (ℓ := rM.view.loc (c : Thread nD τ)) (fun b : Fin 8 => (resM b).view.set) _ mem_res (resC m c) fullShare).symm) $$ [H1]
  · iexact H1
  ihave H2 := (Entails.of_eq (keyed (ℓ := outB.view.loc (c : Thread nD τ)) (fun b : Fin 8 => (outM b).view.set) _ mem_out (resC m c) fullShare).symm) $$ [H2]
  · iexact H2
  isplitl [H1]; · iexact H1
  iexists (resC m c); iexact H2

/-! ## The rows of maxima -/

section Tick
omit [FloatOps F]

theorem tickq_of {c o : Dev nD} {M : Msg} (h0 : (quart M).val = 0) (h : org M c = o) : tickq (F := F) c M = tick (F := F) o c := by
  unfold tickq; rw [if_pos h0, h]
theorem tickq_emp (c : Dev nD) {M : Msg} (h0 : (quart M).val ≠ 0) : tickq (F := F) c M = iprop(emp) := if_neg h0

/-- The one device neither ring reaches from `c` in three hops. -/
def far (c : Dev nD) : Dev nD := if ev (rt c) = true then pt (rt c) else pt (lf c)
theorem ev_lf (c : Dev nD) : ev (lf c) = ev (rt c) := by revert c; decide
theorem far_nodup (c : Dev nD) : [c, rt c, rt (rt c), rt (rt (rt c)), lf c, lf (lf c), lf (lf (lf c)), far c].Nodup := by revert c; decide
theorem far_all (c : Dev nD) : ∀ p, p ∈ [c, rt c, rt (rt c), rt (rt (rt c)), lf c, lf (lf c), lf (lf (lf c)), far c] := by revert c; decide

theorem o_cw0 (c : Dev nD) : org (.cw 0 0) (rt c) = c := by revert c; decide
theorem o_cw1 (c : Dev nD) : org (.cw 1 0) (rt (rt c)) = c := by revert c; decide
theorem o_cw2 (c : Dev nD) : org (.cw 2 0) (rt (rt (rt c))) = c := by revert c; decide
theorem o_ccw0 (c : Dev nD) : org (.ccw 0 0) (lf c) = c := by revert c; decide
theorem o_ccw1 (c : Dev nD) : org (.ccw 1 0) (lf (lf c)) = c := by revert c; decide
theorem o_ccw2 (c : Dev nD) : org (.ccw 2 0) (lf (lf (lf c))) = c := by revert c; decide
theorem o_chr (c : Dev nD) : ev (rt c) = true → org (.ch 0) (pt (rt c)) = c := by revert c; decide
theorem o_chl (c : Dev nD) : ev (rt c) = false → org (.ch 0) (pt (lf c)) = c := by revert c; decide
end Tick

theorem bg_cw (c : Dev nD) (q : Fin 4) : pcP m c (.bg (.cw 0 q)) = iprop(tickq (F := F) (rt c) (.cw 0 q) ∗ (tickq (F := F) (rt (rt c)) (.cw 1 q) ∗ tickq (F := F) (rt (rt (rt c))) (.cw 2 q))
    ∗ (if ev (rt c) = true then tickq (F := F) (pt (rt c)) (.ch q) else iprop(emp))) := rfl
theorem bg_ccw (c : Dev nD) (q : Fin 4) : pcP m c (.bg (.ccw 0 q)) = iprop(tickq (F := F) (lf c) (.ccw 0 q) ∗ (tickq (F := F) (lf (lf c)) (.ccw 1 q) ∗ tickq (F := F) (lf (lf (lf c))) (.ccw 2 q))
    ∗ (if ev (lf c) = true then iprop(emp) else tickq (F := F) (pt (lf c)) (.ch q))) := rfl

theorem bg_emp (c : Dev nD) (q : Fin 4) (h : q.val ≠ 0) : iprop(emp) ⊢ iprop(pcP m c (.bg (.cw 0 q)) ∗ pcP m c (.bg (.ccw 0 q))) := by
  rw [bg_cw, bg_ccw, tickq_emp (F := F) (rt c) (M := .cw 0 q) h, tickq_emp (F := F) (rt (rt c)) (M := .cw 1 q) h, tickq_emp (F := F) (rt (rt (rt c))) (M := .cw 2 q) h,
    tickq_emp (F := F) (lf c) (M := .ccw 0 q) h, tickq_emp (F := F) (lf (lf c)) (M := .ccw 1 q) h, tickq_emp (F := F) (lf (lf (lf c))) (M := .ccw 2 q) h,
    tickq_emp (F := F) (pt (rt c)) (M := .ch q) h, tickq_emp (F := F) (pt (lf c)) (M := .ch q) h, ite_self, ite_self]
  iintro -
  repeat' isplitr
  all_goals iempintro

theorem am_in (c : Dev nD) : (iprop(∃ f : Buf (Elt F) ((c : Thread nD τ).loc cc0_scratch6), ((c : Thread nD τ).loc cc0_scratch6) ↦{fullShare} f) : sProp (MT nD τ sig Unit (Elt F) ℕ UU ℕ))
    ⊢ iprop(tick (F := F) c c ∗ pcP m c (.bg (.cw 0 0)) ∗ pcP m c (.bg (.ccw 0 0))) := by
  have h : (iprop(∃ f : Buf (Elt F) ((c : Thread nD τ).loc cc0_scratch6), ((c : Thread nD τ).loc cc0_scratch6) ↦{fullShare} f) : sProp (MT nD τ sig Unit (Elt F) ℕ UU ℕ))
      ⊢ sepL (fun p : Dev nD => tick (F := F) c p) [c, rt c, rt (rt c), rt (rt (rt c)), lf c, lf (lf c), lf (lf (lf c)), far c] := by
    iintro ⟨%f, H⟩
    ihave H := (Entails.of_eq (keyed (ℓ := amB.view.loc (c : Thread nD τ)) (fun p : Dev nD => (amM p).view.set) (fun i => ((i : S8x128.Idx) 0 : Fin 8)) mem_am f fullShare)) $$ H
    ihave H := (big_list _ _ (far_nodup c) (far_all c)).1 $$ H
    iapply (sepL_mono _ _ (fun b => by unfold tick; iintro H; iexists f; iexact H) _) $$ H
  refine BIBase.Entails.trans h ?_
  rw [bg_cw, bg_ccw, tickq_of (F := F) (M := .cw 0 0) rfl (o_cw0 c), tickq_of (F := F) (M := .cw 1 0) rfl (o_cw1 c), tickq_of (F := F) (M := .cw 2 0) rfl (o_cw2 c),
    tickq_of (F := F) (M := .ccw 0 0) rfl (o_ccw0 c), tickq_of (F := F) (M := .ccw 1 0) rfl (o_ccw1 c), tickq_of (F := F) (M := .ccw 2 0) rfl (o_ccw2 c), ev_lf]
  unfold far
  cases he : ev (rt c)
  · rw [if_neg Bool.false_ne_true, if_neg Bool.false_ne_true, if_neg Bool.false_ne_true, tickq_of (F := F) (M := .ch 0) rfl (o_chl c he)]
    simp only [sepL]
    iintro ⟨H0, H1, H2, H3, H4, H5, H6, H7, -⟩
    isplitl [H0]; · iexact H0
    isplitl [H1 H2 H3]
    · isplitl [H1]; · iexact H1
      isplitl [H2 H3]
      · isplitl [H2] <;> iassumption
      iempintro
    isplitl [H4]; · iexact H4
    isplitl [H5 H6]
    · isplitl [H5] <;> iassumption
    iexact H7
  · rw [if_pos rfl, if_pos rfl, if_pos rfl, tickq_of (F := F) (M := .ch 0) rfl (o_chr c he)]
    simp only [sepL]
    iintro ⟨H0, H1, H2, H3, H4, H5, H6, H7, -⟩
    isplitl [H0]; · iexact H0
    isplitl [H1 H2 H3 H7]
    · isplitl [H1]; · iexact H1
      isplitl [H2 H3]
      · isplitl [H2] <;> iassumption
      iexact H7
    isplitl [H4]; · iexact H4
    isplitl [H5 H6]
    · isplitl [H5] <;> iassumption
    iempintro

/-! ## The rows of `x` -/

abbrev gX : List Pc := [.xs 1 0, .xs 1 1, .xs 1 2, .xs 1 3, .xs 2 0, .xs 2 1, .xs 2 2, .xs 2 3, .xa]

theorem xs_keyed (c : Dev nD) (k : Fin 3) : (xM.view.loc (c : Thread nD τ) ↦[Finset.univ]{sh3 k} X m c : sProp (MT nD τ sig Unit (Elt F) ℕ UU ℕ))
    ⊣⊢ sepL (pcP m c) [.xs k 0, .xs k 1, .xs k 2, .xs k 3] := by
  rw [keyed (ℓ := xM.view.loc (c : Thread nD τ)) (fun b : Fin 4 => (xqM b).view.set) _ mem_xq (X m c) (sh3 k)]
  have h := big_list (fun b : Fin 4 => (xM.view.loc (c : Thread nD τ) ↦[(xqM b).view.set]{sh3 k} X m c : sProp (MT nD τ sig Unit (Elt F) ℕ UU ℕ))) all4 (by decide) (by decide)
  exact h

theorem xa_eq (c : Dev nD) : pcP m c .xa = (xM.view.loc (c : Thread nD τ) ↦[Finset.univ]{sh3 0} X m c) := by
  show (xM.view.loc (c : Thread nD τ) ↦[xM.view.set]{sh3 0} X m c : sProp (MT nD τ sig Unit (Elt F) ℕ UU ℕ)) = _
  rw [View.set_whole]

theorem x_in (c : Dev nD) : (((c : Thread nD τ).loc cc0_stg0_0) ↦{fullShare} X m c : sProp (MT nD τ sig Unit (Elt F) ℕ UU ℕ)) ⊢ sepL (pcP m c) gX := by
  have h : (xM.view.loc (c : Thread nD τ) ↦[Finset.univ]{fullShare} X m c : sProp (MT nD τ sig Unit (Elt F) ℕ UU ℕ))
      ⊢ iprop((xM.view.loc (c : Thread nD τ) ↦[Finset.univ]{sh3 0} X m c) ∗ (xM.view.loc (c : Thread nD τ) ↦[Finset.univ]{sh3 1} X m c) ∗ (xM.view.loc (c : Thread nD τ) ↦[Finset.univ]{sh3 2} X m c)) :=
    (pointsTo_share (PosShare.mem_left_op_right fullShare)).1.trans (sep_mono_right (pointsTo_share (PosShare.mem_left_op_right fullShare.right)).1)
  refine BIBase.Entails.trans h ?_
  rw [← xa_eq]
  iintro ⟨H0, H1, H2⟩
  ihave H1 := (xs_keyed m c 1).1 $$ H1
  ihave H2 := (xs_keyed m c 2).1 $$ H2
  ihave H2 := (sepL_join (pcP m c) [.xs 2 0, .xs 2 1, .xs 2 2, .xs 2 3] [.xa]) $$ [H2 H0]
  · isplitl [H2]; · iexact H2
    simp only [sepL]
    isplitl [H0]; · iexact H0
    iempintro
  ihave H := (sepL_join (pcP m c) [.xs 1 0, .xs 1 1, .xs 1 2, .xs 1 3] ([.xs 2 0, .xs 2 1, .xs 2 2, .xs 2 3] ++ [.xa])) $$ [H1 H2]
  · isplitl [H1] <;> iassumption
  iexact H

theorem x_out (c : Dev nD) : sepL (pcP m c) gX ⊢ (((c : Thread nD τ).loc cc0_stg0_0) ↦{fullShare} X m c : sProp (MT nD τ sig Unit (Elt F) ℕ UU ℕ)) := by
  have h : iprop((xM.view.loc (c : Thread nD τ) ↦[Finset.univ]{sh3 0} X m c) ∗ (xM.view.loc (c : Thread nD τ) ↦[Finset.univ]{sh3 1} X m c) ∗ (xM.view.loc (c : Thread nD τ) ↦[Finset.univ]{sh3 2} X m c))
      ⊢ (xM.view.loc (c : Thread nD τ) ↦[Finset.univ]{fullShare} X m c : sProp (MT nD τ sig Unit (Elt F) ℕ UU ℕ)) :=
    (sep_mono_right (pointsTo_share (PosShare.mem_left_op_right fullShare.right)).2).trans (pointsTo_share (PosShare.mem_left_op_right fullShare)).2
  refine BIBase.Entails.trans ?_ h
  rw [← xa_eq]
  show sepL (pcP m c) ([.xs 1 0, .xs 1 1, .xs 1 2, .xs 1 3] ++ ([.xs 2 0, .xs 2 1, .xs 2 2, .xs 2 3] ++ [.xa])) ⊢ _
  iintro H
  ihave H := (sepL_split (pcP m c) [.xs 1 0, .xs 1 1, .xs 1 2, .xs 1 3] ([.xs 2 0, .xs 2 1, .xs 2 2, .xs 2 3] ++ [.xa])) $$ H
  icases H with ⟨H1, H⟩
  ihave H := (sepL_split (pcP m c) [.xs 2 0, .xs 2 1, .xs 2 2, .xs 2 3] [.xa]) $$ H
  icases H with ⟨H2, H⟩
  simp only [sepL_cons (pcP m c) Pc.xa]
  icases H with ⟨H0, -⟩
  isplitl [H0]; · iexact H0
  isplitl [H1]
  · iapply (xs_keyed m c 1).2; iexact H1
  · iapply (xs_keyed m c 2).2; iexact H2

/-! ## The slots at the end -/

/-- A slot's three shares. -/
abbrev trip (l : List Msg) : List Pc := l.flatMap fun M => [.sl 0 M, .sl 1 M, .sl 2 M]
theorem end_trip : gEnd = trip cwAll ++ (trip ccwAll ++ (trip chAll ++ [.xs 1 0, .xs 1 1, .xs 1 2, .xs 1 3, .xs 2 0, .xs 2 1, .xs 2 2, .xs 2 3, .xa])) := rfl

theorem trip_join (c : Dev nD) : ∀ l : List Msg, sepL (pcP m c) (trip l) ⊢ sepL (fun M => lnd m c M fullShare) l
  | [] => BI.Entails.refl _
  | M :: l => by
    show iprop(lnd m c M (sh3 0) ∗ lnd m c M (sh3 1) ∗ lnd m c M (sh3 2) ∗ sepL (pcP m c) (trip l)) ⊢ iprop(lnd m c M fullShare ∗ sepL (fun M => lnd m c M fullShare) l)
    iintro ⟨H0, H1, H2, H⟩
    isplitl [H0 H1 H2]
    · iapply (lnd_join m c M)
      isplitl [H0]; · iexact H0
      isplitl [H1] <;> iassumption
    · iapply (trip_join c l) $$ H

theorem cw_out (c : Dev nD) : sepL (fun M => lnd m c M fullShare) cwAll ⊢ iprop(∃ f : Buf (Elt F) ((c : Thread nD τ).loc cc0_scratch0), ((c : Thread nD τ).loc cc0_scratch0) ↦{fullShare} f) := by
  refine BIBase.Entails.trans (big_list (fun b : Fin 3 × Fin 4 => lnd m c (.cw b.1 b.2) fullShare) slots12 (by decide) (by decide)).2 ?_
  iintro H
  ihave H := (Entails.of_eq (keyed (ℓ := cwB.view.loc (c : Thread nD τ)) (fun b : Fin 3 × Fin 4 => (cwM b.1 b.2).view.set) _ (fun b => mem_cw b.1 b.2) (cwC m c) fullShare).symm) $$ [H]
  · iexact H
  iexists (cwC m c); iexact H
theorem ccw_out (c : Dev nD) : sepL (fun M => lnd m c M fullShare) ccwAll ⊢ iprop(∃ f : Buf (Elt F) ((c : Thread nD τ).loc cc0_scratch1), ((c : Thread nD τ).loc cc0_scratch1) ↦{fullShare} f) := by
  refine BIBase.Entails.trans (big_list (fun b : Fin 3 × Fin 4 => lnd m c (.ccw b.1 b.2) fullShare) slots12 (by decide) (by decide)).2 ?_
  iintro H
  ihave H := (Entails.of_eq (keyed (ℓ := ccwB.view.loc (c : Thread nD τ)) (fun b : Fin 3 × Fin 4 => (ccwM b.1 b.2).view.set) _ (fun b => mem_ccw b.1 b.2) (ccwC m c) fullShare).symm) $$ [H]
  · iexact H
  iexists (ccwC m c); iexact H
theorem ch_out (c : Dev nD) : sepL (fun M => lnd m c M fullShare) chAll ⊢ iprop(∃ f : Buf (Elt F) ((c : Thread nD τ).loc cc0_scratch2), ((c : Thread nD τ).loc cc0_scratch2) ↦{fullShare} f) := by
  refine BIBase.Entails.trans (big_list (fun b : Fin 4 => lnd m c (.ch b) fullShare) all4 (by decide) (by decide)).2 ?_
  iintro H
  ihave H := (Entails.of_eq (keyed (ℓ := chB.view.loc (c : Thread nD τ)) (fun b : Fin 4 => (chM b).view.set) _ mem_ch (chC m c) fullShare).symm) $$ [H]
  · iexact H
  iexists (chC m c); iexact H

/-! ## Everything a device starts from and ends with -/

theorem start_perm : (gX ++ [.bg (.cw 0 0), .bg (.ccw 0 0), .bg (.cw 0 1), .bg (.ccw 0 1), .bg (.cw 0 2), .bg (.ccw 0 2), .bg (.cw 0 3), .bg (.ccw 0 3)] : List Pc).Perm gStart := by decide

theorem g_in (c : Dev nD) : iprop(sepL (pcP m c) gX ∗ pcP m c (.bg (.cw 0 0)) ∗ pcP m c (.bg (.ccw 0 0))) ⊢ sepL (pcP m c) gStart := by
  refine BIBase.Entails.trans ?_ (sepL_perm (pcP m c) start_perm)
  refine BIBase.Entails.trans ?_ (sepL_join (pcP m c) gX _)
  refine sep_mono_right ?_
  have h (q : Fin 4) (hq : q.val ≠ 0) (R : sProp (MT nD τ sig Unit (Elt F) ℕ UU ℕ)) : R ⊢ iprop(pcP m c (.bg (.cw 0 q)) ∗ pcP m c (.bg (.ccw 0 q)) ∗ R) := by
    iintro HR
    ihave H := (bg_emp m c q hq) $$ []
    · iempintro
    icases H with ⟨H1, H2⟩
    isplitl [H1]; · iexact H1
    isplitl [H2] <;> iassumption
  simp only [sepL_cons]
  refine sep_mono_right ?_
  iintro H
  isplitl [H]; · iexact H
  iapply (h 1 (by decide) _)
  iapply (h 2 (by decide) _)
  iapply (h 3 (by decide) _)
  unfold sepL
  iempintro

theorem g_out (c : Dev nD) : sepL (pcP m c) gEnd ⊢ iprop((((c : Thread nD τ).loc cc0_stg0_0) ↦{fullShare} X m c)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)) := by
  rw [end_trip]
  iintro H
  ihave H := (sepL_split (pcP m c) (trip cwAll) _) $$ H
  icases H with ⟨H0, H⟩
  ihave H := (sepL_split (pcP m c) (trip ccwAll) _) $$ H
  icases H with ⟨H1, H⟩
  ihave H := (sepL_split (pcP m c) (trip chAll) _) $$ H
  icases H with ⟨H2, H⟩
  ihave H0 := (trip_join m c cwAll) $$ H0
  ihave H1 := (trip_join m c ccwAll) $$ H1
  ihave H2 := (trip_join m c chAll) $$ H2
  isplitl [H]; · iapply (x_out m c) $$ H
  isplitl [H0]; · iapply (cw_out m c) $$ H0
  isplitl [H1]; · iapply (ccw_out m c) $$ H1
  iapply (ch_out m c) $$ H2

end Cert.KernelIdealProof
-- ==== Proof.KIGhost.lean ====
/-
The launch of the ring kernel: the semaphores' invariants opened, and tokens, positions and credits dealt to the devices.
-/
module

public import proofs.«01_k».proof.Proof.KIMemIO

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Part of a family -/

omit [FloatOps F] in
/-- Of a family over a finite type, the members of a list. -/
theorem big_sub {B : Type} [Fintype B] [DecidableEq B] (Φ : B → sProp (MT nD τ sig Unit (Elt F) ℕ UU ℕ)) (L : List B) (hn : L.Nodup) :
    bigSep Finset.univ Φ ⊢ sepL Φ L := by
  refine BIBase.Entails.trans (BI.bigSep_subset (Finset.subset_univ L.toFinset)) ?_
  induction L with
  | nil => rw [List.toFinset_nil, bigSep_empty]; exact BI.Entails.refl _
  | cons a L ih =>
    have hn' := List.nodup_cons.mp hn
    rw [List.toFinset_cons, bigSep_insert (fun h => hn'.1 (List.mem_toFinset.mp h))]
    exact sep_mono_right (ih hn'.2)

omit [FloatOps F] in
/-- What each device holds of every message, moved to the message's sender. -/
theorem deal_list (Φ : Msg → Dev nD → sProp (MT nD τ sig Unit (Elt F) ℕ UU ℕ)) : ∀ l : List Msg,
    bigSep Finset.univ (fun c : Dev nD => sepL (fun M => Φ M c) l) ⊢ bigSep Finset.univ (fun c : Dev nD => sepL (fun M => Φ M (tgt M c)) l)
  | [] => BI.Entails.refl _
  | M :: l => by
    simp only [sepL]
    rw [bigSep_sep', bigSep_sep', bigSep_univ_equiv (tgtE M) (Φ M)]
    exact sep_mono_right (deal_list Φ l)

omit [FloatOps F] in
theorem with_persistent {I : Type} [DecidableEq I] {S : Finset I} {R : sProp (MT nD τ sig Unit (Elt F) ℕ UU ℕ)} [BI.Persistent R] {Φ Ψ : I → sProp (MT nD τ sig Unit (Elt F) ℕ UU ℕ)}
    (h : ∀ i ∈ S, iprop(R ∗ Φ i) ⊢ Ψ i) : iprop(R ∗ bigSep S Φ) ⊢ bigSep S Ψ := by
  refine BIBase.Entails.trans (sep_mono_left (BI.bigSep_of_persistent S R)) ?_
  rw [← bigSep_sep']
  exact bigSep_mono h

/-! ## The cells and the tokens minted -/

theorem reg_ne_dma {r i} (h : (SemLoc.reg r : SemLoc sig) = SemLoc.dma i) : False := by cases h

theorem csem_injective : Function.Injective csem := by
  intro j k h
  cases j with
  | none => cases k with
    | none => rfl
    | some k => exact (reg_ne_dma h).elim
  | some j => cases k with
    | none => exact (reg_ne_dma h.symm).elim
    | some k =>
      have h1 : (⟨j.val + 1, by omega⟩ : Fin 81) = (⟨k.val + 1, by omega⟩ : Fin 81) := SemLoc.dma.inj h
      have h2 := congrArg Fin.val h1
      exact congrArg some (Fin.ext (Nat.succ.inj h2))

theorem kcell_injective : Function.Injective (kcell : Dev nD × Option (Fin 80) → GSem nD τ sig) := by
  rintro ⟨c, k⟩ ⟨c', k'⟩ h
  have h1 : c = c' := by have := congrArg (fun g : GSem nD τ sig => g.1.1) h; exact this
  have h2 : k = k' := csem_injective (congrArg Prod.snd h)
  subst h1; subst h2; rfl

def ringCells : Finset (GSem nD τ sig) := Finset.univ.map ⟨kcell, kcell_injective⟩

/-- Which token: of the barrier's three duties, or of a DMA semaphore at a round. -/
abbrev Tk := Fin 3 ⊕ (Fin 80 × Fin 8)
def tkOf : Tk → Option (Fin 80) × ℕ × Fin 3
  | .inl d => (none, 0, d)
  | .inr (j, r) => (some j, r.val, 0)
theorem tkOf_injective : Function.Injective tkOf := by
  intro a b h
  cases a with
  | inl d => cases b with
    | inl e => exact congrArg Sum.inl (congrArg (fun x : Option (Fin 80) × ℕ × Fin 3 => x.2.2) h)
    | inr e => exact absurd (congrArg Prod.fst h) (by rintro ⟨⟩)
  | inr d => cases b with
    | inl e => exact absurd (congrArg Prod.fst h) (by rintro ⟨⟩)
    | inr e =>
      have h1 : d.1 = e.1 := Option.some.inj (congrArg Prod.fst h)
      have h2 : d.2.val = e.2.val := congrArg (fun x : Option (Fin 80) × ℕ × Fin 3 => x.2.1) h
      exact congrArg Sum.inr (Prod.ext h1 (Fin.ext h2))

abbrev tokOf (cj : Dev nD × Tk) : GSem nD τ sig × ℕ × Fin 3 := (kcell (cj.1, (tkOf cj.2).1), (tkOf cj.2).2)
theorem tokOf_injective : Function.Injective tokOf := by
  rintro ⟨c, j⟩ ⟨c', j'⟩ h
  have h1 := kcell_injective (congrArg Prod.fst h)
  have h2 : c = c' := congrArg Prod.fst h1
  have h3 : j = j' := tkOf_injective (Prod.ext (congrArg Prod.snd h1) (congrArg (fun x : GSem nD τ sig × ℕ × Fin 3 => x.2) h))
  subst h2; subst h3; rfl
def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

section Deal
omit [FloatOps F]

/-- The tokens of one device's cells. -/
def toks (c : Dev nD) : sProp 𝕄 := bigSep Finset.univ fun j : Tk => dutyTok ER (tokOf (c, j)).1 (tokOf (c, j)).2.1 (tokOf (c, j)).2.2
/-- Its positions, -/
def poss (c : Dev nD) : sProp 𝕄 := bigSep Finset.univ fun k : Option (Fin 80) => atPos ER (kcell (c, k)) 0 ∅ 0

end Deal

/-- and all it is dealt at launch. -/
def G (c : Dev nD) : sProp 𝕄 :=
  iprop((bigSep Finset.univ fun k : Option (Fin 80) => roundState ER (Rd m) (kcell (c, k)) 0)
    ∗ (bigSep Finset.univ fun k : Option (Fin 80) => iprop(atPos ER (kcell (c, k)) 0 ∅ 0 ∗ reached ER (kcell (c, k)) 0)) ∗ toks (F := F) c)

theorem fund_ring : BI.own (ER (initOf ringCells ringToks)) ⊢ (|==> bigSep Finset.univ (G m) : sProp (MT nD τ sig Unit (Elt F) ℕ UU ℕ)) := by
  have hX (Φ : GSem nD τ sig → sProp (MT nD τ sig Unit (Elt F) ℕ UU ℕ)) : bigSep ringCells Φ = bigSep Finset.univ fun c : Dev nD => bigSep Finset.univ fun k : Option (Fin 80) => Φ (kcell (c, k)) := by
    unfold ringCells; rw [bigSep_map, bigSep_univ_prod]; rfl
  have hT : bigSep ringToks (fun x => (dutyTok ER x.1 x.2.1 x.2.2 : sProp (MT nD τ sig Unit (Elt F) ℕ UU ℕ))) = bigSep Finset.univ fun c : Dev nD => toks (F := F) c := by
    unfold ringToks; rw [bigSep_map, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The tokens and positions, by what they are for -/

/-- A DMA semaphore's place among the eighty. -/
def ix (i : DmaSem sig) : Fin 80 := ⟨i.val - 1, by
  have h : i.val < 81 := i.isLt
  omega⟩
theorem kcell_ix (c : Dev nD) (i : DmaSem sig) (h : 0 < i.val) : kcell (c, some (ix i)) = dCell c i := by
  show ((c : Thread nD τ), SemLoc.dma _) = ((c : Thread nD τ), SemLoc.dma i)
  congr 2
  apply Fin.ext
  show i.val - 1 + 1 = i.val
  omega

abbrev bw (b : Fin 16) : Fin 2 := ⟨b.val % 2, Nat.mod_lt _ (by decide)⟩
abbrev br (b : Fin 16) : Fin 8 := ⟨b.val / 2, by omega⟩

set_option maxRecDepth 20000 in
theorem ix_nodup : (sendOrder.map (fun M => ix (sS M)) ++ (sendOrder.map (fun M => ix (sR M)) ++ ([0, 1].map (fun p => ix (sW p)) ++ all8.map (fun j => ix (sO j))))).Nodup := by decide

abbrev tkL : List Tk := [.inl 0, .inl 1, .inl 2] ++ (sendOrder.map (fun M => .inr (ix (sS M), 0)) ++ (sendOrder.map (fun M => .inr (ix (sR M), 0))
  ++ (all16.map (fun b => .inr (ix (sW (bw b)), br b)) ++ all8.map (fun j => .inr (ix (sO j), 0)))))
set_option maxRecDepth 20000 in
theorem tkL_nodup : tkL.Nodup := by decide
abbrev posL : List (Option (Fin 80)) := [none] ++ (sendOrder.map (fun M => some (ix (sS M))) ++ (sendOrder.map (fun M => some (ix (sR M)))
  ++ ([0, 1].map (fun p => some (ix (sW p))) ++ all8.map (fun j => some (ix (sO j))))))
set_option maxRecDepth 20000 in
theorem posL_nodup : posL.Nodup := by decide

section Deal
omit [FloatOps F]

theorem tok_ix (c : Dev nD) (i : DmaSem sig) (h : 0 < i.val) (r : Fin 8) :
    (dutyTok ER (tokOf (c, .inr (ix i, r))).1 (tokOf (c, .inr (ix i, r))).2.1 (tokOf (c, .inr (ix i, r))).2.2 : sProp (MT nD τ sig Unit (Elt F) ℕ UU ℕ)) = dutyTok ER (dCell c i) r.val 0 := by
  show dutyTok ER (kcell (c, some (ix i))) r.val 0 = _
  rw [kcell_ix c i h]
theorem pos_ix (c : Dev nD) (i : DmaSem sig) (h : 0 < i.val) :
    (atPos ER (kcell (c, some (ix i))) 0 ∅ 0 : sProp (MT nD τ sig Unit (Elt F) ℕ UU ℕ)) = atPos ER (dCell c i) 0 ∅ 0 := by
  rw [kcell_ix c i h]

/-- The list's members under another reading of each. -/
theorem sepL_read {A B : Type} (Ψ : B → sProp (MT nD τ sig Unit (Elt F) ℕ UU ℕ)) (Φ : A → sProp (MT nD τ sig Unit (Elt F) ℕ UU ℕ)) (e : A → B) (h : ∀ a, Ψ (e a) = Φ a) (l : List A) :
    sepL Ψ (l.map e) ⊢ sepL Φ l := by
  rw [← sepL_map Ψ e l]
  exact sepL_mono _ _ (fun a => Entails.of_eq (h a)) l

/-- One device's own tokens: its barrier's, its departures', its arrivals', its local copies'. -/
def wtok (c : Dev nD) (b : Fin 16) : sProp 𝕄 := dutyTok ER (dCell c (sW (bw b))) (b.val / 2) 0
def mint (c : Dev nD) : sProp 𝕄 :=
  iprop((dutyTok ER (barCell c) 0 0 ∗ dutyTok ER (barCell c) 0 1 ∗ dutyTok ER (barCell c) 0 2) ∗ sepL (fun M => dutyTok ER (dCell c (sS M)) 0 0) sendOrder
    ∗ sepL (fun M => dutyTok ER (dCell c (sR M)) 0 0) sendOrder ∗ sepL (wtok (F := F) c) all16 ∗ sepL (fun j : Fin 8 => dutyTok ER (dCell c (sO j)) 0 0) all8)
/-- The tokens of the duties it pays. -/
def pays (c : Dev nD) : sProp 𝕄 :=
  iprop((dutyTok ER (barCell (lf c)) 0 0 ∗ dutyTok ER (barCell (rt c)) 0 1 ∗ dutyTok ER (barCell (pt c)) 0 2) ∗ sepL (fun M => dutyTok ER (dCell c (sS M)) 0 0) sendOrder
    ∗ sepL (fun M => dutyTok ER (dCell (tgt M c) (sR M)) 0 0) sendOrder ∗ sepL (wtok (F := F) c) all16 ∗ sepL (fun j : Fin 8 => dutyTok ER (dCell c (sO j)) 0 0) all8)
/-- Its positions. -/
def places (c : Dev nD) : sProp 𝕄 :=
  iprop(atPos ER (barCell c) 0 ∅ 0 ∗ sepL (fun M => atPos ER (dCell c (sS M)) 0 ∅ 0) sendOrder
    ∗ sepL (fun M => atPos ER (dCell c (sR M)) 0 ∅ 0) sendOrder ∗ sepL (fun p : Fin 2 => atPos ER (dCell c (sW p)) 0 ∅ 0) [0, 1] ∗ sepL (fun j : Fin 8 => atPos ER (dCell c (sO j)) 0 ∅ 0) all8)

theorem toks_mint (c : Dev nD) : toks (F := F) c ⊢ mint c := by
  unfold toks mint
  iintro H
  ihave H := (big_sub (fun j : Tk => (dutyTok ER (tokOf (c, j)).1 (tokOf (c, j)).2.1 (tokOf (c, j)).2.2 : sProp (MT nD τ sig Unit (Elt F) ℕ UU ℕ))) tkL tkL_nodup) $$ H
  ihave H := (sepL_split _ [.inl 0, .inl 1, .inl 2] _) $$ H
  icases H with ⟨H0, H⟩
  ihave H := (sepL_split _ (sendOrder.map (fun M => (Sum.inr (ix (sS M), 0) : Tk))) _) $$ H
  icases H with ⟨H1, H⟩
  ihave H := (sepL_split _ (sendOrder.map (fun M => (Sum.inr (ix (sR M), 0) : Tk))) _) $$ H
  icases H with ⟨H2, H⟩
  ihave H := (sepL_split _ (all16.map (fun b => (Sum.inr (ix (sW (bw b)), br b) : Tk))) _) $$ H
  icases H with ⟨H3, H4⟩
  isplitl [H0]
  · simp only [sepL]
    icases H0 with ⟨A, B, C, -⟩
    isplitl [A]; · iexact A
    isplitl [B]; · iexact B
    iexact C
  isplitl [H1]; · iapply (sepL_read (fun j : Tk => (dutyTok ER (tokOf (c, j)).1 (tokOf (c, j)).2.1 (tokOf (c, j)).2.2 : sProp (MT nD τ sig Unit (Elt F) ℕ UU ℕ))) _ (fun M => (Sum.inr (ix (sS M), 0) : Tk)) (fun M => tok_ix (F := F) c (sS M) (sS_pos M) 0) sendOrder) $$ H1
  isplitl [H2]; · iapply (sepL_read (fun j : Tk => (dutyTok ER (tokOf (c, j)).1 (tokOf (c, j)).2.1 (tokOf (c, j)).2.2 : sProp (MT nD τ sig Unit (Elt F) ℕ UU ℕ))) _ (fun M => (Sum.inr (ix (sR M), 0) : Tk)) (fun M => tok_ix (F := F) c (sR M) (sR_pos M) 0) sendOrder) $$ H2
  isplitl [H3]; · iapply (sepL_read (fun j : Tk => (dutyTok ER (tokOf (c, j)).1 (tokOf (c, j)).2.1 (tokOf (c, j)).2.2 : sProp (MT nD τ sig Unit (Elt F) ℕ UU ℕ))) (wtok (F := F) c) (fun b => (Sum.inr (ix (sW (bw b)), br b) : Tk)) (fun b => tok_ix (F := F) c (sW (bw b)) (sW_pos _) (br b)) all16) $$ H3
  iapply (sepL_read (fun j : Tk => (dutyTok ER (tokOf (c, j)).1 (tokOf (c, j)).2.1 (tokOf (c, j)).2.2 : sProp (MT nD τ sig Unit (Elt F) ℕ UU ℕ))) _ (fun j => (Sum.inr (ix (sO j), 0) : Tk)) (fun j => tok_ix (F := F) c (sO j) (sO_pos j) 0) all8) $$ H4

theorem poss_places (c : Dev nD) : poss (F := F) c ⊢ places c := by
  unfold poss places
  iintro H
  ihave H := (big_sub (fun k : Option (Fin 80) => (atPos ER (kcell (c, k)) 0 ∅ 0 : sProp (MT nD τ sig Unit (Elt F) ℕ UU ℕ))) posL posL_nodup) $$ H
  ihave H := (sepL_split _ [none] _) $$ H
  icases H with ⟨H0, H⟩
  ihave H := (sepL_split _ (sendOrder.map (fun M => some (ix (sS M)))) _) $$ H
  icases H with ⟨H1, H⟩
  ihave H := (sepL_split _ (sendOrder.map (fun M => some (ix (sR M)))) _) $$ H
  icases H with ⟨H2, H⟩
  ihave H := (sepL_split _ ([0, 1].map (fun p => some (ix (sW p)))) _) $$ H
  icases H with ⟨H3, H4⟩
  isplitl [H0]
  · simp only [sepL]
    icases H0 with ⟨A, -⟩
    iexact A
  isplitl [H1]; · iapply (sepL_read (fun k : Option (Fin 80) => (atPos ER (kcell (c, k)) 0 ∅ 0 : sProp (MT nD τ sig Unit (Elt F) ℕ UU ℕ))) _ (fun M => some (ix (sS M))) (fun M => pos_ix (F := F) c (sS M) (sS_pos M)) sendOrder) $$ H1
  isplitl [H2]; · iapply (sepL_read (fun k : Option (Fin 80) => (atPos ER (kcell (c, k)) 0 ∅ 0 : sProp (MT nD τ sig Unit (Elt F) ℕ UU ℕ))) _ (fun M => some (ix (sR M))) (fun M => pos_ix (F := F) c (sR M) (sR_pos M)) sendOrder) $$ H2
  isplitl [H3]; · iapply (sepL_read (fun k : Option (Fin 80) => (atPos ER (kcell (c, k)) 0 ∅ 0 : sProp (MT nD τ sig Unit (Elt F) ℕ UU ℕ))) _ (fun p => some (ix (sW p))) (fun p => pos_ix (F := F) c (sW p) (sW_pos p)) [0, 1]) $$ H3
  iapply (sepL_read (fun k : Option (Fin 80) => (atPos ER (kcell (c, k)) 0 ∅ 0 : sProp (MT nD τ sig Unit (Elt F) ℕ UU ℕ))) _ (fun j => some (ix (sO j))) (fun j => pos_ix (F := F) c (sO j) (sO_pos j)) all8) $$ H4

def lfE : Dev nD ≃ Dev nD := ⟨lf, rt, fun c => rt_lf c, fun c => lf_rt c⟩
def rtE : Dev nD ≃ Dev nD := ⟨rt, lf, fun c => lf_rt c, fun c => rt_lf c⟩
def ptE : Dev nD ≃ Dev nD := ⟨pt, pt, fun c => pt_pt c, fun c => pt_pt c⟩

/-- The tokens dealt to the devices that pay them. -/
theorem toks_around : (bigSep Finset.univ fun c : Dev nD => (mint (F := F) c)) ⊢ bigSep Finset.univ fun c : Dev nD => pays (F := F) c := by
  unfold mint pays
  simp only [bigSep_sep']
  rw [bigSep_univ_equiv lfE (fun c : Dev nD => (dutyTok ER (barCell c) 0 0 : sProp (MT nD τ sig Unit (Elt F) ℕ UU ℕ))),
    bigSep_univ_equiv rtE (fun c : Dev nD => (dutyTok ER (barCell c) 0 1 : sProp (MT nD τ sig Unit (Elt F) ℕ UU ℕ))),
    bigSep_univ_equiv ptE (fun c : Dev nD => (dutyTok ER (barCell c) 0 2 : sProp (MT nD τ sig Unit (Elt F) ℕ UU ℕ)))]
  iintro ⟨H0, H1, H2, H3⟩
  isplitl [H0]; · iexact H0
  isplitl [H1]; · iexact H1
  isplitl [H2]; · iapply (deal_list (F := F) (fun M c => dutyTok ER (dCell c (sR M)) 0 0) sendOrder) $$ H2
  iexact H3

end Deal

/-! ## The invariants, opened once for all devices -/

/-- Every cell's invariant and its first round. -/
def recs (K : Dev nD × Option (Fin 80) → ℕ) : sProp 𝕄 :=
  bigSep Finset.univ (fun ck => iprop(cellInv ER (Rd m) (K ck) (kcell ck) ∗ reached ER (kcell ck) 0))
instance recs_persistent (K : Dev nD × Option (Fin 80) → ℕ) : BI.Persistent (recs m K) := by unfold recs; infer_instance

/-- What the launch's one step for all the devices leaves each of them. -/
def G' (c : Dev nD) : sProp 𝕄 := iprop(∃ K, recs m K ∗ places (F := F) c ∗ pays (F := F) c)

abbrev osem (j : Fin 80) : SemLoc sig := csem (some j)

section Sems
omit [FloatOps F]
theorem bigSep_opt (Φ : Option (Fin 80) → sProp (MT nD τ sig Unit (Elt F) ℕ UU ℕ)) : bigSep Finset.univ Φ = iprop(Φ none ∗ bigSep Finset.univ fun j : Fin 80 => Φ (some j)) := by
  rw [show (Finset.univ : Finset (Option (Fin 80))) = insert none (Finset.univ.map ⟨some, Option.some_injective _⟩) from
    (Finset.eq_univ_of_forall fun k => by
      cases k with
      | none => exact Finset.mem_insert_self _ _
      | some j => exact Finset.mem_insert_of_mem (Finset.mem_map.mpr ⟨j, Finset.mem_univ _, rfl⟩)).symm,
    bigSep_insert (fun h => by obtain ⟨j, -, hj⟩ := Finset.mem_map.mp h; exact absurd hj (by rintro ⟨⟩)), bigSep_map]
  rfl

theorem unscopedSems0_eq (c : Dev nD) : (unscopedSems0 c : sProp (MT nD τ sig Unit (Elt F) ℕ UU ℕ)) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option (Fin 80) => semVal (kcell (c, k)) 0 : sProp (MT nD τ sig Unit (Elt F) ℕ UU ℕ)) := by
  rw [unscopedSems0_eq, bigSep_opt]
  unfold Pipeline.ownSems0
  iintro ⟨HS, HB⟩
  isplitl [HB]; · iexact HB
  iexact HS
end Sems

theorem core_alloc (c : Dev nD) :
    iprop(Pipeline.ownSems0 (Ix := Unit) (Name := ℕ) (U := UU) (Lvl := ℕ) (Val := Elt F) (τ := τ) osem c ∗ unscopedSems0 c ∗ G m c)
      ⊢ (|={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks (F := F) c) : sProp (MT nD τ sig Unit (Elt F) ℕ UU ℕ)) := by
  unfold G
  iintro ⟨Hos, Hus, Hst, Hat, Htok⟩
  ihave Hv := (sems0_eq (F := F) c) $$ [Hos Hus]
  · isplitl [Hos] <;> iassumption
  imod (show iprop((bigSep Finset.univ fun k : Option (Fin 80) => semVal (kcell (c, k)) 0) ∗ bigSep Finset.univ fun k : Option (Fin 80) => roundState ER (Rd m) (kcell (c, k)) 0)
      ⊢ (|={Set.univ}=> bigSep Finset.univ fun k => iprop(∃ κ : ℕ, cellInv ER (Rd m) κ (kcell (c, k))) : sProp (MT nD τ sig Unit (Elt F) ℕ UU ℕ)) from by
        rw [← bigSep_sep']
        exact BIBase.Entails.trans (bigSep_mono fun k _ => BIBase.Entails.trans (Rounds.body_intro ER (Rd m) (kcell (c, k))) inv_alloc) (bigSep_fupd _ _)) $$ [Hv Hst] with Hinv
  · isplitl [Hv] <;> iassumption
  imodintro
  isplitl [Hinv]; · iexact Hinv
  isplitl [Hat]; · iexact Hat
  iexact Htok

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks (F := F) c) : sProp (MT nD τ sig Unit (Elt F) ℕ UU ℕ))
      ⊢ bigSep Finset.univ (G' m) := by
  rw [bigSep_sep', bigSep_sep', ← bigSep_univ_prod (fun ck : Dev nD × Option (Fin 80) => iprop(∃ κ : ℕ, cellInv ER (Rd m) κ (kcell ck))),
    bigSep_congr (s := Finset.univ) (fun (c : Dev nD) _ => bigSep_sep' Finset.univ (fun k : Option (Fin 80) => (atPos ER (kcell (c, k)) 0 ∅ 0 : sProp (MT nD τ sig Unit (Elt F) ℕ UU ℕ))) (fun k => reached ER (kcell (c, k)) 0)),
    bigSep_sep', ← bigSep_univ_prod (fun ck : Dev nD × Option (Fin 80) => (reached ER (kcell ck) 0 : sProp (MT nD τ sig Unit (Elt F) ℕ UU ℕ)))]
  iintro ⟨HI, ⟨Hat, HR⟩, Htok⟩
  ihave HK := (BI.bigSep_exists_pi Finset.univ (fun (ck : Dev nD × Option (Fin 80)) (κ : ℕ) => (cellInv ER (Rd m) κ (kcell ck) : sProp (MT nD τ sig Unit (Elt F) ℕ UU ℕ)))) $$ HI
  icases HK with ⟨%K, HI⟩
  ihave Hrec := (Entails.of_eq (bigSep_sep' Finset.univ (fun ck : Dev nD × Option (Fin 80) => (cellInv ER (Rd m) (K ck) (kcell ck) : sProp (MT nD τ sig Unit (Elt F) ℕ UU ℕ))) (fun ck => reached ER (kcell ck) 0)).symm) $$ [HI HR]
  · isplitl [HI] <;> iassumption
  ihave Htk := (show (bigSep Finset.univ fun c : Dev nD => toks (F := F) c) ⊢ bigSep Finset.univ fun c : Dev nD => mint (F := F) c from bigSep_mono fun c _ => toks_mint (F := F) c) $$ Htok
  ihave Htk := (toks_around (F := F)) $$ Htk
  ihave Hpl := (show (bigSep Finset.univ fun c : Dev nD => poss (F := F) c) ⊢ bigSep Finset.univ fun c : Dev nD => places (F := F) c from bigSep_mono fun c _ => poss_places (F := F) c) $$ [Hat]
  · unfold poss; iexact Hat
  ihave Hlin := (Entails.of_eq (bigSep_sep' Finset.univ (fun c : Dev nD => places (F := F) c) (fun c => pays (F := F) c)).symm) $$ [Hpl Htk]
  · isplitl [Hpl] <;> iassumption
  iapply (with_persistent (R := recs m K) (Φ := fun c : Dev nD => iprop(places (F := F) c ∗ pays (F := F) c)) fun c _ => by
    unfold G'
    iintro ⟨H1, H2, H3⟩
    iexists K
    isplitl [H1]; · iexact H1
    isplitl [H2] <;> iassumption)
  isplitl [Hrec]
  · unfold recs; iexact Hrec
  iexact Hlin

theorem glob : (bigSep Finset.univ fun c => iprop(Pipeline.ownSems0 (Ix := Unit) (Name := ℕ) (U := UU) (Lvl := ℕ) (Val := Elt F) (τ := τ) osem c ∗ unscopedSems0 c ∗ G m c) : sProp (MT nD τ sig Unit (Elt F) ℕ UU ℕ))
    ⊢ |={Set.univ}=> bigSep Finset.univ (G' m) :=
  BIBase.Entails.trans (BIBase.Entails.trans (bigSep_mono fun c _ => core_alloc m c) (bigSep_fupd _ _)) (BI.fupd_mono (regroup m))

/-! ## The credits of the launch -/

section Credit
omit [FloatOps F]

theorem sR_inj {M N : Msg} (h : sR M = sR N) : M = N := Role.rcv.inj ((role_sR M).symm.trans ((congrArg role h).trans (role_sR N)))
theorem dev_of {c d : Dev nD} {s s' : SemLoc sig} (h : (((c : Thread nD τ), s) : GSem nD τ sig) = ((d : Thread nD τ), s')) : c = d :=
  congrArg (fun g : GSem nD τ sig => g.1.1) h

theorem Osum_bar (d c : Dev nD) : ∀ l : List Msg, Osum d l (barCell c) () = 0
  | [] => rfl
  | M :: l => by
    unfold Osum
    rw [Pi.add_apply, Finsupp.add_apply, Osum_bar d c l, tallyAt_apply, if_neg (fun h => reg_ne_dma (congrArg Prod.snd h.1)), Nat.add_zero]

theorem Osum_recv (d c : Dev nD) (M : Msg) : ∀ l : List Msg, l.Nodup → Osum d l (dCell c (sR M)) () = if M ∈ l ∧ d = frm M c then amt M else 0
  | [], _ => by rw [if_neg (fun h => List.not_mem_nil h.1)]; rfl
  | N :: l, hn => by
    have hn' := List.nodup_cons.mp hn
    unfold Osum
    rw [Pi.add_apply, Finsupp.add_apply, Osum_recv d c M l hn'.2, tallyAt_apply]
    by_cases hMN : M = N
    · subst hMN
      rw [if_neg (fun h => hn'.1 h.1), Nat.zero_add]
      by_cases hd : d = frm M c
      · rw [if_pos ⟨by rw [hd, tgt_frm], rfl⟩, if_pos ⟨List.mem_cons_self, hd⟩]
      · rw [if_neg (fun h => hd (by rw [dev_of h.1, frm_tgt])), if_neg (fun h => hd h.2)]
    · rw [if_neg (c := dCell c (sR M) = dCell (tgt N d) (sR N) ∧ () = ()) (fun h => hMN (sR_inj (SemLoc.dma.inj (congrArg Prod.snd h.1)))), Nat.add_zero]
      by_cases hm : M ∈ l ∧ d = frm M c
      · rw [if_pos hm, if_pos ⟨List.mem_cons_of_mem _ hm.1, hm.2⟩]
      · rw [if_neg hm, if_neg (fun h => hm ⟨(List.mem_cons.mp h.1).resolve_left hMN, h.2⟩)]

theorem owed_bar (d c : Dev nD) : O₀ d (barCell c) () = (if d = pt c then 1 else 0) + (if d = lf c then 1 else 0) + (if d = rt c then 1 else 0) := by
  have key (f g : Dev nD → Dev nD) (h1 : ∀ x, f (g x) = x) (h2 : ∀ x, g (f x) = x) : (tallyAt (barCell (f d)) () 1 : CellTallies nD τ sig Unit) (barCell c) () = if d = g c then 1 else 0 := by
    rw [tallyAt_apply]
    by_cases h : d = g c
    · rw [if_pos ⟨by rw [h, h1], rfl⟩, if_pos h]
    · rw [if_neg (fun h' => h (by rw [dev_of h'.1, h2])), if_neg h]
  unfold O₀ O₁ O₂
  rw [Pi.add_apply, Finsupp.add_apply, Pi.add_apply, Finsupp.add_apply, Pi.add_apply, Finsupp.add_apply, Osum_bar, Nat.zero_add,
    key pt pt pt_pt pt_pt, key rt lf rt_lf lf_rt, key lf rt lf_rt rt_lf]

theorem owed_recv (d c : Dev nD) (M : Msg) : O₀ d (dCell c (sR M)) () = if d = frm M c then amt M else 0 := by
  have hb (e : Dev nD) : (tallyAt (barCell e) () 1 : CellTallies nD τ sig Unit) (dCell c (sR M)) () = 0 := by
    rw [tallyAt_apply, if_neg (fun h => reg_ne_dma (congrArg Prod.snd h.1).symm)]
  unfold O₀ O₁ O₂
  rw [Pi.add_apply, Finsupp.add_apply, Pi.add_apply, Finsupp.add_apply, Pi.add_apply, Finsupp.add_apply, hb, hb, hb, Nat.add_zero,
    Osum_recv d c M sendOrder sendOrder_nodup]
  exact if_congr (and_iff_right (Finset.mem_univ M)) rfl rfl

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (pt c) fun _ => 1, Finset.sum_ite_eq' Finset.univ (lf c) fun _ => 1, Finset.sum_ite_eq' Finset.univ (rt c) fun _ => 1,
    if_pos (Finset.mem_univ _), if_pos (Finset.mem_univ _), if_pos (Finset.mem_univ _)]

theorem launch_recv (c : Dev nD) (M : Msg) :
    tallyOn (dCell c (sR M)) (launchCredit (Pipeline.owing O₀) 0 (dCell c (sR M))) = (tallyAt (dCell c (sR M)) () (amt M) : CellTallies nD τ sig Unit) := by
  unfold tallyAt; refine congrArg _ (Finsupp.ext fun u => ?_); cases u
  rw [Pipeline.launchCredit_owing, Finsupp.single_eq_same, Finset.sum_congr rfl fun d _ => owed_recv d c M, Finset.sum_ite_eq' Finset.univ (frm M c) fun _ => amt M,
    if_pos (Finset.mem_univ _)]

abbrev credL : List (SemLoc sig) := SemLoc.reg barS :: recvOrder.map (fun M => SemLoc.dma (sR M))
theorem credL_nodup : credL.Nodup := by
  refine List.nodup_cons.mpr ⟨fun h => ?_, ?_⟩
  · obtain ⟨M, -, hM⟩ := List.mem_map.mp h
    exact reg_ne_dma hM.symm
  · exact List.Nodup.map (fun M N h => sR_inj (SemLoc.dma.inj h)) (recv_perm.nodup_iff.mp sendOrder_nodup)

theorem creds (c : Dev nD) :
    (Pipeline.launchCred O₀ c : sProp (MT nD τ sig Unit (Elt F) ℕ UU ℕ)) ⊢ iprop(cred (tallyAt (barCell c) () 3) ∗ sepL (fun M => cred (tallyAt (dCell c (sR M)) () (amt M))) recvOrder) := by
  unfold Pipeline.launchCred
  refine BIBase.Entails.trans (big_sub (fun sm : SemLoc sig => (cred (tallyOn ((c : Thread nD τ), sm) (launchCredit (Pipeline.owing O₀) 0 ((c : Thread nD τ), sm))) : sProp (MT nD τ sig Unit (Elt F) ℕ UU ℕ))) credL credL_nodup) ?_
  rw [sepL_cons, ← launch_bar]
  refine sep_mono_right ?_
  exact sepL_read (fun sm : SemLoc sig => (cred (tallyOn ((c : Thread nD τ), sm) (launchCredit (Pipeline.owing O₀) 0 ((c : Thread nD τ), sm))) : sProp (MT nD τ sig Unit (Elt F) ℕ UU ℕ)))
    (fun M => cred (tallyAt (dCell c (sR M)) () (amt M))) (fun M => SemLoc.dma (sR M)) (fun M => congrArg cred (launch_recv c M)) recvOrder

end Credit

end Cert.KernelIdealProof
-- ==== Proof.KILaunch.lean ====
/-
The launch of the ring kernel: each device's share of the ghost state in, the body, and what is read off at the end.
-/
module

public import proofs.«01_k».proof.Proof.KIGhost
public import proofs.«01_k».proof.Proof.Gen.KernelIdeal.Points
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-! ## Waiting on the staging semaphores -/

omit [FloatOps F] in
theorem O₀_pos {c : Dev nD} {g : GSem nD τ sig} {u : Unit} (h : 0 < O₀ c g u) :
    (∃ M, g = dCell (tgt M c) (sR M)) ∨ ∃ d, g = barCell d := by
  have ht {d : Dev nD} (h : 0 < tallyAt (barCell d) () 1 g u) : g = barCell d := by
    rw [tallyAt_apply] at h
    by_cases h' : g = barCell d ∧ u = ()
    · exact h'.1
    · rw [if_neg h'] at h; exact absurd h (Nat.lt_irrefl 0)
  unfold O₀ O₁ O₂ at h
  replace h : 0 < Osum c sendOrder g u + tallyAt (barCell (pt c)) () 1 g u + tallyAt (barCell (rt c)) () 1 g u + tallyAt (barCell (lf c)) () 1 g u := h
  rcases Nat.eq_zero_or_pos (Osum c sendOrder g u) with h0 | h0
  · rcases Nat.eq_zero_or_pos (tallyAt (barCell (pt c)) () 1 g u) with h1 | h1
    · rcases Nat.eq_zero_or_pos (tallyAt (barCell (rt c)) () 1 g u) with h2 | h2
      · exact Or.inr ⟨lf c, ht (by omega)⟩
      · exact Or.inr ⟨rt c, ht h2⟩
    · exact Or.inr ⟨pt c, ht h1⟩
  · obtain ⟨M, -, hM⟩ := Osum_pos h0
    exact Or.inl ⟨M, hM⟩

theorem mayWait_stage (c : Dev nD) (q : DmaSem sig) (hq : lvI q = 0) (O : CellTallies nD τ sig Unit) (hO : O = O₀ c ∨ O = 0) :
    (levAts L lv : sProp (MT nD τ sig Unit (Elt F) ℕ UU ℕ)) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨M, rfl⟩ | ⟨d, rfl⟩ <;> exact Finset.mem_singleton_self _)
      (fun p hp => by rw [Finset.mem_singleton.mp hp]; show lvI q ≤ 0; omega)
      (fun g u hg => by
        rcases O₀_pos hg with ⟨M, rfl⟩ | ⟨d, rfl⟩
        · show 0 < lvI (sR M); rw [lvI_sR]; have := lvM_pos M; omega
        · show 0 < 1; omega)
  · rw [MayWait_zero]; iintro -; iempintro

/-! ## The data of the launch -/

/-- What a device starts with. -/
def start (c : Dev nD) : sProp (MT nD τ sig Unit (Elt F) ℕ UU ℕ) :=
  iprop(G' m c ∗ cred (tallyAt (barCell c) () 3) ∗ sepL (fun M => cred (tallyAt (dCell c (sR M)) () (amt M))) recvOrder ∗ levAts L lv
    ∗ (((c : Thread nD τ).loc main_arg1) ↦{fullShare} m ((c : Thread nD τ).loc main_arg1))
    ∗ ((c : Thread nD τ).loc main_v1) ↦{fullShare} m ((c : Thread nD τ).loc main_v1))

/-- The buffers the kernel works in. -/
def scr (c : Dev nD) : sProp (MT nD τ sig Unit (Elt F) ℕ UU ℕ) :=
  Pipeline.scopedRest (Ix := Unit) (Name := ℕ) (U := UU) (Lvl := ℕ) (Val := Elt F) spec0 c

def Φ₀ (c : Dev nD) : sProp (MT nD τ sig Unit (Elt F) ℕ UU ℕ) := iprop(start m c ∗ scr (F := F) c)
/-- What is held of the arrays at the end. -/
def done (c : Dev nD) : sProp (MT nD τ sig Unit (Elt F) ℕ UU ℕ) :=
  iprop((((c : Thread nD τ).loc main_arg1) ↦{fullShare} m ((c : Thread nD τ).loc main_arg1))
    ∗ (((c : Thread nD τ).loc main_v1) ↦{fullShare} resC m c) ∗ semVal (barCell c) 0)
def Φ₁ (c : Dev nD) : sProp (MT nD τ sig Unit (Elt F) ℕ UU ℕ) :=
  iprop(done m c ∗ Pipeline.ownSems0 (Ix := Unit) (Name := ℕ) (U := UU) (Lvl := ℕ) (Val := Elt F) (τ := τ) osem c ∗ scr (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => X m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp (MT nD τ sig Unit (Elt F) ℕ UU ℕ))
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Into the body -/

theorem in_wSrc (c : Dev nD) : iprop((((c : Thread nD τ).loc main_arg1) ↦{fullShare} m ((c : Thread nD τ).loc main_arg1)) ∗ sepL (wtok (F := F) c) all16)
    ⊢ sepL (wSrc m c) [0, 1, 2, 3, 4, 5, 6, 7, 8, 9, 10, 11, 12, 13, 14, 15] := by
  iintro ⟨H, Ht⟩
  ihave H := (w_in c (m ((c : Thread nD τ).loc main_arg1))) $$ H
  iapply (sepL_sep _ (wtok (F := F) c) all16)
  isplitl [H]; · iexact H
  iexact Ht

theorem in_oTo (c : Dev nD) (f : Buf (Elt F) ((c : Thread nD τ).loc main_v1)) :
    iprop((((c : Thread nD τ).loc main_v1) ↦{fullShare} f) ∗ sepL (fun j : Fin 8 => dutyTok ER (dCell c (sO j)) 0 0) all8
      ∗ sepL (fun j : Fin 8 => atPos ER (dCell c (sO j)) 0 ∅ 0) all8) ⊢ sepL (oTo (F := F) c) all8 := by
  iintro ⟨H, Ht, Ha⟩
  ihave H := (res_in c f) $$ H
  iapply (sepL_sep (fun j : Fin 8 => iprop(∃ f : Buf (Elt F) ((resM j).view.loc (c : Thread nD τ)), (resM j).view.loc (c : Thread nD τ) ↦[(resM j).view.set]{fullShare} f))
    (fun j : Fin 8 => iprop(dutyTok ER (dCell c (sO j)) 0 0 ∗ atPos ER (dCell c (sO j)) 0 ∅ 0)) all8)
  isplitl [H]; · iexact H
  iapply (sepL_sep (fun j : Fin 8 => (dutyTok ER (dCell c (sO j)) 0 0 : sProp (MT nD τ sig Unit (Elt F) ℕ UU ℕ))) (fun j : Fin 8 => atPos ER (dCell c (sO j)) 0 ∅ 0) all8)
  isplitl [Ht]; · iexact Ht
  iexact Ha

theorem in_snd (c : Dev nD) : iprop(sepL (fun M => dutyTok ER (dCell c (sS M)) 0 0) sendOrder ∗ sepL (fun M => dutyTok ER (dCell (tgt M c) (sR M)) 0 0) sendOrder
    ∗ sepL (fun M => atPos ER (dCell c (sS M)) 0 ∅ 0) sendOrder) ⊢ sepL (sndT (F := F) c) sendOrder := by
  iintro ⟨H, Ht, Ha⟩
  iapply (sepL_sep (fun M => (dutyTok ER (dCell c (sS M)) 0 0 : sProp (MT nD τ sig Unit (Elt F) ℕ UU ℕ)))
    (fun M => iprop(dutyTok ER (dCell (tgt M c) (sR M)) 0 0 ∗ atPos ER (dCell c (sS M)) 0 ∅ 0)) sendOrder)
  isplitl [H]; · iexact H
  iapply (sepL_sep (fun M => (dutyTok ER (dCell (tgt M c) (sR M)) 0 0 : sProp (MT nD τ sig Unit (Elt F) ℕ UU ℕ)))
    (fun M => atPos ER (dCell c (sS M)) 0 ∅ 0) sendOrder)
  isplitl [Ht]; · iexact Ht
  iexact Ha

theorem in_rcv (c : Dev nD) : iprop(sepL (fun M => cred (tallyAt (dCell c (sR M)) () (amt M))) recvOrder ∗ sepL (fun M => atPos ER (dCell c (sR M)) 0 ∅ 0) sendOrder)
    ⊢ sepL (rcvR (F := F) c) recvOrder := by
  iintro ⟨H, Ha⟩
  iapply (sepL_sep (fun M => (cred (tallyAt (dCell c (sR M)) () (amt M)) : sProp (MT nD τ sig Unit (Elt F) ℕ UU ℕ)))
    (fun M => atPos ER (dCell c (sR M)) 0 ∅ 0) recvOrder)
  isplitl [H]; · iexact H
  iapply (sepL_perm (fun M => (atPos ER (dCell c (sR M)) 0 ∅ 0 : sProp (MT nD τ sig Unit (Elt F) ℕ UU ℕ))) recv_perm)
  iexact Ha

theorem in_slots (c : Dev nD) : iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)) ⊢ slots (F := F) c := by
  iintro ⟨H0, H1, H2⟩
  unfold slots
  isplitl [H0]; · iapply (cw_in c); iexact H0
  isplitl [H1]; · iapply (ccw_in c); iexact H1
  iapply (ch_in c); iexact H2

theorem in_free (c : Dev nD) (K : Dev nD × Option (Fin 80) → ℕ) (p : Fin 2) :
    iprop(ctx m K ∗ (∃ f : Buf (Elt F) ((wsM p).view.loc (c : Thread nD τ)), (wsM p).view.loc (c : Thread nD τ) ↦[(wsM p).view.set]{fullShare} f)
      ∗ atPos ER (dCell c (sW p)) 0 ∅ 0) ⊢ wFree (F := F) c p 0 := by
  iintro ⟨#Hc, H, Ha⟩
  ihave Hr := (ctx_d m K c (sW p) (sW_pos p)) $$ Hc
  icases Hr with ⟨-, Hr⟩
  unfold wFree
  isplitl [H]; · iexact H
  isplitl [Ha]; · iexact Ha
  iexact Hr

theorem in_all (c : Dev nD) : iprop(Φ₀ m c ∗ (∃ W, owes (c : Thread nD τ) (O₀ c) W) ∗ (((c : Thread nD τ).loc cc0_stg0_0) ↦{fullShare} X m c))
    ⊢ iprop(∃ K, ctx m K ∗ (∃ W, owes (c : Thread nD τ) (O₀ c) W) ∗ sepL (sndT (F := F) c) sendOrder ∗ barT (F := F) c ∗ sepL (rcvR (F := F) c) recvOrder ∗ sepL (pcP m c) gStart
      ∗ wSt m c (wFree (F := F) c 0 0) (wFree (F := F) c 1 0) [0, 1, 2, 3, 4, 5, 6, 7, 8, 9, 10, 11, 12, 13, 14, 15] [] 0 (keepR c iprop(emp))) := by
  unfold Φ₀ start scr G' places pays
  rw [scopedRest0_eq]
  simp only [sepL_cons (fun p : Fin 2 => (atPos ER (dCell c (sW p)) 0 ∅ 0 : sProp (MT nD τ sig Unit (Elt F) ℕ UU ℕ)))]
  iintro ⟨⟨⟨⟨%K, #Hrec, ⟨HaB, HaS, HaR, ⟨HaW0, HaW1, -⟩, HaO⟩, ⟨HtB0, HtB1, HtB2⟩, HtS, HtR, HtW, HtO⟩, HcB, HcR, #Hlev, Hw, Hv⟩, ⟨H0, H1, H2, H3, H4, H5, H6⟩⟩, Ho, Hx⟩
  iexists K
  ihave Hctx : ctx m K $$ []
  · unfold ctx
    isplitr; · unfold recs; iexact Hrec
    iexact Hlev
  icases Hctx with #Hctx
  isplitr; · iexact Hctx
  isplitl [Ho]; · iexact Ho
  isplitl [HtS HtR HaS]
  · iapply (in_snd c)
    isplitl [HtS]; · iexact HtS
    isplitl [HtR]; · iexact HtR
    iexact HaS
  isplitl [HtB0 HtB1 HtB2 HaB HcB H0 H1 H2]
  · unfold barT
    isplitl [HtB0]; · iexact HtB0
    isplitl [HtB1]; · iexact HtB1
    isplitl [HtB2]; · iexact HtB2
    isplitl [HaB]; · iexact HaB
    isplitl [HcB]; · iexact HcB
    iapply (in_slots c)
    isplitl [H0]; · iexact H0
    isplitl [H1]; · iexact H1
    iexact H2
  isplitl [HcR HaR]
  · iapply (in_rcv c)
    isplitl [HcR]; · iexact HcR
    iexact HaR
  ihave H6 := (am_in m c) $$ H6
  icases H6 with ⟨Htk, Hb0, Hb1⟩
  isplitl [Hx Hb0 Hb1]
  · iapply (g_in m c)
    isplitl [Hx]; · iapply (x_in m c); iexact Hx
    isplitl [Hb0]; · iexact Hb0
    iexact Hb1
  ihave H4 := (ws_in c) $$ H4
  icases H4 with ⟨Hws0, Hws1⟩
  unfold wSt
  isplitl [Hws0 HaW0]
  · iapply (in_free m c K 0)
    isplitr; · iexact Hctx
    isplitl [Hws0]; · iexact Hws0
    iexact HaW0
  isplitl [Hws1 HaW1]
  · iapply (in_free m c K 1)
    isplitr; · iexact Hctx
    isplitl [Hws1]; · iexact Hws1
    iexact HaW1
  isplitl [Hw HtW]
  · iapply (in_wSrc m c)
    isplitl [Hw]; · iexact Hw
    iexact HtW
  isplitr; · unfold sepL; iempintro
  isplitl [H3]
  · icases H3 with ⟨%f, H3⟩
    unfold WB
    iexists f
    isplitl [H3]; · iexact H3
    ipureintro; intro i hi; exact absurd hi (Nat.not_lt_zero _)
  unfold keepR
  isplitl [H5]
  · icases H5 with ⟨%f, H5⟩
    unfold OutI; iexists f; iexact H5
  isplitl [Htk]; · iexact Htk
  isplitl [Hv HtO HaO]
  · iapply (in_oTo c (m ((c : Thread nD τ).loc main_v1)))
    isplitl [Hv]; · iexact Hv
    isplitl [HtO]; · iexact HtO
    iexact HaO
  iempintro

/-! ## Out of the body -/

set_option maxRecDepth 20000 in
theorem dEnd_perm : dEnd.Perm ((List.finRange 80).map fun j : Fin 80 => ((⟨j.val + 1, by show _ < 81; omega⟩ : Fin 81) : DmaSem sig)) := by decide

theorem out_sems (c : Dev nD) : sepL (zR (F := F) c) dEnd
    ⊢ Pipeline.ownSems0 (Ix := Unit) (Name := ℕ) (U := UU) (Lvl := ℕ) (Val := Elt F) (τ := τ) osem c := by
  refine BIBase.Entails.trans (sepL_perm _ dEnd_perm) ?_
  rw [← sepL_map]
  exact (big_list (fun j : Fin 80 => (semVal ((c : Thread nD τ), osem j) 0 : sProp (MT nD τ sig Unit (Elt F) ℕ UU ℕ))) (List.finRange 80) (List.nodup_finRange 80) (List.mem_finRange)).2

theorem out_all (c : Dev nD) (K : Dev nD × Option (Fin 80) → ℕ) :
    ST m K c [] [] [] dEnd gEnd (oSt m c [] [] [] [7, 6, 5, 4, 3, 2, 1, 0] iprop(amF m c ∗ wbF m c ∗ wRest m c allW ∗ semVal (barCell c) 0 ∗ emp))
    ⊢ iprop(Φ₁ m c ∗ (∃ W, owes (c : Thread nD τ) 0 W) ∗ (((c : Thread nD τ).loc cc0_stg0_0) ↦{fullShare} X m c)) := by
  unfold ST oSt wRest Φ₁ done scr
  rw [scopedRest0_eq]
  iintro ⟨-, Ho, -, -, -, Hd, Hg, -, -, -, Hout, Ham, Hwb, ⟨Hs0, Hs1, Hw⟩, Hbar, -⟩
  ihave Hg := (g_out m c) $$ Hg
  icases Hg with ⟨Hx, H0, H1, H2⟩
  ihave Hout := (res_out m c) $$ Hout
  icases Hout with ⟨Hv, H5⟩
  isplitl [Hd Hw Hv Hbar H0 H1 H2 H5 Ham Hwb Hs0 Hs1]
  · isplitl [Hw Hv Hbar]
    · isplitl [Hw]; · iapply (w_out m c); iexact Hw
      isplitl [Hv]; · iexact Hv
      iexact Hbar
    isplitl [Hd]; · iapply (out_sems c); iexact Hd
    isplitl [H0]; · iexact H0
    isplitl [H1]; · iexact H1
    isplitl [H2]; · iexact H2
    isplitl [Hwb]; · iexists (wbV m c); unfold wbF; iexact Hwb
    isplitl [Hs0 Hs1]
    · iapply (ws_out c)
      isplitl [Hs0]; · iexact Hs0
      iexact Hs1
    isplitl [H5]; · iexact H5
    iexists (amx m); unfold amF; iexact Ham
  isplitl [Ho]; · iexact Ho
  iexact Hx

/-! ## The body's obligation -/

abbrev stg (c : Dev nD) (b : Ref sig .tc) (X : b.ty.Contents (Elt F)) : sProp (MT nD τ sig Unit (Elt F) ℕ UU ℕ) :=
  iprop(∃ f : Buf (Elt F) (((c : Dev nD) : Thread nD τ).loc b), ⌜f = X⌝ ∗ (((c : Thread nD τ).loc b) ↦{fullShare} f))

def bodyPre (c : Dev nD) : sProp (MT nD τ sig Unit (Elt F) ℕ UU ℕ) :=
  iprop(Φ₀ m c ∗ (dats m ρ 0 c).owesAt () t0_0.castSucc
    ∗ (∃ d, stg c cc0_stg0_0 ((dats m ρ 0 c).before (0 : Fin 1) t0_0 d)))
def bodyPost (c : Dev nD) : sProp (MT nD τ sig Unit (Elt F) ℕ UU ℕ) :=
  iprop(Φ₁ m c ∗ (dats m ρ 0 c).owesAt () t0_0.succ ∗ stg c cc0_stg0_0 (X m c))

theorem post_intro (c : Dev nD) : iprop(Φ₁ m c ∗ (∃ W, owes (c : Thread nD τ) 0 W) ∗ (((c : Thread nD τ).loc cc0_stg0_0) ↦{fullShare} X m c)) ⊢ bodyPost m ρ c := by
  unfold bodyPost Dat.owesAt Pipeline.owesWithin
  rw [show (dats m ρ 0 c).owed t0_0.succ = 0 from rfl]
  iintro ⟨H, ⟨%W, Ho⟩, Hx⟩
  isplitl [H]; · iexact H
  isplitl [Ho]
  · iexists W
    isplitr; · ipureintro; exact fun _ _ => Or.inl trivial
    iexact Ho
  iexists _; isplitr; · (ipureintro; rfl)
  iexact Hx

attribute [local irreducible] cc0_body

theorem sound_body (c : Dev nD) : bodyPre m ρ c ⊢ WP c (at0 (cc0_body (F := F))) (fun _ => bodyPost m ρ c) := by
  unfold bodyPre
  iintro ⟨HΦ, Ho, ⟨%d0, %g0, %hg0, Hx⟩⟩
  have hx : g0 = X m c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = O₀ c from rfl]
  ihave H := (in_all m c) $$ [HΦ HO Hx]
  · isplitl [HΦ]; · iexact HΦ
    isplitl [HO]; · iexists W; iexact HO
    iexact Hx
  icases H with ⟨%K, H⟩
  iapply (chain m K (R := iprop(emp)) c (Q := fun _ => bodyPost m ρ c) (BIBase.Entails.trans (out_all m c K) (post_intro m ρ c)))
  iexact H

set_option maxRecDepth 4000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact sound_body m ρ c

/-! ## The launch -/

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hw, Hv⟩, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    isplitl [Hlev]; · iexact Hlev
    isplitl [Hw] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀ scr
  iintro ⟨Hs, -, Hr⟩
  isplitl [Hs]; · iexact Hs
  iexact Hr

theorem phi1_exit (c : Dev nD) :
    (dats m ρ 0 c).Φ (Fin.last cfg0.N) ⊢ iprop(done m c ∗ Pipeline.ownSems0 osem c ∗ Pipeline.scopedRest cfg0.spec c) :=
  BI.Entails.refl (Φ₁ m c)

theorem waits (c : Dev nD) : (levAts L lv : sProp (MT nD τ sig Unit (Elt F) ℕ UU ℕ)) ⊢ Pipeline.cellsWaits cfgs (dats m ρ) () 0 c :=
  Pipeline.cellsWaits_intro cfgs (dats m ρ) () 0 c fun w s t =>
    mayWait_stage c _ (by revert w s; decide) _ (by
      rcases t with ⟨_ | _, ht⟩
      · exact Or.inl rfl
      · exact Or.inr rfl)

/-! ### The run -/

/-- What is read off at the end. -/
def QY (c : Dev nD) (s : MemSt nD τ sig (Elt F)) : Prop :=
  s.mem ((c : Thread nD τ).loc main_arg1) = m ((c : Thread nD τ).loc main_arg1) ∧ s.mem ((c : Thread nD τ).loc main_v1) = resC m c
    ∧ ∀ sm : SemLoc sig, sm.isScoped .tc = false → s.sem ((c.tc : Thread nD τ), sm) = 0

theorem read_end (c : Dev nD) (s' : Phys nD τ sig (Elt F)) :
    iprop(done m c ∗ emp ∗ SI s') ⊢ |={Set.univ}=> iprop(⌜QY m c s'.mem⌝ ∗ SI s' : sProp (MT nD τ sig Unit (Elt F) ℕ UU ℕ)) := by
  unfold done
  rw [← unscopedSems0_eq]
  iintro ⟨⟨Hw, Hv, Hb⟩, -, HSI⟩
  ihave %h1 := SI_pointsTo_agree $$ [HSI Hw]
  · isplitl [HSI] <;> iassumption
  ihave %h2 := SI_pointsTo_agree $$ [HSI Hv]
  · isplitl [HSI] <;> iassumption
  ihave H := (Pipeline.unscopedSems0_read (X := unscopedSems0 c) (c := c) fupd_intro s') $$ [Hb HSI]
  · isplitl [Hb] <;> iassumption
  imod H with ⟨%h3, HSI⟩
  imodintro
  isplitr
  · ipureintro
    exact ⟨funext fun i => h1 i (Finset.mem_univ i), funext fun i => h2 i (Finset.mem_univ i), h3⟩
  iexact HSI

/-- What the run leaves: the arguments as they were, the results, every semaphore at zero. -/
def QR (s : MemSt nD τ sig (Elt F)) : Prop :=
  (∀ c : Dev nD, s.mem ((c : Thread nD τ).loc main_arg0) = m ((c : Thread nD τ).loc main_arg0)
    ∧ s.mem ((c : Thread nD τ).loc main_arg1) = m ((c : Thread nD τ).loc main_arg1) ∧ s.mem ((c : Thread nD τ).loc main_v1) = resC m c)
  ∧ s.sem = fun _ => 0

set_option maxRecDepth 8000 in
/-- Every run ends, with that. -/
theorem run_main : θ_run defs (onTc (τ := τ) (main (F := F))) (s₀ m ρ) (fun r => QR m r.2) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := done m) (Z := fun _ => iprop(emp))
    (hX := start_intro m ρ) (hin := phi0_intro m ρ) (hout := phi1_exit m ρ)
    (QY := QY m)
    (hY := read_end m)
    (hQ := fun r h hs => ⟨fun c => ⟨((h c).1 (0 : Fin 1)).trans ((dats (F := F) m ρ 0 c).arrAt_in (0 : Fin 1) rfl _), (h c).2.2.1, (h c).2.2.2.1⟩,
      sem_eq_zero hs fun c => (h c).2.2.2.2⟩)

end Cert.KernelIdealProof
-- ==== Proof.KITransfer.lean ====
/-
The program read at the machine's own floats and the program read at the ideal ones are the same text: what is proved of
the one, for any floats, is proved of the other.
-/
module

public import proofs.«01_k».proof.Defs
public import proofs.«01_k».proof.Proof.Gen.Kernel
public import proofs.«01_k».proof.Proof.KILaunch
public import Idealize.ShloMosaic.Lib.Pipeline.Regions
public import Idealize.ShloMosaic.Lib.StableHlo.RunHlo

@[expose] public section

noncomputable section

namespace Cert.KernelIdealProof

open Idealize.ShloMosaic Idealize.SL.Sem

variable {F : FTy → Type} [FloatOps F]

theorem defs_eq : (Cert.Kernel.defs (F := F)) = (Cert.KernelIdeal.defs (F := F)) := by chain_rfl
theorem main_eq : (Cert.Kernel.main (F := F)) = (Cert.KernelIdeal.main (F := F)) := by chain_rfl

theorem frame_kernel : quiescent_Kernel := fun m g _ => by
  rw [defs_eq, main_eq]
  exact θ_run_mono (run_main (F := Bits) m g) fun r h => ⟨fun c => ⟨(h.1 c).1, (h.1 c).2.1⟩, h.2⟩

theorem frame_ideal : quiescent_KernelIdeal := fun m g _ =>
  θ_run_mono (run_main (F := Ideal) m g) fun r h => ⟨fun c => ⟨(h.1 c).1, (h.1 c).2.1⟩, h.2⟩

end Cert.KernelIdealProof
-- ==== Proof.KVScalar.lean ====
/-
The quantisation of one entry, over the extended reals: rounding `y · (127 / g)` and cutting it at 127, against
rounding `y / (g / 127)` and cutting it at −127 and 127, when `0 ≤ y ≤ g`.
-/
module

public import Idealize.ShloMosaic.PureOps.Ideal.Laws
public import Idealize.ShloMosaic.Lib.ValueIdx

@[expose] public section

noncomputable section

namespace Cert.KernelIdealProof

open Idealize.ShloMosaic
open Idealize.ShloMosaic.ValueIdx

theorem roundHalfEven_nonneg {r : ℝ} (h : 0 ≤ r) : 0 ≤ Ideal.roundHalfEven r := by
  have h0 : 0 ≤ ⌊r⌋ := Int.floor_nonneg.mpr h
  unfold Ideal.roundHalfEven
  dsimp only
  split_ifs <;> omega

theorem quant_eq (g y : EReal) (h0 : 0 ≤ y) (h : y ≤ g) :
    min (Ideal.liftRound Ideal.roundHalfEven (y * Ideal.div ((127 : ℝ) : EReal) g)) ((127 : ℝ) : EReal) * Ideal.div g ((127 : ℝ) : EReal)
      = min ((127 : ℝ) : EReal) (max ((-127 : ℝ) : EReal) (Ideal.liftRound Ideal.roundHalfEven (Ideal.div y (Ideal.div g ((127 : ℝ) : EReal)))))
        * Ideal.div g ((127 : ℝ) : EReal) := by
  have h127 : ((127 : ℝ) : EReal) ≠ 0 := by norm_num
  have hg0 : 0 ≤ g := h0.trans h
  have hd : Ideal.div g ((127 : ℝ) : EReal) = g * ((127 : ℝ) : EReal)⁻¹ := by rw [Ideal.div, if_neg h127]
  rcases eq_or_lt_of_le hg0 with hg | hg
  · rw [hd, ← hg, zero_mul, mul_zero, mul_zero]
  have hgn : g ≠ 0 := hg.ne'
  have hk : Ideal.div ((127 : ℝ) : EReal) g = ((127 : ℝ) : EReal) * g⁻¹ := by rw [Ideal.div, if_neg hgn]
  induction g with
  | bot => simp at hg0
  | top =>
    have e : (⊤ : EReal) * ((127 : ℝ) : EReal)⁻¹ = ⊤ := by
      rw [← EReal.coe_inv]; exact EReal.top_mul_coe_of_pos (by norm_num)
    have r0 : Ideal.liftRound Ideal.roundHalfEven 0 = 0 := by
      have := Ideal.liftRound_coe (r := 0) Ideal.roundHalfEven
      rw [EReal.coe_zero] at this
      rw [this, Ideal.roundHalfEven]; norm_num
    have hy : Ideal.div y ⊤ = 0 := by rw [Ideal.div, if_neg (by simp), EReal.inv_top, mul_zero]
    rw [hd, hk, e, hy, EReal.inv_top, mul_zero, mul_zero, r0,
      min_eq_left (by exact_mod_cast (by norm_num : (0:ℝ) ≤ 127)),
      max_eq_right (by exact_mod_cast (by norm_num : (-127:ℝ) ≤ 0)),
      min_eq_right (by exact_mod_cast (by norm_num : (0:ℝ) ≤ 127))]
  | coe a =>
    induction y with
    | bot => simp at h0
    | top => simp at h
    | coe b =>
      have ha : 0 < a := by exact_mod_cast hg
      have hb : 0 ≤ b := by exact_mod_cast h0
      have hdr : (a : EReal) * ((127 : ℝ) : EReal)⁻¹ = ((a * (127 : ℝ)⁻¹ : ℝ) : EReal) := by
        rw [← EReal.coe_inv, ← EReal.coe_mul]
      have hsn : ((a * (127 : ℝ)⁻¹ : ℝ) : EReal) ≠ 0 := by
        have : a * (127 : ℝ)⁻¹ ≠ 0 := by positivity
        exact_mod_cast this
      have hl : (b : EReal) * (((127 : ℝ) : EReal) * (a : EReal)⁻¹) = ((b * (a * (127 : ℝ)⁻¹)⁻¹ : ℝ) : EReal) := by
        rw [← EReal.coe_inv, ← EReal.coe_mul, ← EReal.coe_mul]
        congr 1
        field_simp
      have hr : Ideal.div (b : EReal) ((a * (127 : ℝ)⁻¹ : ℝ) : EReal) = ((b * (a * (127 : ℝ)⁻¹)⁻¹ : ℝ) : EReal) := by
        rw [Ideal.div, if_neg hsn, ← EReal.coe_inv, ← EReal.coe_mul]
      have hn := roundHalfEven_nonneg (r := b * (a * (127 : ℝ)⁻¹)⁻¹) (by positivity)
      rw [hd, hk, hdr, hl, hr, Ideal.liftRound_coe, min_comm, max_eq_right]
      have : (-127 : ℝ) ≤ ((Ideal.roundHalfEven (b * (a * (127 : ℝ)⁻¹)⁻¹) : ℤ) : ℝ) := by
        have : (0 : ℝ) ≤ ((Ideal.roundHalfEven (b * (a * (127 : ℝ)⁻¹)⁻¹) : ℤ) : ℝ) := by exact_mod_cast hn
        linarith
      exact_mod_cast this

/-- An entry of the rectified product of `v` and `w`. -/
def rp {M K N : ℕ} {φ₁ φ₂ : FTy} (v : FVec Ideal ⟨2, ![M, K]⟩ φ₁) (w : FVec Ideal ⟨2, ![K, N]⟩ φ₂) (r : Fin M) (c : Fin N) : EReal :=
  max (∑ k : Fin K, (v (ix2 r k) : EReal) * (w (ix2 k c) : EReal)) 0

theorem rp_nonneg {M K N : ℕ} {φ₁ φ₂ : FTy} (v : FVec Ideal ⟨2, ![M, K]⟩ φ₁) (w : FVec Ideal ⟨2, ![K, N]⟩ φ₂) (r : Fin M) (c : Fin N) :
    0 ≤ rp v w r c := le_max_right _ _

end Cert.KernelIdealProof

end
-- ==== Proof.KVal.lean ====
/-
The kernel's values over the extended reals, entry by entry: the rectified product as a sum, and a device's maximum by what
lies above it.
-/
module

public import proofs.«01_k».proof.Proof.KISched
public import proofs.«01_k».proof.Proof.KVScalar
public import Idealize.ShloMosaic.Lib.MatmulPlain

@[expose] public section

noncomputable section

namespace Cert.KernelIdealProof

open Cert.KernelIdeal Cert.KernelIdeal.Gen

open Idealize.ShloMosaic
open Idealize.ShloMosaic.TcCoe
open Idealize.SL.Sem
open Idealize.ShloMosaic.ValueIdx

theorem matmul_plain_zero {M K N : ℕ} {φ₁ φ₂ : FTy} (v : FVec Ideal ⟨2, ![M, K]⟩ φ₁) (w : FVec Ideal ⟨2, ![K, N]⟩ φ₂)
    (r : Fin M) (c : Fin N) :
    FloatOps.maximumf (FloatOps.matmul (DotDims.plain M K N) none v w (constant ⟨2, ![M, N]⟩ .f32 0x00000000#32) (ix2 r c))
      (FloatOps.ofBits (F := Ideal) .f32 0x00000000#32) = rp v w r c := by
  rw [Ideal.matmul_plain_apply]
  show max (Ideal.ofBits .f32 0x00000000#32 + _) (Ideal.ofBits .f32 0x00000000#32) = _
  rw [Ideal.ofBits_zero_f32, zero_add]
  rfl

theorem zz_apply (v : FVec Ideal S128x4096 .bf16) (w : FVec Ideal S4096x1024 .bf16) (r : Fin 128) (c : Fin 1024) :
    zz v w (ix2 r c) = rp v w r c := matmul_plain_zero (M := 128) (K := 4096) (N := 1024) v w r c

theorem pay20_apply (v : FVec Ideal S512x4096 .bf16) (w : FVec Ideal S4096x1024 .bf16) (r : Fin 512) (c : Fin 1024) :
    k0_pay20 (F := Ideal) v w (ix2 r c) = rp v w r c := by
  unfold k0_pay20
  rw [shapeCast_self]
  exact matmul_plain_zero (M := 512) (K := 4096) (N := 1024) v w r c

/-- A maximum over a whole array is below `B` exactly when every entry is. -/
theorem redMax_le {s : Shape} {d : Fin 3 → ℕ} {axes : List (Fin 3)} (z : FVec Ideal s .f32) (hc : s.ShapeCasts ⟨3, d⟩)
    (hr : Shape.Reduces ⟨3, d⟩ axes S1) (B : EReal) :
    (extractAt ![0, 0, 0] (shapeCast S1x1x1 (multiReduction .maximumf axes S1 (shapeCast ⟨3, d⟩ z hc)
      0xFF800000#32 hr (.inl rfl) rfl) shapeCasts_S1_S1x1x1) inpos_S1x1x1_p0_0_0 : EReal) ≤ B ↔ ∀ i, (z i : EReal) ≤ B := by
  have hs : ∀ a b : S1.Idx, a = b := fun a b => funext fun x => Fin.ext (by
    have h : ∀ (y : Fin S1.rank), S1.size y = 1 := by decide
    have ha : (a x).val < 1 := lt_of_lt_of_eq (a x).isLt (h x)
    have hb : (b x).val < 1 := lt_of_lt_of_eq (b x).isLt (h x)
    omega)
  have e := multiReduction_maximumf_eq_fold (F := Ideal) (shapeCast ⟨3, d⟩ z hc) 0xFF800000#32 hr (.inl rfl) rfl
    (Shape.reshapeEquiv shapeCasts_S1_S1x1x1 fun a => ⟨(![0, 0, 0] : Fin 3 → ℕ) a, inpos_S1x1x1_p0_0_0 a⟩)
  refine (iff_of_eq (congrArg (fun y : EReal => y ≤ B) e)).trans ?_
  show Finset.fold max _ _ _ ≤ B ↔ _
  rw [Finset.fold_max_le]
  have hbot : (Ideal.ofBits .f32 0xFF800000#32 : EReal) = ⊥ := by simp [Ideal.ofBits, Ideal.ieee]
  constructor
  · intro h i
    have := h.2 ((Shape.reshapeEquiv hc).symm i) (Finset.mem_filter.mpr ⟨Finset.mem_univ _, hs _ _⟩)
    change (z (Shape.reshapeEquiv hc ((Shape.reshapeEquiv hc).symm i)) : EReal) ≤ B at this
    rwa [Equiv.apply_symm_apply] at this
  · intro h
    exact ⟨by show (Ideal.ofBits .f32 0xFF800000#32 : EReal) ≤ B; rw [hbot]; exact bot_le, fun i _ => h _⟩

variable (m : (ℓ : Loc nD τ sig) → Buf (Elt Ideal) ℓ)

theorem bmax_le (z : FVec Ideal S128x1024 .f32) (B : EReal) : (bmax z : EReal) ≤ B ↔ ∀ i, (z i : EReal) ≤ B := redMax_le z _ _ B

theorem acc_le (c : Dev nD) (B : EReal) : ∀ L : List Msg, (acc m c L : EReal) ≤ B ↔
    (∀ i, (zOwn m c i : EReal) ≤ B) ∧ ∀ M ∈ L, ∀ i, (zB m c M i : EReal) ≤ B
  | [] => by
    have h : (acc m c [] : EReal) ≤ B ↔ ∀ i, (zOwn m c i : EReal) ≤ B := redMax_le (zOwn m c) shapeCasts_S512x1024_S1x512x1024 reduces_S1x512x1024_S1 B
    simpa using h
  | M :: L => by
    have h : (acc m c (M :: L) : EReal) = max (acc m c L) (bmax (zB m c M)) := rfl
    rw [h, max_le_iff, acc_le c B L, bmax_le]
    simp only [List.mem_cons, forall_eq_or_imp]
    tauto

/-- The maximum of all the devices' maxima. -/
theorem pay113_le (B : EReal) : (k0_pay113 (amx m) : EReal) ≤ B ↔ ∀ d : Dev nD, (acc m d mulOrder : EReal) ≤ B := by
  have h : (k0_pay113 (amx m) : EReal) ≤ B ↔ ∀ i, (amx m i : EReal) ≤ B := redMax_le (amx m) shapeCasts_S8x128_S1x8x128 reduces_S1x8x128_S1 B
  rw [h]
  exact ⟨fun h d => h (ix2 (d : Fin 8) (0 : Fin 128)), fun h i => h (i 0)⟩

end Cert.KernelIdealProof

end
-- ==== Proof.KVRef.lean ====
/-
The reference's value over the extended reals, entry by entry.
-/
module

public import proofs.«01_k».proof.Proof.Gen.ReferenceIdeal.Run
public import proofs.«01_k».proof.Proof.KVScalar
public import Idealize.ShloMosaic.Lib.StackMember

@[expose] public section

noncomputable section

namespace Cert.ReferenceIdeal.Value

open Cert.ReferenceIdeal Cert.ReferenceIdeal.Gen Idealize.ShloMosaic Idealize.ShloMosaic.ValueIdx
open Cert.KernelIdealProof (rp rp_nonneg)

variable (x : FVec Ideal S4096x4096 .bf16) (w : FVec Ideal S4096x8192 .f32)

/-- The rectified product. -/
def refY : FVec Ideal S4096x8192 .f32 :=
  maximumf (Host.dotGeneral dot_S4096x4096_S4096x8192_S4096x8192_1_0_0_1_n_n none (extf .f32 x bitsLt_bf16_f32) w)
    (broadcastInDim S4096x8192 ![] bcast_S_S4096x8192 (constant S_ .f32 0x00000000#32))

/-- Its greatest absolute value. -/
def refM : FVec Ideal S_ .f32 :=
  Host.reduce FloatOps.maximumf (Host.absf (refY x w)) (constant S_ .f32 0xFF800000#32) reducesTo_S4096x8192_S_d0_1 h_S_

/-- The scale. -/
def refS : FVec Ideal S_ .f32 := Host.divf (refM x w) (constant S_ .f32 0x42FE0000#32)

/-- The result. -/
def refV : FVec Ideal S4096x8192 .f32 :=
  mulf (minimumf (broadcastInDim S4096x8192 ![] bcast_S_S4096x8192 (id (constant S_ .f32 0x42FE0000#32)))
    (maximumf (broadcastInDim S4096x8192 ![] bcast_S_S4096x8192 (id (constant S_ .f32 0xC2FE0000#32)))
      (Host.roundeven (Host.divf (refY x w) (broadcastInDim S4096x8192 ![] bcast_S_S4096x8192 (refS x w))))))
    (broadcastInDim S4096x8192 ![] bcast_S_S4096x8192 (refS x w))

theorem lit_127 : (Ideal.ofBits .f32 0x42FE0000#32 : EReal) = ((127 : ℝ) : EReal) := by
  simp [Ideal.ofBits, Ideal.ieee]
  norm_num
  rw [← EReal.coe_mul]
  norm_num

theorem lit_m127 : (Ideal.ofBits .f32 0xC2FE0000#32 : EReal) = ((-127 : ℝ) : EReal) := by
  simp [Ideal.ofBits, Ideal.ieee]
  norm_num
  rw [← EReal.coe_mul]
  norm_num

theorem refY_apply (r : Fin 4096) (c : Fin 8192) : (refY x w (ix2 r c) : EReal) = rp x w r c := by
  show max (Host.dotGeneral (DotDims.plain 4096 4096 8192) none (extf .f32 x bitsLt_bf16_f32) w (ix2 r c) : EReal)
    (Ideal.ofBits .f32 0x00000000#32) = _
  rw [Ideal.ofBits_zero_f32, StackMember.dotGeneral_plain_apply]
  rfl

/-- The greatest absolute value is below `B` exactly when every entry is. -/
theorem refM_le (j : S_.Idx) (B : EReal) : (refM x w j : EReal) ≤ B ↔ ∀ r c, rp x w r c ≤ B := by
  have hs : ∀ a b : S_.Idx, a = b := fun a b => funext fun x => x.elim0
  have hbot : (Ideal.ofBits .f32 0xFF800000#32 : EReal) = ⊥ := by simp [Ideal.ofBits, Ideal.ieee]
  have e := Host.reduce_eq_fold (FloatOps.maximumf (F := Ideal) (φ := .f32)) (Host.absf (refY x w)) (constant S_ .f32 0xFF800000#32)
    reducesTo_S4096x8192_S_d0_1 h_S_ j
  refine (iff_of_eq (congrArg (fun y : EReal => y ≤ B) e)).trans ?_
  show Finset.fold max _ _ _ ≤ B ↔ _
  rw [Finset.fold_max_le]
  have habs : ∀ r c, (Host.absf (refY x w) (ix2 r c) : EReal) = rp x w r c := fun r c => by
    show max (refY x w (ix2 r c) : EReal) (-(refY x w (ix2 r c) : EReal)) = _
    rw [refY_apply]
    have h := rp_nonneg x w r c
    exact max_eq_left ((EReal.neg_le_neg_iff.mpr h).trans (by rw [neg_zero]; exact h))
  constructor
  · intro h r c
    have := h.2 (ix2 r c) (Finset.mem_filter.mpr ⟨Finset.mem_univ _, hs _ _⟩)
    change (Host.absf (refY x w) (ix2 r c) : EReal) ≤ B at this
    rwa [habs] at this
  · intro h
    refine ⟨by show (Ideal.ofBits .f32 0xFF800000#32 : EReal) ≤ B; rw [hbot]; exact bot_le, fun i _ => ?_⟩
    show (Host.absf (refY x w) i : EReal) ≤ B
    exact (le_of_eq ((congrArg (fun k : S4096x8192.Idx => (Host.absf (refY x w) k : EReal)) (eq_ix2 i)).trans (habs (i 0) (i 1)))).trans (h _ _)

/-- An entry of the result, the greatest value being `g`. -/
theorem refV_apply {g : EReal} (hg : ∀ j, (refM x w j : EReal) = g) (r : Fin 4096) (c : Fin 8192) : (refV x w (ix2 r c) : EReal)
    = min ((127 : ℝ) : EReal) (max ((-127 : ℝ) : EReal) (Ideal.liftRound Ideal.roundHalfEven
        (Ideal.div (rp x w r c) (Ideal.div g ((127 : ℝ) : EReal))))) * Ideal.div g ((127 : ℝ) : EReal) := by
  have hS : ∀ j, (refS x w j : EReal) = Ideal.div g ((127 : ℝ) : EReal) := fun j => by
    show Ideal.div (refM x w j) (Ideal.ofBits .f32 0x42FE0000#32) = _
    rw [hg, lit_127]
  have hB : ∀ i, (broadcastInDim S4096x8192 ![] bcast_S_S4096x8192 (refS x w) i : EReal) = Ideal.div g ((127 : ℝ) : EReal) := fun i => hS _
  show min (Ideal.ofBits .f32 0x42FE0000#32 : EReal) (max (Ideal.ofBits .f32 0xC2FE0000#32) (Ideal.liftRound Ideal.roundHalfEven
    (Ideal.div (refY x w (ix2 r c)) (broadcastInDim S4096x8192 ![] bcast_S_S4096x8192 (refS x w) (ix2 r c)))))
    * (broadcastInDim S4096x8192 ![] bcast_S_S4096x8192 (refS x w) (ix2 r c) : EReal) = _
  rw [hB, refY_apply, lit_127, lit_m127]

end Cert.ReferenceIdeal.Value

end
-- ==== Proof.KVEq.lean ====
/-
The kernel's result over the extended reals, each device's block of the reference's.
-/
module

public import proofs.«01_k».proof.Proof.KVal
public import proofs.«01_k».proof.Proof.KVRef

@[expose] public section

noncomputable section

namespace Cert.KernelIdealProof

open Cert.KernelIdeal Cert.KernelIdeal.Gen

open Idealize.ShloMosaic
open Idealize.ShloMosaic.TcCoe
open Idealize.SL.Sem
open Idealize.ShloMosaic.ValueIdx
open Cert.ReferenceIdeal.Value (refM refM_le refV refV_apply lit_127)

variable (m : (ℓ : Loc nD τ sig) → Buf (Elt Ideal) ℓ)
variable (x : FVec Ideal ⟨2, ![4096, 4096]⟩ .bf16) (w : FVec Ideal ⟨2, ![4096, 8192]⟩ .f32)

/-- Device `o`'s row `r` among all the rows, -/
def rowN (o : Fin 8) (r : Fin 512) : Fin 4096 := ⟨512 * o.val + r.val, by omega⟩
/-- row `r` of its quarter `q`, -/
def rowQ (o : Fin 8) (q : Fin 4) (r : Fin 128) : Fin 4096 := ⟨512 * o.val + (128 * q.val + r.val), by omega⟩
/-- and device `c`'s column `j` among all the columns. -/
def colN (c : Fin 8) (j : Fin 1024) : Fin 8192 := ⟨1024 * c.val + j.val, by omega⟩

/-- The devices hold their rows of `x` and their columns of `w`. -/
structure Agree : Prop where
  hx : ∀ (o : Fin 8) (r : Fin 512) (k : Fin 4096), (X m o (ix2 r k) : EReal) = x (ix2 (rowN o r) k)
  hw : ∀ (c : Fin 8) (k : Fin 4096) (j : Fin 1024), (Wf m c (ix2 k j) : EReal) = w (ix2 k (colN c j))

variable {m x w} (ha : Agree m x w)

include ha

theorem zOwn_eq (c : Fin 8) (r : Fin 512) (j : Fin 1024) : (zOwn m c (ix2 r j) : EReal) = rp x w (rowN c r) (colN c j) := by
  refine (pay20_apply (X m c) (wbV m c) r j).trans ?_
  exact congrArg (fun s : EReal => max s 0) (Finset.sum_congr rfl fun k _ => congrArg₂ (fun a b : EReal => a * b) (ha.hx c r k) (ha.hw c k j))

theorem zz_eq (c o : Fin 8) (q : Fin 4) (r : Fin 128) (j : Fin 1024) :
    (zz (xq m o q) (wbV m c) (ix2 r j) : EReal) = rp x w (rowQ o q r) (colN c j) := by
  refine (zz_apply (xq m o q) (wbV m c) r j).trans ?_
  exact congrArg (fun s : EReal => max s 0) (Finset.sum_congr rfl fun k _ => congrArg₂ (fun a b : EReal => a * b)
    (ha.hx o ⟨128 * q.val + r.val, by omega⟩ k) (ha.hw c k j))

theorem yC_eq (c : Fin 8) (n : Fin 4096) (j : Fin 1024) : (yC m c (ix2 n j) : EReal) = rp x w n (colN c j) := by
  have hn := n.isLt
  unfold yC
  by_cases h : n.val / 512 = c.val
  · refine (if_pos h).trans ((zOwn_eq ha c _ j).trans ?_)
    congr 1
    apply Fin.ext
    show 512 * c.val + n.val % 512 = n.val
    omega
  · refine (if_neg h).trans ((zz_eq ha c _ _ _ j).trans ?_)
    congr 1
    apply Fin.ext
    show 512 * (n.val / 512) + (128 * (n.val % 512 / 128) + n.val % 128) = n.val
    omega

omit ha in
/-- Every quarter of every other device is multiplied. -/
theorem some_msg : ∀ (c o : Dev nD) (q : Fin 4), o ≠ c → ∃ M ∈ mulOrder, org M c = o ∧ quart M = q := by decide

omit ha in
theorem yC_le {c : Fin 8} {B : EReal} (h0 : ∀ i, (zOwn m c i : EReal) ≤ B) (h1 : ∀ M ∈ mulOrder, ∀ i, (zB m c M i : EReal) ≤ B)
    (i : S4096x1024.Idx) : (yC m c i : EReal) ≤ B := by
  have hn : (i 0).val < 4096 := (i 0).isLt
  unfold yC
  by_cases h : (i 0).val / 512 = c.val
  · exact (le_of_eq (if_pos h)).trans (h0 _)
  · refine (le_of_eq (if_neg h)).trans ?_
    obtain ⟨M, hM, ho, hq⟩ := some_msg c (⟨(i 0).val / 512, by show _ < 8; omega⟩ : Fin 8) (⟨(i 0).val % 512 / 128, by omega⟩ : Fin 4)
      (fun e => h (congrArg Fin.val e))
    have := h1 M hM (ix2 (⟨(i 0).val % 128, Nat.mod_lt _ (by decide)⟩ : Fin 128) (i 1))
    unfold zB at this
    rw [ho, hq] at this
    exact this

/-- The maximum the kernel divides by is below `B` exactly when every entry is. -/
theorem gmax_le (B : EReal) : (k0_pay113 (amx m) : EReal) ≤ B ↔ ∀ r c, rp x w r c ≤ B := by
  rw [pay113_le]
  constructor
  · intro h r c
    have hc := c.isLt
    obtain ⟨h0, h1⟩ := (acc_le m (⟨c.val / 1024, by show _ < 8; omega⟩ : Fin 8) B mulOrder).mp (h _)
    have := yC_le h0 h1 (ix2 r (⟨c.val % 1024, Nat.mod_lt _ (by decide)⟩ : Fin 1024))
    refine (le_of_eq ?_).trans this
    refine Eq.trans ?_ (yC_eq ha _ r _).symm
    congr 1
    apply Fin.ext
    show c.val = 1024 * (c.val / 1024) + c.val % 1024
    omega
  · intro h d
    refine (acc_le m d B mulOrder).mpr ⟨fun i => ?_, fun M _ i => ?_⟩
    · rw [show i = ix2 (i 0 : Fin 512) (i 1 : Fin 1024) from eq_ix2 i]
      exact (le_of_eq (zOwn_eq ha d _ _)).trans (h _ _)
    · rw [show i = ix2 (i 0 : Fin 128) (i 1 : Fin 1024) from eq_ix2 i]
      exact (le_of_eq (zz_eq ha d (org M d) (quart M) _ _)).trans (h _ _)

theorem gmax_eq (j) : (refM x w j : EReal) = k0_pay113 (amx m) :=
  le_antisymm ((refM_le x w j _).mpr ((gmax_le ha _).mp le_rfl)) ((gmax_le ha _).mpr ((refM_le x w j _).mp le_rfl))

omit ha in
theorem pay117_apply (s t : Ideal .f32) (y : FVec Ideal S512x1024 .f32) (r : Fin 512) (j : Fin 1024) :
    (k0_pay117 s t y (ix2 r j) : EReal)
      = min (Ideal.liftRound Ideal.roundHalfEven ((y (ix2 r j) : EReal) * t)) (Ideal.ofBits .f32 0x42FE0000#32) * s := by
  unfold k0_pay117
  rw [shapeCast_self]
  rfl

omit ha in
theorem pay114_eq (a : Vec Ideal S8x128 .f32) : (k0_pay114 a : EReal) = Ideal.div (k0_pay113 a) (Ideal.ofBits .f32 0x42FE0000#32) := by
  unfold k0_pay114
  rfl

omit ha in
theorem pay115_eq (a : Vec Ideal S8x128 .f32) : (k0_pay115 a : EReal) = Ideal.div (Ideal.ofBits .f32 0x42FE0000#32) (k0_pay113 a) := by
  unfold k0_pay115
  exact Ideal.scalar_divf_def _ _

/-- The kernel's entry and the reference's. -/
theorem resC_eq (c : Fin 8) (n : Fin 4096) (j : Fin 1024) : (resC m c (ix2 n j) : EReal) = refV x w (ix2 n (colN c j)) := by
  have hn := n.isLt
  have hy : (yB m c ⟨n.val / 512, by omega⟩ (ix2 (⟨n.val % 512, Nat.mod_lt _ (by decide)⟩ : Fin 512) j) : EReal) = rp x w n (colN c j) := by
    have hr : (⟨512 * (n.val / 512) + n.val % 512, by omega⟩ : Fin 4096) = n := Fin.ext (by
      show 512 * (n.val / 512) + n.val % 512 = n.val
      omega)
    exact (congrArg (fun k : Fin 4096 => (yC m c (ix2 k j) : EReal)) hr).trans (yC_eq ha c n j)
  have hq : (resC m c (ix2 n j) : EReal) = k0_pay117 (k0_pay114 (amx m)) (k0_pay115 (amx m)) (yB m c ⟨n.val / 512, by omega⟩)
      (ix2 (⟨n.val % 512, Nat.mod_lt _ (by decide)⟩ : Fin 512) j) := by
    unfold resC qB
    rfl
  rw [hq, pay117_apply, hy, pay114_eq, pay115_eq, lit_127, refV_apply x w (gmax_eq ha)]
  exact quant_eq _ _ (rp_nonneg ..) ((gmax_le ha _).mp le_rfl _ _)

end Cert.KernelIdealProof

end
-- ==== Proof.KVAgree.lean ====
/-
The value claim: from memories that hold the blocks of the reference's arguments, the kernel leaves the blocks of the
reference's result.
-/
module

public import proofs.«01_k».proof.Defs
public import proofs.«01_k».proof.Proof.Gen.KernelIdeal
public import proofs.«01_k».proof.Proof.Gen.ReferenceIdeal
public import proofs.«01_k».proof.Proof.KILaunch
public import proofs.«01_k».proof.Proof.KVEq
public import Idealize.ShloMosaic.Lib.StableHlo.RunHlo

@[expose] public section

noncomputable section

namespace Cert.KernelIdealProof

open Cert.KernelIdeal Cert.KernelIdeal.Gen

open Idealize.ShloMosaic
open Idealize.ShloMosaic.TcCoe
open Idealize.SL.Sem
open Idealize.ShloMosaic.ValueIdx
open Cert.ReferenceIdeal.Value (refV)

/-- The staged rows are the argument. -/
theorem X_eq {F : FTy → Type} [FloatOps F] (m : (ℓ : Loc nD τ sig) → Buf (Elt F) ℓ) (o : Dev nD) :
    X m o = m ((o : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

variable (m : (ℓ : Loc nD τ sig) → Buf (Elt Ideal) ℓ)
variable (x : FVec Ideal ⟨2, ![4096, 4096]⟩ .bf16) (w : FVec Ideal ⟨2, ![4096, 8192]⟩ .f32)

/-- What the claim supposes of the arguments, by entries. -/
theorem agree_of (h : ∀ c : Dev nD, m ((c.tc : Thread nD τ).loc main_arg0) = Layout.block ⟨2, ![512, 4096]⟩ ⟨2, ![4096, 4096]⟩ 0 8 c x
    ∧ m ((c.tc : Thread nD τ).loc main_arg1) = Layout.block ⟨2, ![4096, 1024]⟩ ⟨2, ![4096, 8192]⟩ 1 8 c w) : Agree m x w where
  hx o r k := by
    refine (congrFun ((X_eq m o).trans (h o).1) (ix2 r k)).trans (congrArg x (funext fun a => Fin.ext ?_))
    match a with
    | ⟨0, _⟩ => show o.val * 512 + r.val = 512 * o.val + r.val; omega
    | ⟨1, _⟩ => rfl
  hw c k j := by
    refine (congrFun (h c).2 (ix2 k j)).trans (congrArg w (funext fun a => Fin.ext ?_))
    match a with
    | ⟨0, _⟩ => rfl
    | ⟨1, _⟩ => show c.val * 1024 + j.val = 1024 * c.val + j.val; omega

variable {m x w}

/-- Each device's result is its block of the reference's. -/
theorem resC_block (ha : Agree m x w) (c : Dev nD) :
    resC m c = Layout.block ⟨2, ![4096, 1024]⟩ ⟨2, ![4096, 8192]⟩ 1 8 c (refV x w) := by
  funext i
  rw [show i = ix2 (i 0 : Fin 4096) (i 1 : Fin 1024) from eq_ix2 i]
  refine (resC_eq ha c _ _).trans (congrArg (refV x w) (funext fun a => Fin.ext ?_))
  match a with
  | ⟨0, _⟩ => rfl
  | ⟨1, _⟩ => show 1024 * c.val + (i 1).val = c.val * 1024 + (i 1).val; omega

theorem algebraic : algebraic_KernelIdeal_ReferenceIdeal := fun m g m' g' _ hag =>
  ⟨refV (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    θ_run_mono (run_main (F := Ideal) m g) fun r h c => by
      obtain ⟨h0, h1, h2⟩ := h.1 c
      exact ⟨h2.trans (resC_block (agree_of m _ _ hag) c), h0, h1⟩,
    θ_run_mono (Cert.ReferenceIdeal.Value.run (F := Ideal) m' g') fun r h => h 0⟩

end Cert.KernelIdealProof

end
-- ==== Proof.lean ====
/- The claim: the kernel, as it is and read over the extended reals, and the reference end, leave their arguments as they were
   and every semaphore at zero; and over the extended reals the kernel's devices end with the blocks of the reference's result. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KITransfer
public import proofs.«01_k».proof.Proof.KVAgree
public import Idealize.ShloMosaic.Adequacy
public import Idealize.ShloMosaic.Init

@[expose] public section

noncomputable section

namespace Cert.Proof

open Idealize.ShloMosaic Idealize.SL.Sem

/-- The reference runs, its arguments unchanged; it has no semaphore. -/
theorem frame_reference : Cert.quiescent_ReferenceIdeal := fun m g _ =>
  θ_run_mono (Cert.ReferenceIdeal.Value.run (F := Ideal) m g) fun r h =>
    ⟨fun c => (h c).2, sem_eq_zero_of_no_sems (by decide) r.2⟩

theorem claim : Cert.Claim := ⟨Cert.Kernel.Gen.facts, Cert.KernelIdeal.Gen.facts, Cert.ReferenceIdeal.Gen.facts,
  Cert.KernelIdealProof.frame_kernel, Cert.KernelIdealProof.frame_ideal, frame_reference, trivial, Cert.KernelIdealProof.algebraic⟩

end Cert.Proof

end
